-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v86)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v86) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v77) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v260) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v11) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v61) = v0 c
          ∧ r.2.mem ((c.tc : Thread Cert.InProjRefIdeal.nD Cert.InProjRefIdeal.τ).loc Cert.InProjRefIdeal.main_v62) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)) →
    ∃ (v0 : (c : Dev Cert.MixOutIdeal.nD) → Buf (Elt Ideal) ((c.tc : Thread Cert.MixOutIdeal.nD Cert.MixOutIdeal.τ).loc Cert.MixOutIdeal.main_v9)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v9) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v120) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hScan : Cert.Scan.Facts) (hScanIdeal : Cert.ScanIdeal.Facts) (hScanRefIdeal : Cert.ScanRefIdeal.Facts) (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hNorm : Cert.Norm.Facts) (hNormIdeal : Cert.NormIdeal.Facts) (hNormRefIdeal : Cert.NormRefIdeal.Facts),
    quiescent_Scan (hScan := hScan)
    ∧ quiescent_ScanIdeal (hScanIdeal := hScanIdeal)
    ∧ quiescent_ScanRefIdeal (hScanRefIdeal := hScanRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Norm (hNorm := hNorm)
    ∧ quiescent_NormIdeal (hNormIdeal := hNormIdeal)
    ∧ quiescent_NormRefIdeal (hNormRefIdeal := hNormRefIdeal)
    ∧ preserves_Scan_ScanIdeal
    ∧ algebraic_ScanIdeal_ScanRefIdeal (hScanIdeal := hScanIdeal) (hScanRefIdeal := hScanRefIdeal)
    ∧ preserves_Experts_ExpertsIdeal
    ∧ algebraic_ExpertsIdeal_ExpertsRefIdeal (hExpertsIdeal := hExpertsIdeal) (hExpertsRefIdeal := hExpertsRefIdeal)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal (hMixOutIdeal := hMixOutIdeal) (hMixOutRefIdeal := hMixOutRefIdeal)
    ∧ preserves_Norm_NormIdeal
    ∧ algebraic_NormIdeal_NormRefIdeal (hNormIdeal := hNormIdeal) (hNormRefIdeal := hNormRefIdeal)
-- ==== Scan.lean ====
abbrev S32x2304x3072 : Shape := ⟨3, ![32, 2304, 3072]⟩
abbrev S32x2304x128 : Shape := ⟨3, ![32, 2304, 128]⟩
abbrev S32x18x1x128 : Shape := ⟨4, ![32, 18, 1, 128]⟩
abbrev S48 : Shape := ⟨1, ![48]⟩
abbrev S48x1 : Shape := ⟨2, ![48, 1]⟩
abbrev S1024 : Shape := ⟨1, ![1024]⟩
abbrev S1x1024 : Shape := ⟨2, ![1, 1024]⟩
abbrev S_ : Shape := ⟨0, ![]⟩
abbrev S48x1024 : Shape := ⟨2, ![48, 1024]⟩
abbrev S1x48x1024 : Shape := ⟨3, ![1, 48, 1024]⟩
abbrev S2x48x1024 : Shape := ⟨3, ![2, 48, 1024]⟩
abbrev S32x2304x64 : Shape := ⟨3, ![32, 2304, 64]⟩
abbrev S32x2304x2x4x8 : Shape := ⟨5, ![32, 2304, 2, 4, 8]⟩
abbrev S32x2304x2x1x4x8 : Shape := ⟨6, ![32, 2304, 2, 1, 4, 8]⟩
abbrev S32x2304x2x3x4x8 : Shape := ⟨6, ![32, 2304, 2, 3, 4, 8]⟩
abbrev S32x4x2304x2x3x8 : Shape := ⟨6, ![32, 4, 2304, 2, 3, 8]⟩
abbrev S32x4x2304x48 : Shape := ⟨4, ![32, 4, 2304, 48]⟩
abbrev S32x2304x2x2x4x8 : Shape := ⟨6, ![32, 2304, 2, 2, 4, 8]⟩
abbrev S32x18x128x2x2x4x8 : Shape := ⟨7, ![32, 18, 128, 2, 2, 4, 8]⟩
abbrev S32x4x2x2x18x8x128 : Shape := ⟨7, ![32, 4, 2, 2, 18, 8, 128]⟩
abbrev S32x18x1x64 : Shape := ⟨4, ![32, 18, 1, 64]⟩
abbrev S32x18x64 : Shape := ⟨3, ![32, 18, 64]⟩
abbrev S32x18x2x4x8 : Shape := ⟨5, ![32, 18, 2, 4, 8]⟩
abbrev S32x4x18x2x8 : Shape := ⟨5, ![32, 4, 18, 2, 8]⟩
abbrev S32x4x18x2x8x64 : Shape := ⟨6, ![32, 4, 18, 2, 8, 64]⟩
abbrev S32x4x18x2x512 : Shape := ⟨5, ![32, 4, 18, 2, 512]⟩
abbrev S32x2304x2048 : Shape := ⟨3, ![32, 2304, 2048]⟩
abbrev S1x2304x512 : Shape := ⟨3, ![1, 2304, 512]⟩
abbrev S1x2304x128 : Shape := ⟨3, ![1, 2304, 128]⟩
abbrev S1x1x2304x48 : Shape := ⟨4, ![1, 1, 2304, 48]⟩
abbrev S1x1x2x2x18x8x128 : Shape := ⟨7, ![1, 1, 2, 2, 18, 8, 128]⟩
abbrev S1x1x18x2x512 : Shape := ⟨5, ![1, 1, 18, 2, 512]⟩
abbrev S128x512 : Shape := ⟨2, ![128, 512]⟩
abbrev S2304x512 : Shape := ⟨2, ![2304, 512]⟩
abbrev S128x128 : Shape := ⟨2, ![128, 128]⟩
abbrev S1x128 : Shape := ⟨2, ![1, 128]⟩
abbrev S1x128x512 : Shape := ⟨3, ![1, 128, 512]⟩
abbrev S1x128x128 : Shape := ⟨3, ![1, 128, 128]⟩
abbrev S1x1x128x48 : Shape := ⟨4, ![1, 1, 128, 48]⟩
abbrev S128x48 : Shape := ⟨2, ![128, 48]⟩
abbrev S1x1x1x1x1x8x128 : Shape := ⟨7, ![1, 1, 1, 1, 1, 8, 128]⟩
abbrev S8x128 : Shape := ⟨2, ![8, 128]⟩
abbrev S128x1024 : Shape := ⟨2, ![128, 1024]⟩
abbrev S128x1 : Shape := ⟨2, ![128, 1]⟩
abbrev S256x128 : Shape := ⟨2, ![256, 128]⟩
abbrev S128x256 : Shape := ⟨2, ![128, 256]⟩
abbrev S1x1x1x1x512 : Shape := ⟨5, ![1, 1, 1, 1, 512]⟩
abbrev S1x512 : Shape := ⟨2, ![1, 512]⟩

abbrev nBuf : Space → Nat
  | .hbm => 289
  | .vmem => 18
  | .smem => 0
  | _ => 0

abbrev hbmTy0_0 (i : Nat) : BufTy := match i % 128 with
  | 0 => ⟨S32x2304x3072, .bf16⟩
  | 1 => ⟨S32x2304x128, .f32⟩
  | 2 => ⟨S32x2304x128, .f32⟩
  | 3 => ⟨S32x2304x128, .f32⟩
  | 4 => ⟨S32x2304x128, .f32⟩
  | 5 => ⟨S32x18x1x128, .f32⟩
  | 6 => ⟨S48, .i32⟩
  | 7 => ⟨S48x1, .i32⟩
  | 8 => ⟨S1024, .i32⟩
  | 9 => ⟨S1x1024, .i32⟩
  | 10 => ⟨S_, .i32⟩
  | 11 => ⟨S48x1, .i32⟩
  | 12 => ⟨S48x1, .i32⟩
  | 13 => ⟨S_, .i32⟩
  | 14 => ⟨S_, .i32⟩
  | 15 => ⟨S48x1, .i32⟩
  | 16 => ⟨S48x1, .i32⟩
  | 17 => ⟨S48x1, .i32⟩
  | 18 => ⟨S_, .i32⟩
  | 19 => ⟨S48x1, .i32⟩
  | 20 => ⟨S48x1, .i1⟩
  | 21 => ⟨S48x1, .i32⟩
  | 22 => ⟨S48x1, .i32⟩
  | 23 => ⟨S_, .i32⟩
  | 24 => ⟨S48x1, .i32⟩
  | 25 => ⟨S48x1, .i1⟩
  | 26 => ⟨S48x1, .i1⟩
  | 27 => ⟨S_, .i32⟩
  | 28 => ⟨S48x1, .i32⟩
  | 29 => ⟨S48x1, .i32⟩
  | 30 => ⟨S48x1, .i32⟩
  | 31 => ⟨S_, .i32⟩
  | 32 => ⟨S48x1, .i32⟩
  | 33 => ⟨S48x1, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S48x1, .i32⟩
  | 41 => ⟨S48x1, .i32⟩
  | 42 => ⟨S_, .i32⟩
  | 43 => ⟨S48x1, .i32⟩
  | 44 => ⟨S48x1, .i1⟩
  | 45 => ⟨S_, .i32⟩
  | 46 => ⟨S48x1, .i32⟩
  | 47 => ⟨S48x1, .i1⟩
  | 48 => ⟨S_, .i32⟩
  | 49 => ⟨S_, .i1⟩
  | 50 => ⟨S48x1, .i1⟩
  | 51 => ⟨S48x1, .i1⟩
  | 52 => ⟨S48x1, .i1⟩
  | 53 => ⟨S48x1, .i32⟩
  | 54 => ⟨S48x1, .i32⟩
  | 55 => ⟨S48x1, .i32⟩
  | 56 => ⟨S_, .i32⟩
  | 57 => ⟨S48x1, .i32⟩
  | 58 => ⟨S48x1, .i1⟩
  | 59 => ⟨S_, .i32⟩
  | 60 => ⟨S48x1, .i32⟩
  | 61 => ⟨S48x1, .i1⟩
  | 62 => ⟨S48x1, .i1⟩
  | 63 => ⟨S_, .i32⟩
  | 64 => ⟨S_, .i32⟩
  | 65 => ⟨S1x1024, .i32⟩
  | 66 => ⟨S1x1024, .i32⟩
  | 67 => ⟨S1x1024, .i32⟩
  | 68 => ⟨S_, .i32⟩
  | 69 => ⟨S1x1024, .i32⟩
  | 70 => ⟨S1x1024, .i1⟩
  | 71 => ⟨S1x1024, .i32⟩
  | 72 => ⟨S1x1024, .i32⟩
  | 73 => ⟨S_, .i32⟩
  | 74 => ⟨S1x1024, .i32⟩
  | 75 => ⟨S1x1024, .i1⟩
  | 76 => ⟨S1x1024, .i1⟩
  | 77 => ⟨S_, .i32⟩
  | 78 => ⟨S1x1024, .i32⟩
  | 79 => ⟨S1x1024, .i32⟩
  | 80 => ⟨S1x1024, .i32⟩
  | 81 => ⟨S_, .i32⟩
  | 82 => ⟨S48x1, .i32⟩
  | 83 => ⟨S48x1, .i32⟩
  | 84 => ⟨S48x1024, .i32⟩
  | 85 => ⟨S48x1024, .i32⟩
  | 86 => ⟨S48x1024, .i1⟩
  | 87 => ⟨S48x1024, .i1⟩
  | 88 => ⟨S48x1024, .i1⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S1x1024, .i32⟩
  | 96 => ⟨S1x1024, .i32⟩
  | 97 => ⟨S_, .i32⟩
  | 98 => ⟨S1x1024, .i32⟩
  | 99 => ⟨S1x1024, .i1⟩
  | 100 => ⟨S_, .i32⟩
  | 101 => ⟨S1x1024, .i32⟩
  | 102 => ⟨S1x1024, .i1⟩
  | 103 => ⟨S_, .i32⟩
  | 104 => ⟨S_, .i1⟩
  | 105 => ⟨S1x1024, .i1⟩
  | 106 => ⟨S1x1024, .i1⟩
  | 107 => ⟨S1x1024, .i1⟩
  | 108 => ⟨S1x1024, .i32⟩
  | 109 => ⟨S1x1024, .i32⟩
  | 110 => ⟨S1x1024, .i32⟩
  | 111 => ⟨S_, .i32⟩
  | 112 => ⟨S_, .i32⟩
  | 113 => ⟨S1x1024, .i32⟩
  | 114 => ⟨S1x1024, .i32⟩
  | 115 => ⟨S1x1024, .i32⟩
  | 116 => ⟨S_, .i32⟩
  | 117 => ⟨S1x1024, .i32⟩
  | 118 => ⟨S1x1024, .i1⟩
  | 119 => ⟨S1x1024, .i32⟩
  | 120 => ⟨S1x1024, .i32⟩
  | 121 => ⟨S_, .i32⟩
  | 122 => ⟨S1x1024, .i32⟩
  | 123 => ⟨S1x1024, .i1⟩
  | 124 => ⟨S1x1024, .i1⟩
  | 125 => ⟨S_, .i32⟩
  | 126 => ⟨S1x1024, .i32⟩
  | 127 => ⟨S1x1024, .i32⟩
  | _ => ⟨S32x2304x3072, .bf16⟩

abbrev hbmTy0_1 (i : Nat) : BufTy := match i % 128 with
  | 0 => ⟨S1x1024, .i32⟩
  | 1 => ⟨S48x1024, .i32⟩
  | 2 => ⟨S48x1024, .i32⟩
  | 3 => ⟨S48x1024, .i1⟩
  | 4 => ⟨S48x1024, .i1⟩
  | 5 => ⟨S48x1024, .bf16⟩
  | 6 => ⟨S_, .i32⟩
  | 7 => ⟨S48x1, .i32⟩
  | 8 => ⟨S48x1, .i32⟩
  | 9 => ⟨S_, .i32⟩
  | 10 => ⟨S_, .i32⟩
  | 11 => ⟨S48x1, .i32⟩
  | 12 => ⟨S48x1, .i32⟩
  | 13 => ⟨S48x1, .i32⟩
  | 14 => ⟨S_, .i32⟩
  | 15 => ⟨S48x1, .i32⟩
  | 16 => ⟨S48x1, .i1⟩
  | 17 => ⟨S48x1, .i32⟩
  | 18 => ⟨S48x1, .i32⟩
  | 19 => ⟨S_, .i32⟩
  | 20 => ⟨S48x1, .i32⟩
  | 21 => ⟨S48x1, .i1⟩
  | 22 => ⟨S48x1, .i1⟩
  | 23 => ⟨S_, .i32⟩
  | 24 => ⟨S48x1, .i32⟩
  | 25 => ⟨S48x1, .i32⟩
  | 26 => ⟨S48x1, .i32⟩
  | 27 => ⟨S_, .i32⟩
  | 28 => ⟨S48x1, .i32⟩
  | 29 => ⟨S48x1, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S48x1, .i32⟩
  | 37 => ⟨S48x1, .i32⟩
  | 38 => ⟨S_, .i32⟩
  | 39 => ⟨S48x1, .i32⟩
  | 40 => ⟨S48x1, .i1⟩
  | 41 => ⟨S_, .i32⟩
  | 42 => ⟨S48x1, .i32⟩
  | 43 => ⟨S48x1, .i1⟩
  | 44 => ⟨S_, .i32⟩
  | 45 => ⟨S_, .i1⟩
  | 46 => ⟨S48x1, .i1⟩
  | 47 => ⟨S48x1, .i1⟩
  | 48 => ⟨S48x1, .i1⟩
  | 49 => ⟨S48x1, .i32⟩
  | 50 => ⟨S48x1, .i32⟩
  | 51 => ⟨S48x1, .i32⟩
  | 52 => ⟨S_, .i32⟩
  | 53 => ⟨S48x1, .i32⟩
  | 54 => ⟨S48x1, .i1⟩
  | 55 => ⟨S_, .i32⟩
  | 56 => ⟨S48x1, .i32⟩
  | 57 => ⟨S48x1, .i1⟩
  | 58 => ⟨S48x1, .i1⟩
  | 59 => ⟨S_, .i32⟩
  | 60 => ⟨S_, .i32⟩
  | 61 => ⟨S1x1024, .i32⟩
  | 62 => ⟨S1x1024, .i32⟩
  | 63 => ⟨S1x1024, .i32⟩
  | 64 => ⟨S_, .i32⟩
  | 65 => ⟨S1x1024, .i32⟩
  | 66 => ⟨S1x1024, .i1⟩
  | 67 => ⟨S1x1024, .i32⟩
  | 68 => ⟨S1x1024, .i32⟩
  | 69 => ⟨S_, .i32⟩
  | 70 => ⟨S1x1024, .i32⟩
  | 71 => ⟨S1x1024, .i1⟩
  | 72 => ⟨S1x1024, .i1⟩
  | 73 => ⟨S_, .i32⟩
  | 74 => ⟨S1x1024, .i32⟩
  | 75 => ⟨S1x1024, .i32⟩
  | 76 => ⟨S1x1024, .i32⟩
  | 77 => ⟨S_, .i32⟩
  | 78 => ⟨S48x1, .i32⟩
  | 79 => ⟨S48x1, .i32⟩
  | 80 => ⟨S48x1024, .i32⟩
  | 81 => ⟨S48x1024, .i32⟩
  | 82 => ⟨S48x1024, .i1⟩
  | 83 => ⟨S48x1024, .i1⟩
  | 84 => ⟨S48x1024, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S1x1024, .i32⟩
  | 92 => ⟨S1x1024, .i32⟩
  | 93 => ⟨S_, .i32⟩
  | 94 => ⟨S1x1024, .i32⟩
  | 95 => ⟨S1x1024, .i1⟩
  | 96 => ⟨S_, .i32⟩
  | 97 => ⟨S1x1024, .i32⟩
  | 98 => ⟨S1x1024, .i1⟩
  | 99 => ⟨S_, .i32⟩
  | 100 => ⟨S_, .i1⟩
  | 101 => ⟨S1x1024, .i1⟩
  | 102 => ⟨S1x1024, .i1⟩
  | 103 => ⟨S1x1024, .i1⟩
  | 104 => ⟨S1x1024, .i32⟩
  | 105 => ⟨S1x1024, .i32⟩
  | 106 => ⟨S1x1024, .i32⟩
  | 107 => ⟨S_, .i32⟩
  | 108 => ⟨S_, .i32⟩
  | 109 => ⟨S1x1024, .i32⟩
  | 110 => ⟨S1x1024, .i32⟩
  | 111 => ⟨S1x1024, .i32⟩
  | 112 => ⟨S_, .i32⟩
  | 113 => ⟨S1x1024, .i32⟩
  | 114 => ⟨S1x1024, .i1⟩
  | 115 => ⟨S1x1024, .i32⟩
  | 116 => ⟨S1x1024, .i32⟩
  | 117 => ⟨S_, .i32⟩
  | 118 => ⟨S1x1024, .i32⟩
  | 119 => ⟨S1x1024, .i1⟩
  | 120 => ⟨S1x1024, .i1⟩
  | 121 => ⟨S_, .i32⟩
  | 122 => ⟨S1x1024, .i32⟩
  | 123 => ⟨S1x1024, .i32⟩
  | 124 => ⟨S1x1024, .i32⟩
  | 125 => ⟨S48x1024, .i32⟩
  | 126 => ⟨S48x1024, .i32⟩
  | 127 => ⟨S48x1024, .i1⟩
  | _ => ⟨S32x2304x3072, .bf16⟩

abbrev hbmTy0_2 (i : Nat) : BufTy := match i % 128 with
  | 0 => ⟨S48x1024, .i1⟩
  | 1 => ⟨S48x1024, .bf16⟩
  | 2 => ⟨S1x48x1024, .bf16⟩
  | 3 => ⟨S1x48x1024, .bf16⟩
  | 4 => ⟨S2x48x1024, .bf16⟩
  | 5 => ⟨S32x2304x64, .f32⟩
  | 6 => ⟨S32x2304x2x4x8, .f32⟩
  | 7 => ⟨S32x2304x64, .f32⟩
  | 8 => ⟨S32x2304x2x4x8, .f32⟩
  | 9 => ⟨S32x2304x64, .f32⟩
  | 10 => ⟨S32x2304x2x4x8, .f32⟩
  | 11 => ⟨S32x2304x2x1x4x8, .f32⟩
  | 12 => ⟨S32x2304x2x1x4x8, .f32⟩
  | 13 => ⟨S32x2304x2x1x4x8, .f32⟩
  | 14 => ⟨S32x2304x2x3x4x8, .f32⟩
  | 15 => ⟨S32x4x2304x2x3x8, .f32⟩
  | 16 => ⟨S32x4x2304x48, .f32⟩
  | 17 => ⟨S32x2304x64, .f32⟩
  | 18 => ⟨S32x2304x2x4x8, .f32⟩
  | 19 => ⟨S32x2304x64, .f32⟩
  | 20 => ⟨S32x2304x2x4x8, .f32⟩
  | 21 => ⟨S32x2304x2x1x4x8, .f32⟩
  | 22 => ⟨S32x2304x2x1x4x8, .f32⟩
  | 23 => ⟨S32x2304x2x2x4x8, .f32⟩
  | 24 => ⟨S32x18x128x2x2x4x8, .f32⟩
  | 25 => ⟨S32x4x2x2x18x8x128, .f32⟩
  | 26 => ⟨S32x18x1x64, .f32⟩
  | 27 => ⟨S32x18x64, .f32⟩
  | 28 => ⟨S32x18x2x4x8, .f32⟩
  | 29 => ⟨S32x4x18x2x8, .f32⟩
  | 30 => ⟨S32x4x18x2x8x64, .f32⟩
  | 31 => ⟨S32x4x18x2x512, .f32⟩
  | 32 => ⟨S32x2304x2048, .bf16⟩
  | _ => ⟨S32x2304x3072, .bf16⟩

abbrev hbmTy (i : Nat) : BufTy := match i / 128 with
  | 0 => hbmTy0_0 i
  | 1 => hbmTy0_1 i
  | 2 => hbmTy0_2 i
  | _ => ⟨S32x2304x3072, .bf16⟩

abbrev bufTy : (tb : Table) → Fin (tcTables nBuf tb) → BufTy
  | .hbm, ⟨i, _⟩ => hbmTy i
  | .local _ .vmem, ⟨0, _⟩ => ⟨S1x2304x512, .bf16⟩
  | .local _ .vmem, ⟨1, _⟩ => ⟨S1x2304x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x1x2304x48, .f32⟩
  | .local _ .vmem, ⟨7, _⟩ => ⟨S1x1x2304x48, .f32⟩
  | .local _ .vmem, ⟨8, _⟩ => ⟨S1x1x2x2x18x8x128, .f32⟩
  | .local _ .vmem, ⟨9, _⟩ => ⟨S1x1x2x2x18x8x128, .f32⟩
  | .local _ .vmem, ⟨10, _⟩ => ⟨S1x1x18x2x512, .f32⟩
  | .local _ .vmem, ⟨11, _⟩ => ⟨S1x1x18x2x512, .f32⟩
  | .local _ .vmem, ⟨12, _⟩ => ⟨S2x48x1024, .bf16⟩
  | .local _ .vmem, ⟨13, _⟩ => ⟨S1x2304x512, .bf16⟩
  | .local _ .vmem, ⟨14, _⟩ => ⟨S1x2304x512, .bf16⟩
  | .local _ .vmem, ⟨15, _⟩ => ⟨S128x512, .f32⟩
  | .local _ .vmem, ⟨16, _⟩ => ⟨S128x512, .f32⟩
  | .local _ .vmem, ⟨17, _⟩ => ⟨S2304x512, .f32⟩
  | _, _ => ⟨S32x2304x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v9 : Ref sig .tc := ⟨.hbm, 55, rfl⟩
abbrev main_c_3 : Ref sig .tc := ⟨.hbm, 56, rfl⟩
abbrev main_v10 : Ref sig .tc := ⟨.hbm, 57, rfl⟩
abbrev main_v11 : Ref sig .tc := ⟨.hbm, 58, rfl⟩
abbrev main_c_4 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_c_5 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v15 : Ref sig .tc := ⟨.hbm, 80, rfl⟩
abbrev main_c_6 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_c_7 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v23 : Ref sig .tc := ⟨.hbm, 110, rfl⟩
abbrev main_c_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_c : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_0 : Ref sig .tc := ⟨.hbm, 125, rfl⟩
abbrev main_call4_v12 : Ref sig .tc := ⟨.hbm, 126, rfl⟩
abbrev main_call4_v13 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_c_9 : Ref sig .tc := ⟨.hbm, 134, rfl⟩
abbrev main_v30 : Ref sig .tc := ⟨.hbm, 135, rfl⟩
abbrev main_v31 : Ref sig .tc := ⟨.hbm, 136, rfl⟩
abbrev main_c_10 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_c : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_c_0 : Ref sig .tc := ⟨.hbm, 151, rfl⟩
abbrev main_call5_v12 : Ref sig .tc := ⟨.hbm, 152, rfl⟩
abbrev main_call5_v13 : Ref sig .tc := ⟨.hbm, 153, rfl⟩
abbrev main_v32 : Ref sig .tc := ⟨.hbm, 154, rfl⟩
abbrev main_c_11 : Ref sig .tc := ⟨.hbm, 155, rfl⟩
abbrev main_v33 : Ref sig .tc := ⟨.hbm, 156, rfl⟩
abbrev main_v34 : Ref sig .tc := ⟨.hbm, 157, rfl⟩
abbrev main_c_12 : Ref sig .tc := ⟨.hbm, 158, rfl⟩
abbrev main_call6_v0 : Ref sig .tc := ⟨.hbm, 159, rfl⟩
abbrev main_call6_c : Ref sig .tc := ⟨.hbm, 160, rfl⟩
abbrev main_call6_v1 : Ref sig .tc := ⟨.hbm, 161, rfl⟩
abbrev main_call6_c_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_c_1 : Ref sig .tc := ⟨.hbm, 166, rfl⟩
abbrev main_call6_v5 : Ref sig .tc := ⟨.hbm, 167, rfl⟩
abbrev main_call6_v6 : Ref sig .tc := ⟨.hbm, 168, rfl⟩
abbrev main_call6_c_2 : Ref sig .tc := ⟨.hbm, 169, rfl⟩
abbrev main_call6_v7 : Ref sig .tc := ⟨.hbm, 170, rfl⟩
abbrev main_call6_v8 : Ref sig .tc := ⟨.hbm, 171, rfl⟩
abbrev main_call6_c_3 : Ref sig .tc := ⟨.hbm, 172, rfl⟩
abbrev main_call6_v9 : Ref sig .tc := ⟨.hbm, 173, rfl⟩
abbrev main_call6_v10 : Ref sig .tc := ⟨.hbm, 174, rfl⟩
abbrev main_call6_v11 : Ref sig .tc := ⟨.hbm, 175, rfl⟩
abbrev main_call6_v12 : Ref sig .tc := ⟨.hbm, 176, rfl⟩
abbrev main_call6_v13 : Ref sig .tc := ⟨.hbm, 177, rfl⟩
abbrev main_call6_v14 : Ref sig .tc := ⟨.hbm, 178, rfl⟩
abbrev main_v35 : Ref sig .tc := ⟨.hbm, 179, rfl⟩
abbrev main_c_13 : Ref sig .tc := ⟨.hbm, 180, rfl⟩
abbrev main_v36 : Ref sig .tc := ⟨.hbm, 181, rfl⟩
abbrev main_v37 : Ref sig .tc := ⟨.hbm, 182, rfl⟩
abbrev main_c_14 : Ref sig .tc := ⟨.hbm, 183, rfl⟩
abbrev main_v38 : Ref sig .tc := ⟨.hbm, 184, rfl⟩
abbrev main_v39 : Ref sig .tc := ⟨.hbm, 185, rfl⟩
abbrev main_v40 : Ref sig .tc := ⟨.hbm, 186, rfl⟩
abbrev main_c_15 : Ref sig .tc := ⟨.hbm, 187, rfl⟩
abbrev main_call7_v0 : Ref sig .tc := ⟨.hbm, 188, rfl⟩
abbrev main_call7_v1 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_v6 : Ref sig .tc := ⟨.hbm, 194, rfl⟩
abbrev main_call7_v7 : Ref sig .tc := ⟨.hbm, 195, rfl⟩
abbrev main_call7_v8 : Ref sig .tc := ⟨.hbm, 196, rfl⟩
abbrev main_call7_c : Ref sig .tc := ⟨.hbm, 197, rfl⟩
abbrev main_call7_v9 : Ref sig .tc := ⟨.hbm, 198, rfl⟩
abbrev main_call7_v10 : Ref sig .tc := ⟨.hbm, 199, rfl⟩
abbrev main_call7_v11 : Ref sig .tc := ⟨.hbm, 200, rfl⟩
abbrev main_call7_c_0 : Ref sig .tc := ⟨.hbm, 201, rfl⟩
abbrev main_call7_v12 : Ref sig .tc := ⟨.hbm, 202, rfl⟩
abbrev main_call7_v13 : Ref sig .tc := ⟨.hbm, 203, rfl⟩
abbrev main_v41 : Ref sig .tc := ⟨.hbm, 204, rfl⟩
abbrev main_c_16 : Ref sig .tc := ⟨.hbm, 205, rfl⟩
abbrev main_v42 : Ref sig .tc := ⟨.hbm, 206, rfl⟩
abbrev main_v43 : Ref sig .tc := ⟨.hbm, 207, rfl⟩
abbrev main_v44 : Ref sig .tc := ⟨.hbm, 208, rfl⟩
abbrev main_v45 : Ref sig .tc := ⟨.hbm, 209, rfl⟩
abbrev main_v46 : Ref sig .tc := ⟨.hbm, 210, rfl⟩
abbrev main_v47 : Ref sig .tc := ⟨.hbm, 211, rfl⟩
abbrev main_v48 : Ref sig .tc := ⟨.hbm, 212, rfl⟩
abbrev main_c_17 : Ref sig .tc := ⟨.hbm, 213, rfl⟩
abbrev main_call8_v0 : Ref sig .tc := ⟨.hbm, 214, rfl⟩
abbrev main_call8_c : Ref sig .tc := ⟨.hbm, 215, rfl⟩
abbrev main_call8_v1 : Ref sig .tc := ⟨.hbm, 216, rfl⟩
abbrev main_call8_c_0 : Ref sig .tc := ⟨.hbm, 217, rfl⟩
abbrev main_call8_v2 : Ref sig .tc := ⟨.hbm, 218, rfl⟩
abbrev main_call8_v3 : Ref sig .tc := ⟨.hbm, 219, rfl⟩
abbrev main_call8_v4 : Ref sig .tc := ⟨.hbm, 220, rfl⟩
abbrev main_call8_c_1 : Ref sig .tc := ⟨.hbm, 221, rfl⟩
abbrev main_call8_v5 : Ref sig .tc := ⟨.hbm, 222, rfl⟩
abbrev main_call8_v6 : Ref sig .tc := ⟨.hbm, 223, rfl⟩
abbrev main_call8_c_2 : Ref sig .tc := ⟨.hbm, 224, rfl⟩
abbrev main_call8_v7 : Ref sig .tc := ⟨.hbm, 225, rfl⟩
abbrev main_call8_v8 : Ref sig .tc := ⟨.hbm, 226, rfl⟩
abbrev main_call8_c_3 : Ref sig .tc := ⟨.hbm, 227, rfl⟩
abbrev main_call8_v9 : Ref sig .tc := ⟨.hbm, 228, rfl⟩
abbrev main_call8_v10 : Ref sig .tc := ⟨.hbm, 229, rfl⟩
abbrev main_call8_v11 : Ref sig .tc := ⟨.hbm, 230, rfl⟩
abbrev main_call8_v12 : Ref sig .tc := ⟨.hbm, 231, rfl⟩
abbrev main_call8_v13 : Ref sig .tc := ⟨.hbm, 232, rfl⟩
abbrev main_call8_v14 : Ref sig .tc := ⟨.hbm, 233, rfl⟩
abbrev main_v49 : Ref sig .tc := ⟨.hbm, 234, rfl⟩
abbrev main_c_18 : Ref sig .tc := ⟨.hbm, 235, rfl⟩
abbrev main_call9_v0 : Ref sig .tc := ⟨.hbm, 236, rfl⟩
abbrev main_call9_v1 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_call9_v5 : Ref sig .tc := ⟨.hbm, 241, rfl⟩
abbrev main_call9_v6 : Ref sig .tc := ⟨.hbm, 242, rfl⟩
abbrev main_call9_v7 : Ref sig .tc := ⟨.hbm, 243, rfl⟩
abbrev main_call9_v8 : Ref sig .tc := ⟨.hbm, 244, rfl⟩
abbrev main_call9_c : Ref sig .tc := ⟨.hbm, 245, rfl⟩
abbrev main_call9_v9 : Ref sig .tc := ⟨.hbm, 246, rfl⟩
abbrev main_call9_v10 : Ref sig .tc := ⟨.hbm, 247, rfl⟩
abbrev main_call9_v11 : Ref sig .tc := ⟨.hbm, 248, rfl⟩
abbrev main_call9_c_0 : Ref sig .tc := ⟨.hbm, 249, rfl⟩
abbrev main_call9_v12 : Ref sig .tc := ⟨.hbm, 250, rfl⟩
abbrev main_call9_v13 : Ref sig .tc := ⟨.hbm, 251, rfl⟩
abbrev main_v50 : Ref sig .tc := ⟨.hbm, 252, rfl⟩
abbrev main_v51 : Ref sig .tc := ⟨.hbm, 253, rfl⟩
abbrev main_v52 : Ref sig .tc := ⟨.hbm, 254, rfl⟩
abbrev main_v53 : Ref sig .tc := ⟨.hbm, 255, rfl⟩
abbrev main_v54 : Ref sig .tc := ⟨.hbm, 256, rfl⟩
abbrev main_v55 : Ref sig .tc := ⟨.hbm, 257, rfl⟩
abbrev main_v56 : Ref sig .tc := ⟨.hbm, 258, rfl⟩
abbrev main_v57 : Ref sig .tc := ⟨.hbm, 259, rfl⟩
abbrev main_v58 : Ref sig .tc := ⟨.hbm, 260, rfl⟩
abbrev main_v59 : Ref sig .tc := ⟨.hbm, 261, rfl⟩
abbrev main_v60 : Ref sig .tc := ⟨.hbm, 262, rfl⟩
abbrev main_v61 : Ref sig .tc := ⟨.hbm, 263, rfl⟩
abbrev main_v62 : Ref sig .tc := ⟨.hbm, 264, rfl⟩
abbrev main_v63 : Ref sig .tc := ⟨.hbm, 265, rfl⟩
abbrev main_v64 : Ref sig .tc := ⟨.hbm, 266, rfl⟩
abbrev main_v65 : Ref sig .tc := ⟨.hbm, 267, rfl⟩
abbrev main_v66 : Ref sig .tc := ⟨.hbm, 268, rfl⟩
abbrev main_v67 : Ref sig .tc := ⟨.hbm, 269, rfl⟩
abbrev main_v68 : Ref sig .tc := ⟨.hbm, 270, rfl⟩
abbrev main_v69 : Ref sig .tc := ⟨.hbm, 271, rfl⟩
abbrev main_v70 : Ref sig .tc := ⟨.hbm, 272, rfl⟩
abbrev main_v71 : Ref sig .tc := ⟨.hbm, 273, rfl⟩
abbrev main_v72 : Ref sig .tc := ⟨.hbm, 274, rfl⟩
abbrev main_v73 : Ref sig .tc := ⟨.hbm, 275, rfl⟩
abbrev main_v74 : Ref sig .tc := ⟨.hbm, 276, rfl⟩
abbrev main_v75 : Ref sig .tc := ⟨.hbm, 277, rfl⟩
abbrev main_v76 : Ref sig .tc := ⟨.hbm, 278, rfl⟩
abbrev main_v77 : Ref sig .tc := ⟨.hbm, 279, rfl⟩
abbrev main_v78 : Ref sig .tc := ⟨.hbm, 280, rfl⟩
abbrev main_v79 : Ref sig .tc := ⟨.hbm, 281, rfl⟩
abbrev main_v80 : Ref sig .tc := ⟨.hbm, 282, rfl⟩
abbrev main_v81 : Ref sig .tc := ⟨.hbm, 283, rfl⟩
abbrev main_v82 : Ref sig .tc := ⟨.hbm, 284, rfl⟩
abbrev main_v83 : Ref sig .tc := ⟨.hbm, 285, rfl⟩
abbrev main_v84 : Ref sig .tc := ⟨.hbm, 286, rfl⟩
abbrev main_v85 : Ref sig .tc := ⟨.hbm, 287, rfl⟩
abbrev main_v86 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c18_i32 : BitVec 32 := 18#32
  let v19 : BitVec 32 := Scalar.addi c0_i32 c18_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v25 : BitVec 32 := Scalar.muli arg13 c128_i32
  v25
def k0_off1 (k0_t1 : Fin k0_t1_loop.trips) : Fin 3 → Nat :=
  let c0_13 : Index := 0#32
  let c0_i32 : BitVec 32 := 0#32
  let c1_i32 : BitVec 32 := 1#32
  let arg13 : BitVec 32 := Scf.iv c0_i32 c1_i32 k0_t1
  let c128_i32 : BitVec 32 := 128#32
  let v25 : BitVec 32 := Scalar.muli arg13 c128_i32
  let v26 : BitVec 32 := v25
  let v27 : Index := Scalar.indexCast v26
  let c0_14 : Index := 0#32
  ![0, v27.toNat, 0]
def k0_off2 (k0_t1 : Fin k0_t1_loop.trips) : Fin 3 → Nat :=
  let c0_15 : Index := 0#32
  let c0_i32 : BitVec 32 := 0#32
  let c1_i32 : BitVec 32 := 1#32
  let arg13 : BitVec 32 := Scf.iv c0_i32 c1_i32 k0_t1
  let c128_i32 : BitVec 32 := 128#32
  let v25 : BitVec 32 := Scalar.muli arg13 c128_i32
  let v26 : BitVec 32 := v25
  let v30 : Index := Scalar.indexCast v26
  let c0_16 : Index := 0#32
  ![0, v30.toNat, 0]
def k0_off3 (k0_t1 : Fin k0_t1_loop.trips) : Fin 4 → Nat :=
  let c0_19 : Index := 0#32
  let c0_20 : Index := 0#32
  let c0_i32 : BitVec 32 := 0#32
  let c1_i32 : BitVec 32 := 1#32
  let arg13 : BitVec 32 := Scf.iv c0_i32 c1_i32 k0_t1
  let c128_i32 : BitVec 32 := 128#32
  let v25 : BitVec 32 := Scalar.muli arg13 c128_i32
  let v26 : BitVec 32 := v25
  let v36 : Index := Scalar.indexCast v26
  let c0_21 : Index := 0#32
  ![0, 0, v36.toNat, 0]
def k0_off4 (k0_t1 : Fin k0_t1_loop.trips) : Fin 7 → Nat :=
  let c0_22 : Index := 0#32
  let c0_23 : Index := 0#32
  let c0_24 : Index := 0#32
  let c0_25 : Index := 0#32
  let c0_i32 : BitVec 32 := 0#32
  let c1_i32 : BitVec 32 := 1#32
  let arg13 : BitVec 32 := Scf.iv c0_i32 c1_i32 k0_t1
  let v39 : Index := Scalar.indexCast arg13
  let c0_26 : Index := 0#32
  let c0_27 : Index := 0#32
  ![0, 0, 0, 0, v39.toNat, 0, 0]
def k0_off5 (k0_t1 : Fin k0_t1_loop.trips) : Fin 7 → Nat :=
  let c0_28 : Index := 0#32
  let c0_29 : Index := 0#32
  let c0_30 : Index := 0#32
  let c1 : Index := 1#32
  let c0_i32 : BitVec 32 := 0#32
  let c1_i32 : BitVec 32 := 1#32
  let arg13 : BitVec 32 := Scf.iv c0_i32 c1_i32 k0_t1
  let v42 : Index := Scalar.indexCast arg13
  let c0_31 : Index := 0#32
  let c0_32 : Index := 0#32
  ![0, 0, 0, 1, v42.toNat, 0, 0]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v25 : BitVec 32 := Scalar.muli arg13 c128_i32
  let v26 : BitVec 32 := v25
  let v206 : Index := Scalar.indexCast v26
  let c0_57 : Index := 0#32
  ![v206.toNat, 0]
def k0_off7 (k0_t1 : Fin k0_t1_loop.trips) : Fin 5 → Nat :=
  let c0_60 : Index := 0#32
  let c0_61 : Index := 0#32
  let c0_i32 : BitVec 32 := 0#32
  let c1_i32 : BitVec 32 := 1#32
  let arg13 : BitVec 32 := Scf.iv c0_i32 c1_i32 k0_t1
  let v217 : Index := Scalar.indexCast arg13
  let c0_62 : Index := 0#32
  let c0_63 : Index := 0#32
  ![0, 0, v217.toNat, 0, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let c128_i32_67 : BitVec 32 := 128#32
  let v230 : BitVec 32 := Scalar.muli v229 c128_i32_67
  v230
def k0_off8 (k0_t1 : Fin k0_t1_loop.trips) : Fin 3 → Nat :=
  let c0_68 : Index := 0#32
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let c128_i32_67 : BitVec 32 := 128#32
  let v230 : BitVec 32 := Scalar.muli v229 c128_i32_67
  let v231 : BitVec 32 := v230
  let v232 : Index := Scalar.indexCast v231
  let c0_69 : Index := 0#32
  ![0, v232.toNat, 0]
def k0_off9 (k0_t1 : Fin k0_t1_loop.trips) : Fin 3 → Nat :=
  let c0_70 : Index := 0#32
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let c128_i32_67 : BitVec 32 := 128#32
  let v230 : BitVec 32 := Scalar.muli v229 c128_i32_67
  let v231 : BitVec 32 := v230
  let v235 : Index := Scalar.indexCast v231
  let c0_71 : Index := 0#32
  ![0, v235.toNat, 0]
def k0_off10 (k0_t1 : Fin k0_t1_loop.trips) : Fin 4 → Nat :=
  let c0_74 : Index := 0#32
  let c0_75 : Index := 0#32
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let c128_i32_67 : BitVec 32 := 128#32
  let v230 : BitVec 32 := Scalar.muli v229 c128_i32_67
  let v231 : BitVec 32 := v230
  let v241 : Index := Scalar.indexCast v231
  let c0_76 : Index := 0#32
  ![0, 0, v241.toNat, 0]
def k0_off11 (k0_t1 : Fin k0_t1_loop.trips) : Fin 7 → Nat :=
  let c0_77 : Index := 0#32
  let c0_78 : Index := 0#32
  let c1_79 : Index := 1#32
  let c0_80 : Index := 0#32
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let v244 : Index := Scalar.indexCast v229
  let c0_81 : Index := 0#32
  let c0_82 : Index := 0#32
  ![0, 0, 1, 0, v244.toNat, 0, 0]
def k0_off12 (k0_t1 : Fin k0_t1_loop.trips) : Fin 7 → Nat :=
  let c0_83 : Index := 0#32
  let c0_84 : Index := 0#32
  let c1_85 : Index := 1#32
  let c1_86 : Index := 1#32
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let v247 : Index := Scalar.indexCast v229
  let c0_87 : Index := 0#32
  let c0_88 : Index := 0#32
  ![0, 0, 1, 1, v247.toNat, 0, 0]
def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let c128_i32_67 : BitVec 32 := 128#32
  let v230 : BitVec 32 := Scalar.muli v229 c128_i32_67
  let v231 : BitVec 32 := v230
  let v411 : Index := Scalar.indexCast v231
  let c0_113 : Index := 0#32
  ![v411.toNat, 0]
def k0_off14 (k0_t1 : Fin k0_t1_loop.trips) : Fin 5 → Nat :=
  let c0_116 : Index := 0#32
  let c0_117 : Index := 0#32
  let c0_i32 : BitVec 32 := 0#32
  let c1_i32 : BitVec 32 := 1#32
  let arg13 : BitVec 32 := Scf.iv c0_i32 c1_i32 k0_t1
  let c2_i32 : BitVec 32 := 2#32
  let v226 : BitVec 1 := Scalar.cmpi .slt arg13 c2_i32
  let c1_i32_66 : BitVec 32 := 1#32
  let v227 : BitVec 32 := Scalar.subi c1_i32_66 arg13
  let c19_i32 : BitVec 32 := 19#32
  let v228 : BitVec 32 := Scalar.subi c19_i32 arg13
  let v229 : BitVec 32 := Scalar.select v226 v227 v228
  let v422 : Index := Scalar.indexCast v229
  let c1_118 : Index := 1#32
  let c0_119 : Index := 0#32
  ![0, 0, v422.toNat, 1, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 7 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, arg1.toNat, c0_i32.toNat, c0_i32_0.toNat, c0_i32_1.toNat, c0_i32_2.toNat, c0_i32_3.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2304x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x2x18x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x18x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x48x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2304x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ScanRefIdeal.lean ====
abbrev S32x2304x3072 : Shape := ⟨3, ![32, 2304, 3072]⟩
abbrev S32x2304x128 : Shape := ⟨3, ![32, 2304, 128]⟩
abbrev S32x18x1x128 : Shape := ⟨4, ![32, 18, 1, 128]⟩
abbrev S32x256x3072 : Shape := ⟨3, ![32, 256, 3072]⟩
abbrev S32x2048x3072 : Shape := ⟨3, ![32, 2048, 3072]⟩
abbrev S64x2304x3072 : Shape := ⟨3, ![64, 2304, 3072]⟩
abbrev S64x18x128x3072 : Shape := ⟨4, ![64, 18, 128, 3072]⟩
abbrev S18x64x128x3072 : Shape := ⟨4, ![18, 64, 128, 3072]⟩
abbrev S32x2304x32 : Shape := ⟨3, ![32, 2304, 32]⟩
abbrev S32x256x32 : Shape := ⟨3, ![32, 256, 32]⟩
abbrev S32x2048x32 : Shape := ⟨3, ![32, 2048, 32]⟩
abbrev S64x2304x32 : Shape := ⟨3, ![64, 2304, 32]⟩
abbrev S64x18x128x4x8 : Shape := ⟨5, ![64, 18, 128, 4, 8]⟩
abbrev S18x64x128x4x8 : Shape := ⟨5, ![18, 64, 128, 4, 8]⟩
abbrev S32x18x128 : Shape := ⟨3, ![32, 18, 128]⟩
abbrev S32x18x32 : Shape := ⟨3, ![32, 18, 32]⟩
abbrev S32x2x32 : Shape := ⟨3, ![32, 2, 32]⟩
abbrev S32x16x32 : Shape := ⟨3, ![32, 16, 32]⟩
abbrev S64x18x32 : Shape := ⟨3, ![64, 18, 32]⟩
abbrev S64x18x1x4x8 : Shape := ⟨5, ![64, 18, 1, 4, 8]⟩
abbrev S18x64x1x4x8 : Shape := ⟨5, ![18, 64, 1, 4, 8]⟩
abbrev S18x64x4x8 : Shape := ⟨4, ![18, 64, 4, 8]⟩
abbrev S_ : Shape := ⟨0, ![]⟩
abbrev S128x128 : Shape := ⟨2, ![128, 128]⟩
abbrev S1x128x128x1x1 : Shape := ⟨5, ![1, 128, 128, 1, 1]⟩
abbrev S64x4x8x64x128 : Shape := ⟨5, ![64, 4, 8, 64, 128]⟩
abbrev S18x64x128x4x8x64 : Shape := ⟨6, ![18, 64, 128, 4, 8, 64]⟩
abbrev S1x64x128x3072 : Shape := ⟨4, ![1, 64, 128, 3072]⟩
abbrev S64x128x3072 : Shape := ⟨3, ![64, 128, 3072]⟩
abbrev S1x64x128x4x8 : Shape := ⟨5, ![1, 64, 128, 4, 8]⟩
abbrev S64x128x4x8 : Shape := ⟨4, ![64, 128, 4, 8]⟩
abbrev S1x64x4x8 : Shape := ⟨4, ![1, 64, 4, 8]⟩
abbrev S64x4x8 : Shape := ⟨3, ![64, 4, 8]⟩
abbrev S64x128x2048 : Shape := ⟨3, ![64, 128, 2048]⟩
abbrev S64x128x4x8x64 : Shape := ⟨5, ![64, 128, 4, 8, 64]⟩
abbrev S64x128x512 : Shape := ⟨3, ![64, 128, 512]⟩
abbrev S64x128x4x128 : Shape := ⟨4, ![64, 128, 4, 128]⟩
abbrev S64x128x1x4x8 : Shape := ⟨5, ![64, 128, 1, 4, 8]⟩
abbrev S64x1x128x4x8 : Shape := ⟨5, ![64, 1, 128, 4, 8]⟩
abbrev S64x128x128x4x8 : Shape := ⟨5, ![64, 128, 128, 4, 8]⟩
abbrev S64x4x128x128 : Shape := ⟨4, ![64, 4, 128, 128]⟩
abbrev S64x128x128x4 : Shape := ⟨4, ![64, 128, 128, 4]⟩
abbrev S64x128x4x8x1 : Shape := ⟨5, ![64, 128, 4, 8, 1]⟩
abbrev S64x128x128x4x1 : Shape := ⟨5, ![64, 128, 128, 4, 1]⟩
abbrev S64x4x8x1x1 : Shape := ⟨5, ![64, 4, 8, 1, 1]⟩
abbrev S1x64x128x4x8x64 : Shape := ⟨6, ![1, 64, 128, 4, 8, 64]⟩
abbrev S64x18x128x4x8x64 : Shape := ⟨6, ![64, 18, 128, 4, 8, 64]⟩
abbrev S64x2304x2048 : Shape := ⟨3, ![64, 2304, 2048]⟩
abbrev S32x2304x2048 : Shape := ⟨3, ![32, 2304, 2048]⟩
abbrev S32x256x2048 : Shape := ⟨3, ![32, 256, 2048]⟩
abbrev S32x2048x2048 : Shape := ⟨3, ![32, 2048, 2048]⟩

abbrev nBuf : Space → Nat
  | .hbm => 191
  | .vmem => 0
  | .smem => 0
  | _ => 0

abbrev hbmTy0_0 (i : Nat) : BufTy := match i % 128 with
  | 0 => ⟨S32x2304x3072, .bf16⟩
  | 1 => ⟨S32x2304x128, .f32⟩
  | 2 => ⟨S32x2304x128, .f32⟩
  | 3 => ⟨S32x2304x128, .f32⟩
  | 4 => ⟨S32x2304x128, .f32⟩
  | 5 => ⟨S32x18x1x128, .f32⟩
  | 6 => ⟨S32x2304x3072, .f32⟩
  | 7 => ⟨S32x256x3072, .f32⟩
  | 8 => ⟨S32x256x3072, .f32⟩
  | 9 => ⟨S32x2048x3072, .f32⟩
  | 10 => ⟨S32x2048x3072, .f32⟩
  | 11 => ⟨S32x2304x3072, .f32⟩
  | 12 => ⟨S64x2304x3072, .f32⟩
  | 13 => ⟨S64x18x128x3072, .f32⟩
  | 14 => ⟨S18x64x128x3072, .f32⟩
  | 15 => ⟨S32x2304x32, .f32⟩
  | 16 => ⟨S32x2304x32, .f32⟩
  | 17 => ⟨S32x256x32, .f32⟩
  | 18 => ⟨S32x256x32, .f32⟩
  | 19 => ⟨S32x2048x32, .f32⟩
  | 20 => ⟨S32x2048x32, .f32⟩
  | 21 => ⟨S32x2304x32, .f32⟩
  | 22 => ⟨S64x2304x32, .f32⟩
  | 23 => ⟨S64x18x128x4x8, .f32⟩
  | 24 => ⟨S18x64x128x4x8, .f32⟩
  | 25 => ⟨S32x2304x32, .f32⟩
  | 26 => ⟨S32x2304x32, .f32⟩
  | 27 => ⟨S32x256x32, .f32⟩
  | 28 => ⟨S32x256x32, .f32⟩
  | 29 => ⟨S32x2048x32, .f32⟩
  | 30 => ⟨S32x2048x32, .f32⟩
  | 31 => ⟨S32x2304x32, .f32⟩
  | 32 => ⟨S64x2304x32, .f32⟩
  | 33 => ⟨S64x18x128x4x8, .f32⟩
  | 34 => ⟨S18x64x128x4x8, .f32⟩
  | 35 => ⟨S32x2304x32, .f32⟩
  | 36 => ⟨S32x2304x32, .f32⟩
  | 37 => ⟨S32x256x32, .f32⟩
  | 38 => ⟨S32x256x32, .f32⟩
  | 39 => ⟨S32x2048x32, .f32⟩
  | 40 => ⟨S32x2048x32, .f32⟩
  | 41 => ⟨S32x2304x32, .f32⟩
  | 42 => ⟨S64x2304x32, .f32⟩
  | 43 => ⟨S64x18x128x4x8, .f32⟩
  | 44 => ⟨S18x64x128x4x8, .f32⟩
  | 45 => ⟨S32x2304x32, .f32⟩
  | 46 => ⟨S32x2304x32, .f32⟩
  | 47 => ⟨S32x256x32, .f32⟩
  | 48 => ⟨S32x256x32, .f32⟩
  | 49 => ⟨S32x2048x32, .f32⟩
  | 50 => ⟨S32x2048x32, .f32⟩
  | 51 => ⟨S32x2304x32, .f32⟩
  | 52 => ⟨S64x2304x32, .f32⟩
  | 53 => ⟨S64x18x128x4x8, .f32⟩
  | 54 => ⟨S18x64x128x4x8, .f32⟩
  | 55 => ⟨S32x18x128, .f32⟩
  | 56 => ⟨S32x18x32, .f32⟩
  | 57 => ⟨S32x18x32, .f32⟩
  | 58 => ⟨S32x2x32, .f32⟩
  | 59 => ⟨S32x2x32, .f32⟩
  | 60 => ⟨S32x16x32, .f32⟩
  | 61 => ⟨S32x16x32, .f32⟩
  | 62 => ⟨S32x18x32, .f32⟩
  | 63 => ⟨S64x18x32, .f32⟩
  | 64 => ⟨S64x18x1x4x8, .f32⟩
  | 65 => ⟨S18x64x1x4x8, .f32⟩
  | 66 => ⟨S18x64x4x8, .f32⟩
  | 67 => ⟨S_, .i1⟩
  | 68 => ⟨S128x128, .i1⟩
  | 69 => ⟨S128x128, .i32⟩
  | 70 => ⟨S_, .i32⟩
  | 71 => ⟨S128x128, .i32⟩
  | 72 => ⟨S128x128, .i32⟩
  | 73 => ⟨S128x128, .i32⟩
  | 74 => ⟨S128x128, .i1⟩
  | 75 => ⟨S_, .i1⟩
  | 76 => ⟨S128x128, .i1⟩
  | 77 => ⟨S128x128, .i1⟩
  | 78 => ⟨S1x128x128x1x1, .i1⟩
  | 79 => ⟨S_, .f32⟩
  | 80 => ⟨S64x4x8x64x128, .f32⟩
  | 81 => ⟨S_, .f32⟩
  | 82 => ⟨S18x64x128x4x8x64, .f32⟩
  | 83 => ⟨S_, .i32⟩
  | 84 => ⟨S18x64x128x3072, .f32⟩
  | 85 => ⟨S18x64x128x4x8, .f32⟩
  | 86 => ⟨S18x64x128x4x8, .f32⟩
  | 87 => ⟨S18x64x128x4x8, .f32⟩
  | 88 => ⟨S18x64x128x4x8, .f32⟩
  | 89 => ⟨S18x64x4x8, .f32⟩
  | 90 => ⟨S1x128x128x1x1, .i1⟩
  | 91 => ⟨S_, .i32⟩
  | 92 => ⟨S64x4x8x64x128, .f32⟩
  | 93 => ⟨S18x64x128x4x8x64, .f32⟩
  | 94 => ⟨S_, .i32⟩
  | 95 => ⟨S_, .i1⟩
  | 96 => ⟨S_, .i32⟩
  | 97 => ⟨S_, .i32⟩
  | 98 => ⟨S_, .i32⟩
  | 99 => ⟨S1x64x128x3072, .f32⟩
  | 100 => ⟨S64x128x3072, .f32⟩
  | 101 => ⟨S_, .i32⟩
  | 102 => ⟨S_, .i32⟩
  | 103 => ⟨S_, .i32⟩
  | 104 => ⟨S_, .i32⟩
  | 105 => ⟨S1x64x128x4x8, .f32⟩
  | 106 => ⟨S64x128x4x8, .f32⟩
  | 107 => ⟨S_, .i32⟩
  | 108 => ⟨S_, .i32⟩
  | 109 => ⟨S_, .i32⟩
  | 110 => ⟨S_, .i32⟩
  | 111 => ⟨S1x64x128x4x8, .f32⟩
  | 112 => ⟨S64x128x4x8, .f32⟩
  | 113 => ⟨S_, .i32⟩
  | 114 => ⟨S_, .i32⟩
  | 115 => ⟨S_, .i32⟩
  | 116 => ⟨S_, .i32⟩
  | 117 => ⟨S1x64x128x4x8, .f32⟩
  | 118 => ⟨S64x128x4x8, .f32⟩
  | 119 => ⟨S_, .i32⟩
  | 120 => ⟨S_, .i32⟩
  | 121 => ⟨S_, .i32⟩
  | 122 => ⟨S_, .i32⟩
  | 123 => ⟨S1x64x128x4x8, .f32⟩
  | 124 => ⟨S64x128x4x8, .f32⟩
  | 125 => ⟨S_, .i32⟩
  | 126 => ⟨S_, .i32⟩
  | 127 => ⟨S_, .i32⟩
  | _ => ⟨S32x2304x3072, .bf16⟩

abbrev hbmTy0_1 (i : Nat) : BufTy := match i % 128 with
  | 0 => ⟨S1x64x4x8, .f32⟩
  | 1 => ⟨S64x4x8, .f32⟩
  | 2 => ⟨S64x128x2048, .f32⟩
  | 3 => ⟨S64x128x4x8x64, .f32⟩
  | 4 => ⟨S64x128x512, .f32⟩
  | 5 => ⟨S64x128x4x128, .f32⟩
  | 6 => ⟨S64x128x512, .f32⟩
  | 7 => ⟨S64x128x4x128, .f32⟩
  | 8 => ⟨S64x128x1x4x8, .f32⟩
  | 9 => ⟨S64x1x128x4x8, .f32⟩
  | 10 => ⟨S64x128x128x4x8, .f32⟩
  | 11 => ⟨S64x128x128x4x8, .f32⟩
  | 12 => ⟨S64x128x128x4x8, .f32⟩
  | 13 => ⟨S_, .f32⟩
  | 14 => ⟨S_, .f32⟩
  | 15 => ⟨S64x128x128x4x8, .i1⟩
  | 16 => ⟨S64x128x128x4x8, .f32⟩
  | 17 => ⟨S64x128x128x4x8, .f32⟩
  | 18 => ⟨S64x128x128x4x8, .f32⟩
  | 19 => ⟨S64x4x128x128, .f32⟩
  | 20 => ⟨S64x128x128x4, .f32⟩
  | 21 => ⟨S64x128x4x8x1, .f32⟩
  | 22 => ⟨S64x128x4x8x64, .f32⟩
  | 23 => ⟨S64x128x4x8x64, .f32⟩
  | 24 => ⟨S64x128x128x4x1, .f32⟩
  | 25 => ⟨S64x128x128x4x8, .f32⟩
  | 26 => ⟨S64x128x128x4x8, .f32⟩
  | 27 => ⟨S64x4x8x64x128, .f32⟩
  | 28 => ⟨S64x128x4x8x64, .f32⟩
  | 29 => ⟨S64x4x8x64x128, .f32⟩
  | 30 => ⟨S64x128x4x8x64, .f32⟩
  | 31 => ⟨S64x128x4x8x1, .f32⟩
  | 32 => ⟨S64x128x4x8x64, .f32⟩
  | 33 => ⟨S64x128x4x8x64, .f32⟩
  | 34 => ⟨S64x4x8x1x1, .f32⟩
  | 35 => ⟨S64x4x8x64x128, .f32⟩
  | 36 => ⟨S64x4x8x64x128, .f32⟩
  | 37 => ⟨S64x128x4x8x1, .f32⟩
  | 38 => ⟨S64x128x4x8x64, .f32⟩
  | 39 => ⟨S64x128x4x8x64, .f32⟩
  | 40 => ⟨S64x4x8x64x128, .f32⟩
  | 41 => ⟨S64x4x8x64x128, .f32⟩
  | 42 => ⟨S64x128x4x8x64, .f32⟩
  | 43 => ⟨S1x64x128x4x8x64, .f32⟩
  | 44 => ⟨S_, .i32⟩
  | 45 => ⟨S_, .i32⟩
  | 46 => ⟨S_, .i32⟩
  | 47 => ⟨S_, .i32⟩
  | 48 => ⟨S_, .i32⟩
  | 49 => ⟨S18x64x128x4x8x64, .f32⟩
  | 50 => ⟨S_, .i32⟩
  | 51 => ⟨S_, .i32⟩
  | 52 => ⟨S64x18x128x4x8x64, .f32⟩
  | 53 => ⟨S64x2304x2048, .f32⟩
  | 54 => ⟨S32x2304x2048, .f32⟩
  | 55 => ⟨S32x2304x2048, .f32⟩
  | 56 => ⟨S32x256x2048, .f32⟩
  | 57 => ⟨S32x256x2048, .f32⟩
  | 58 => ⟨S32x2048x2048, .f32⟩
  | 59 => ⟨S32x2048x2048, .f32⟩
  | 60 => ⟨S32x2304x2048, .f32⟩
  | 61 => ⟨S32x2304x2048, .f32⟩
  | 62 => ⟨S32x2304x2048, .bf16⟩
  | _ => ⟨S32x2304x3072, .bf16⟩

abbrev hbmTy (i : Nat) : BufTy := match i / 128 with
  | 0 => hbmTy0_0 i
  | 1 => hbmTy0_1 i
  | _ => ⟨S32x2304x3072, .bf16⟩

abbrev bufTy : (tb : Table) → Fin (tcTables nBuf tb) → BufTy
  | .hbm, ⟨i, _⟩ => hbmTy i
  | _, _ => ⟨S32x2304x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_c : Ref sig .tc := ⟨.hbm, 67, rfl⟩
abbrev main_v61 : Ref sig .tc := ⟨.hbm, 68, rfl⟩
abbrev main_call12_v0 : Ref sig .tc := ⟨.hbm, 69, rfl⟩
abbrev main_call12_c : Ref sig .tc := ⟨.hbm, 70, rfl⟩
abbrev main_call12_v1 : Ref sig .tc := ⟨.hbm, 71, rfl⟩
abbrev main_call12_v2 : Ref sig .tc := ⟨.hbm, 72, rfl⟩
abbrev main_call12_v3 : Ref sig .tc := ⟨.hbm, 73, rfl⟩
abbrev main_call12_v4 : Ref sig .tc := ⟨.hbm, 74, rfl⟩
abbrev main_call12_c_0 : Ref sig .tc := ⟨.hbm, 75, rfl⟩
abbrev main_call12_v5 : Ref sig .tc := ⟨.hbm, 76, rfl⟩
abbrev main_v62 : Ref sig .tc := ⟨.hbm, 77, rfl⟩
abbrev main_v63 : Ref sig .tc := ⟨.hbm, 78, rfl⟩
abbrev main_cst : Ref sig .tc := ⟨.hbm, 79, rfl⟩
abbrev main_v64 : Ref sig .tc := ⟨.hbm, 80, rfl⟩
abbrev main_cst_0 : Ref sig .tc := ⟨.hbm, 81, rfl⟩
abbrev main_v65 : Ref sig .tc := ⟨.hbm, 82, rfl⟩
abbrev main_c_1 : Ref sig .tc := ⟨.hbm, 83, rfl⟩
abbrev main_v66_0 : Ref sig .tc := ⟨.hbm, 84, rfl⟩
abbrev main_v66_1 : Ref sig .tc := ⟨.hbm, 85, rfl⟩
abbrev main_v66_2 : Ref sig .tc := ⟨.hbm, 86, rfl⟩
abbrev main_v66_3 : Ref sig .tc := ⟨.hbm, 87, rfl⟩
abbrev main_v66_4 : Ref sig .tc := ⟨.hbm, 88, rfl⟩
abbrev main_v66_5 : Ref sig .tc := ⟨.hbm, 89, rfl⟩
abbrev main_v66_6 : Ref sig .tc := ⟨.hbm, 90, rfl⟩
abbrev main_v66_7 : Ref sig .tc := ⟨.hbm, 91, rfl⟩
abbrev main_v66_8 : Ref sig .tc := ⟨.hbm, 92, rfl⟩
abbrev main_v66_9 : Ref sig .tc := ⟨.hbm, 93, rfl⟩
abbrev main_while0c_c_11 : Ref sig .tc := ⟨.hbm, 94, rfl⟩
abbrev main_while0c_v78 : Ref sig .tc := ⟨.hbm, 95, rfl⟩
abbrev main_while0b_call13_c : Ref sig .tc := ⟨.hbm, 96, rfl⟩
abbrev main_while0b_call13_c_0 : Ref sig .tc := ⟨.hbm, 97, rfl⟩
abbrev main_while0b_call13_c_1 : Ref sig .tc := ⟨.hbm, 98, rfl⟩
abbrev main_while0b_call13_v0 : Ref sig .tc := ⟨.hbm, 99, rfl⟩
abbrev main_while0b_v78 : Ref sig .tc := ⟨.hbm, 100, rfl⟩
abbrev main_while0b_call14_c : Ref sig .tc := ⟨.hbm, 101, rfl⟩
abbrev main_while0b_call14_c_0 : Ref sig .tc := ⟨.hbm, 102, rfl⟩
abbrev main_while0b_call14_c_1 : Ref sig .tc := ⟨.hbm, 103, rfl⟩
abbrev main_while0b_call14_c_2 : Ref sig .tc := ⟨.hbm, 104, rfl⟩
abbrev main_while0b_call14_v0 : Ref sig .tc := ⟨.hbm, 105, rfl⟩
abbrev main_while0b_v79 : Ref sig .tc := ⟨.hbm, 106, rfl⟩
abbrev main_while0b_call15_c : Ref sig .tc := ⟨.hbm, 107, rfl⟩
abbrev main_while0b_call15_c_0 : Ref sig .tc := ⟨.hbm, 108, rfl⟩
abbrev main_while0b_call15_c_1 : Ref sig .tc := ⟨.hbm, 109, rfl⟩
abbrev main_while0b_call15_c_2 : Ref sig .tc := ⟨.hbm, 110, rfl⟩
abbrev main_while0b_call15_v0 : Ref sig .tc := ⟨.hbm, 111, rfl⟩
abbrev main_while0b_v80 : Ref sig .tc := ⟨.hbm, 112, rfl⟩
abbrev main_while0b_call16_c : Ref sig .tc := ⟨.hbm, 113, rfl⟩
abbrev main_while0b_call16_c_0 : Ref sig .tc := ⟨.hbm, 114, rfl⟩
abbrev main_while0b_call16_c_1 : Ref sig .tc := ⟨.hbm, 115, rfl⟩
abbrev main_while0b_call16_c_2 : Ref sig .tc := ⟨.hbm, 116, rfl⟩
abbrev main_while0b_call16_v0 : Ref sig .tc := ⟨.hbm, 117, rfl⟩
abbrev main_while0b_v81 : Ref sig .tc := ⟨.hbm, 118, rfl⟩
abbrev main_while0b_call17_c : Ref sig .tc := ⟨.hbm, 119, rfl⟩
abbrev main_while0b_call17_c_0 : Ref sig .tc := ⟨.hbm, 120, rfl⟩
abbrev main_while0b_call17_c_1 : Ref sig .tc := ⟨.hbm, 121, rfl⟩
abbrev main_while0b_call17_c_2 : Ref sig .tc := ⟨.hbm, 122, rfl⟩
abbrev main_while0b_call17_v0 : Ref sig .tc := ⟨.hbm, 123, rfl⟩
abbrev main_while0b_v82 : Ref sig .tc := ⟨.hbm, 124, rfl⟩
abbrev main_while0b_call18_c : Ref sig .tc := ⟨.hbm, 125, rfl⟩
abbrev main_while0b_call18_c_0 : Ref sig .tc := ⟨.hbm, 126, rfl⟩
abbrev main_while0b_call18_c_1 : Ref sig .tc := ⟨.hbm, 127, rfl⟩
abbrev main_while0b_call18_v0 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_cst_11 : Ref sig .tc := ⟨.hbm, 141, rfl⟩
abbrev main_while0b_call19_v0 : Ref sig .tc := ⟨.hbm, 142, rfl⟩
abbrev main_while0b_call19_v1 : Ref sig .tc := ⟨.hbm, 143, rfl⟩
abbrev main_while0b_call19_v2 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_v115 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_call20_v0 : Ref sig .tc := ⟨.hbm, 171, rfl⟩
abbrev main_while0b_call20_c : Ref sig .tc := ⟨.hbm, 172, rfl⟩
abbrev main_while0b_call20_c_0 : Ref sig .tc := ⟨.hbm, 173, rfl⟩
abbrev main_while0b_call20_c_1 : Ref sig .tc := ⟨.hbm, 174, rfl⟩
abbrev main_while0b_call20_c_2 : Ref sig .tc := ⟨.hbm, 175, rfl⟩
abbrev main_while0b_call20_c_3 : Ref sig .tc := ⟨.hbm, 176, rfl⟩
abbrev main_while0b_v121 : Ref sig .tc := ⟨.hbm, 177, rfl⟩
abbrev main_while0b_c_12 : Ref sig .tc := ⟨.hbm, 178, rfl⟩
abbrev main_while0b_v122 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩

abbrev nD : Nat := 1
abbrev τ : Topo := Topo.v7x

variable {F : FTy → Type} [FloatOps F]

abbrev main_while0_count : Scf.Loop 32 := ⟨0#32, 18#32, 1#32⟩
-- ==== Experts.lean ====
abbrev S73728x1024 : Shape := ⟨2, ![73728, 1024]⟩
abbrev S16x73728 : Shape := ⟨2, ![16, 73728]⟩
abbrev S32x2x6x1024 : Shape := ⟨4, ![32, 2, 6, 1024]⟩
abbrev S16x1024x512 : Shape := ⟨3, ![16, 1024, 512]⟩
abbrev S16x512x1024 : Shape := ⟨3, ![16, 512, 1024]⟩
abbrev S16x73728x1 : Shape := ⟨3, ![16, 73728, 1]⟩
abbrev S256x1024 : Shape := ⟨2, ![256, 1024]⟩
abbrev S1x256x1 : Shape := ⟨3, ![1, 256, 1]⟩
abbrev S1x1x6x1024 : Shape := ⟨4, ![1, 1, 6, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S256x1 : Shape := ⟨2, ![256, 1]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S73728x1024, .bf16⟩
  | .hbm, ⟨1, _⟩ => ⟨S16x73728, .f32⟩
  | .hbm, ⟨2, _⟩ => ⟨S73728x1024, .f32⟩
  | .hbm, ⟨3, _⟩ => ⟨S32x2x6x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x73728x1, .f32⟩
  | .hbm, ⟨8, _⟩ => ⟨S16x1024x512, .bf16⟩
  | .hbm, ⟨9, _⟩ => ⟨S16x1024x512, .bf16⟩
  | .hbm, ⟨10, _⟩ => ⟨S16x512x1024, .bf16⟩
  | .hbm, ⟨11, _⟩ => ⟨S73728x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1, .f32⟩
  | .local _ .vmem, ⟨3, _⟩ => ⟨S1x256x1, .f32⟩
  | .local _ .vmem, ⟨4, _⟩ => ⟨S256x1024, .f32⟩
  | .local _ .vmem, ⟨5, _⟩ => ⟨S256x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![288, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S73728x1024 : Shape := ⟨2, ![73728, 1024]⟩
abbrev S16x73728 : Shape := ⟨2, ![16, 73728]⟩
abbrev S32x2x6x1024 : Shape := ⟨4, ![32, 2, 6, 1024]⟩
abbrev S16x1024x512 : Shape := ⟨3, ![16, 1024, 512]⟩
abbrev S16x512x1024 : Shape := ⟨3, ![16, 512, 1024]⟩
abbrev S73728x16 : Shape := ⟨2, ![73728, 16]⟩
abbrev S_ : Shape := ⟨0, ![]⟩
abbrev S1x1024x512 : Shape := ⟨3, ![1, 1024, 512]⟩
abbrev S1024x512 : Shape := ⟨2, ![1024, 512]⟩
abbrev S73728x512 : Shape := ⟨2, ![73728, 512]⟩
abbrev S73728x1 : Shape := ⟨2, ![73728, 1]⟩
abbrev S1x512x1024 : Shape := ⟨3, ![1, 512, 1024]⟩
abbrev S512x1024 : Shape := ⟨2, ![512, 1024]⟩
abbrev S32x2304x1024 : Shape := ⟨3, ![32, 2304, 1024]⟩
abbrev S32x1x1x1024 : Shape := ⟨4, ![32, 1, 1, 1024]⟩
abbrev S32x1x1024 : Shape := ⟨3, ![32, 1, 1024]⟩
abbrev S32x256x1024 : Shape := ⟨3, ![32, 256, 1024]⟩
abbrev S32x2048x1024 : Shape := ⟨3, ![32, 2048, 1024]⟩

abbrev nBuf : Space → Nat
  | .hbm => 397
  | .vmem => 0
  | .smem => 0
  | _ => 0

abbrev hbmTy0_0 (i : Nat) : BufTy := match i % 128 with
  | 0 => ⟨S73728x1024, .bf16⟩
  | 1 => ⟨S16x73728, .f32⟩
  | 2 => ⟨S73728x1024, .f32⟩
  | 3 => ⟨S32x2x6x1024, .f32⟩
  | 4 => ⟨S16x1024x512, .f32⟩
  | 5 => ⟨S16x1024x512, .f32⟩
  | 6 => ⟨S16x512x1024, .f32⟩
  | 7 => ⟨S73728x1024, .f32⟩
  | 8 => ⟨S73728x16, .f32⟩
  | 9 => ⟨S_, .f32⟩
  | 10 => ⟨S73728x1024, .f32⟩
  | 11 => ⟨S1x1024x512, .f32⟩
  | 12 => ⟨S1024x512, .f32⟩
  | 13 => ⟨S73728x512, .f32⟩
  | 14 => ⟨S73728x512, .f32⟩
  | 15 => ⟨S73728x512, .f32⟩
  | 16 => ⟨S_, .f32⟩
  | 17 => ⟨S73728x512, .f32⟩
  | 18 => ⟨S73728x512, .f32⟩
  | 19 => ⟨S_, .f32⟩
  | 20 => ⟨S73728x512, .f32⟩
  | 21 => ⟨S73728x512, .f32⟩
  | 22 => ⟨S73728x512, .f32⟩
  | 23 => ⟨S1x1024x512, .f32⟩
  | 24 => ⟨S1024x512, .f32⟩
  | 25 => ⟨S73728x512, .f32⟩
  | 26 => ⟨S73728x512, .f32⟩
  | 27 => ⟨S73728x1, .f32⟩
  | 28 => ⟨S1x512x1024, .f32⟩
  | 29 => ⟨S512x1024, .f32⟩
  | 30 => ⟨S73728x1024, .f32⟩
  | 31 => ⟨S73728x1024, .f32⟩
  | 32 => ⟨S73728x1024, .f32⟩
  | 33 => ⟨S73728x1024, .f32⟩
  | 34 => ⟨S1x1024x512, .f32⟩
  | 35 => ⟨S1024x512, .f32⟩
  | 36 => ⟨S73728x512, .f32⟩
  | 37 => ⟨S73728x512, .f32⟩
  | 38 => ⟨S73728x512, .f32⟩
  | 39 => ⟨S_, .f32⟩
  | 40 => ⟨S73728x512, .f32⟩
  | 41 => ⟨S73728x512, .f32⟩
  | 42 => ⟨S_, .f32⟩
  | 43 => ⟨S73728x512, .f32⟩
  | 44 => ⟨S73728x512, .f32⟩
  | 45 => ⟨S73728x512, .f32⟩
  | 46 => ⟨S1x1024x512, .f32⟩
  | 47 => ⟨S1024x512, .f32⟩
  | 48 => ⟨S73728x512, .f32⟩
  | 49 => ⟨S73728x512, .f32⟩
  | 50 => ⟨S73728x1, .f32⟩
  | 51 => ⟨S1x512x1024, .f32⟩
  | 52 => ⟨S512x1024, .f32⟩
  | 53 => ⟨S73728x1024, .f32⟩
  | 54 => ⟨S73728x1024, .f32⟩
  | 55 => ⟨S73728x1024, .f32⟩
  | 56 => ⟨S73728x1024, .f32⟩
  | 57 => ⟨S1x1024x512, .f32⟩
  | 58 => ⟨S1024x512, .f32⟩
  | 59 => ⟨S73728x512, .f32⟩
  | 60 => ⟨S73728x512, .f32⟩
  | 61 => ⟨S73728x512, .f32⟩
  | 62 => ⟨S_, .f32⟩
  | 63 => ⟨S73728x512, .f32⟩
  | 64 => ⟨S73728x512, .f32⟩
  | 65 => ⟨S_, .f32⟩
  | 66 => ⟨S73728x512, .f32⟩
  | 67 => ⟨S73728x512, .f32⟩
  | 68 => ⟨S73728x512, .f32⟩
  | 69 => ⟨S1x1024x512, .f32⟩
  | 70 => ⟨S1024x512, .f32⟩
  | 71 => ⟨S73728x512, .f32⟩
  | 72 => ⟨S73728x512, .f32⟩
  | 73 => ⟨S73728x1, .f32⟩
  | 74 => ⟨S1x512x1024, .f32⟩
  | 75 => ⟨S512x1024, .f32⟩
  | 76 => ⟨S73728x1024, .f32⟩
  | 77 => ⟨S73728x1024, .f32⟩
  | 78 => ⟨S73728x1024, .f32⟩
  | 79 => ⟨S73728x1024, .f32⟩
  | 80 => ⟨S1x1024x512, .f32⟩
  | 81 => ⟨S1024x512, .f32⟩
  | 82 => ⟨S73728x512, .f32⟩
  | 83 => ⟨S73728x512, .f32⟩
  | 84 => ⟨S73728x512, .f32⟩
  | 85 => ⟨S_, .f32⟩
  | 86 => ⟨S73728x512, .f32⟩
  | 87 => ⟨S73728x512, .f32⟩
  | 88 => ⟨S_, .f32⟩
  | 89 => ⟨S73728x512, .f32⟩
  | 90 => ⟨S73728x512, .f32⟩
  | 91 => ⟨S73728x512, .f32⟩
  | 92 => ⟨S1x1024x512, .f32⟩
  | 93 => ⟨S1024x512, .f32⟩
  | 94 => ⟨S73728x512, .f32⟩
  | 95 => ⟨S73728x512, .f32⟩
  | 96 => ⟨S73728x1, .f32⟩
  | 97 => ⟨S1x512x1024, .f32⟩
  | 98 => ⟨S512x1024, .f32⟩
  | 99 => ⟨S73728x1024, .f32⟩
  | 100 => ⟨S73728x1024, .f32⟩
  | 101 => ⟨S73728x1024, .f32⟩
  | 102 => ⟨S73728x1024, .f32⟩
  | 103 => ⟨S1x1024x512, .f32⟩
  | 104 => ⟨S1024x512, .f32⟩
  | 105 => ⟨S73728x512, .f32⟩
  | 106 => ⟨S73728x512, .f32⟩
  | 107 => ⟨S73728x512, .f32⟩
  | 108 => ⟨S_, .f32⟩
  | 109 => ⟨S73728x512, .f32⟩
  | 110 => ⟨S73728x512, .f32⟩
  | 111 => ⟨S_, .f32⟩
  | 112 => ⟨S73728x512, .f32⟩
  | 113 => ⟨S73728x512, .f32⟩
  | 114 => ⟨S73728x512, .f32⟩
  | 115 => ⟨S1x1024x512, .f32⟩
  | 116 => ⟨S1024x512, .f32⟩
  | 117 => ⟨S73728x512, .f32⟩
  | 118 => ⟨S73728x512, .f32⟩
  | 119 => ⟨S73728x1, .f32⟩
  | 120 => ⟨S1x512x1024, .f32⟩
  | 121 => ⟨S512x1024, .f32⟩
  | 122 => ⟨S73728x1024, .f32⟩
  | 123 => ⟨S73728x1024, .f32⟩
  | 124 => ⟨S73728x1024, .f32⟩
  | 125 => ⟨S73728x1024, .f32⟩
  | 126 => ⟨S1x1024x512, .f32⟩
  | 127 => ⟨S1024x512, .f32⟩
  | _ => ⟨S73728x1024, .bf16⟩

abbrev hbmTy0_1 (i : Nat) : BufTy := match i % 128 with
  | 0 => ⟨S73728x512, .f32⟩
  | 1 => ⟨S73728x512, .f32⟩
  | 2 => ⟨S73728x512, .f32⟩
  | 3 => ⟨S_, .f32⟩
  | 4 => ⟨S73728x512, .f32⟩
  | 5 => ⟨S73728x512, .f32⟩
  | 6 => ⟨S_, .f32⟩
  | 7 => ⟨S73728x512, .f32⟩
  | 8 => ⟨S73728x512, .f32⟩
  | 9 => ⟨S73728x512, .f32⟩
  | 10 => ⟨S1x1024x512, .f32⟩
  | 11 => ⟨S1024x512, .f32⟩
  | 12 => ⟨S73728x512, .f32⟩
  | 13 => ⟨S73728x512, .f32⟩
  | 14 => ⟨S73728x1, .f32⟩
  | 15 => ⟨S1x512x1024, .f32⟩
  | 16 => ⟨S512x1024, .f32⟩
  | 17 => ⟨S73728x1024, .f32⟩
  | 18 => ⟨S73728x1024, .f32⟩
  | 19 => ⟨S73728x1024, .f32⟩
  | 20 => ⟨S73728x1024, .f32⟩
  | 21 => ⟨S1x1024x512, .f32⟩
  | 22 => ⟨S1024x512, .f32⟩
  | 23 => ⟨S73728x512, .f32⟩
  | 24 => ⟨S73728x512, .f32⟩
  | 25 => ⟨S73728x512, .f32⟩
  | 26 => ⟨S_, .f32⟩
  | 27 => ⟨S73728x512, .f32⟩
  | 28 => ⟨S73728x512, .f32⟩
  | 29 => ⟨S_, .f32⟩
  | 30 => ⟨S73728x512, .f32⟩
  | 31 => ⟨S73728x512, .f32⟩
  | 32 => ⟨S73728x512, .f32⟩
  | 33 => ⟨S1x1024x512, .f32⟩
  | 34 => ⟨S1024x512, .f32⟩
  | 35 => ⟨S73728x512, .f32⟩
  | 36 => ⟨S73728x512, .f32⟩
  | 37 => ⟨S73728x1, .f32⟩
  | 38 => ⟨S1x512x1024, .f32⟩
  | 39 => ⟨S512x1024, .f32⟩
  | 40 => ⟨S73728x1024, .f32⟩
  | 41 => ⟨S73728x1024, .f32⟩
  | 42 => ⟨S73728x1024, .f32⟩
  | 43 => ⟨S73728x1024, .f32⟩
  | 44 => ⟨S1x1024x512, .f32⟩
  | 45 => ⟨S1024x512, .f32⟩
  | 46 => ⟨S73728x512, .f32⟩
  | 47 => ⟨S73728x512, .f32⟩
  | 48 => ⟨S73728x512, .f32⟩
  | 49 => ⟨S_, .f32⟩
  | 50 => ⟨S73728x512, .f32⟩
  | 51 => ⟨S73728x512, .f32⟩
  | 52 => ⟨S_, .f32⟩
  | 53 => ⟨S73728x512, .f32⟩
  | 54 => ⟨S73728x512, .f32⟩
  | 55 => ⟨S73728x512, .f32⟩
  | 56 => ⟨S1x1024x512, .f32⟩
  | 57 => ⟨S1024x512, .f32⟩
  | 58 => ⟨S73728x512, .f32⟩
  | 59 => ⟨S73728x512, .f32⟩
  | 60 => ⟨S73728x1, .f32⟩
  | 61 => ⟨S1x512x1024, .f32⟩
  | 62 => ⟨S512x1024, .f32⟩
  | 63 => ⟨S73728x1024, .f32⟩
  | 64 => ⟨S73728x1024, .f32⟩
  | 65 => ⟨S73728x1024, .f32⟩
  | 66 => ⟨S73728x1024, .f32⟩
  | 67 => ⟨S1x1024x512, .f32⟩
  | 68 => ⟨S1024x512, .f32⟩
  | 69 => ⟨S73728x512, .f32⟩
  | 70 => ⟨S73728x512, .f32⟩
  | 71 => ⟨S73728x512, .f32⟩
  | 72 => ⟨S_, .f32⟩
  | 73 => ⟨S73728x512, .f32⟩
  | 74 => ⟨S73728x512, .f32⟩
  | 75 => ⟨S_, .f32⟩
  | 76 => ⟨S73728x512, .f32⟩
  | 77 => ⟨S73728x512, .f32⟩
  | 78 => ⟨S73728x512, .f32⟩
  | 79 => ⟨S1x1024x512, .f32⟩
  | 80 => ⟨S1024x512, .f32⟩
  | 81 => ⟨S73728x512, .f32⟩
  | 82 => ⟨S73728x512, .f32⟩
  | 83 => ⟨S73728x1, .f32⟩
  | 84 => ⟨S1x512x1024, .f32⟩
  | 85 => ⟨S512x1024, .f32⟩
  | 86 => ⟨S73728x1024, .f32⟩
  | 87 => ⟨S73728x1024, .f32⟩
  | 88 => ⟨S73728x1024, .f32⟩
  | 89 => ⟨S73728x1024, .f32⟩
  | 90 => ⟨S1x1024x512, .f32⟩
  | 91 => ⟨S1024x512, .f32⟩
  | 92 => ⟨S73728x512, .f32⟩
  | 93 => ⟨S73728x512, .f32⟩
  | 94 => ⟨S73728x512, .f32⟩
  | 95 => ⟨S_, .f32⟩
  | 96 => ⟨S73728x512, .f32⟩
  | 97 => ⟨S73728x512, .f32⟩
  | 98 => ⟨S_, .f32⟩
  | 99 => ⟨S73728x512, .f32⟩
  | 100 => ⟨S73728x512, .f32⟩
  | 101 => ⟨S73728x512, .f32⟩
  | 102 => ⟨S1x1024x512, .f32⟩
  | 103 => ⟨S1024x512, .f32⟩
  | 104 => ⟨S73728x512, .f32⟩
  | 105 => ⟨S73728x512, .f32⟩
  | 106 => ⟨S73728x1, .f32⟩
  | 107 => ⟨S1x512x1024, .f32⟩
  | 108 => ⟨S512x1024, .f32⟩
  | 109 => ⟨S73728x1024, .f32⟩
  | 110 => ⟨S73728x1024, .f32⟩
  | 111 => ⟨S73728x1024, .f32⟩
  | 112 => ⟨S73728x1024, .f32⟩
  | 113 => ⟨S1x1024x512, .f32⟩
  | 114 => ⟨S1024x512, .f32⟩
  | 115 => ⟨S73728x512, .f32⟩
  | 116 => ⟨S73728x512, .f32⟩
  | 117 => ⟨S73728x512, .f32⟩
  | 118 => ⟨S_, .f32⟩
  | 119 => ⟨S73728x512, .f32⟩
  | 120 => ⟨S73728x512, .f32⟩
  | 121 => ⟨S_, .f32⟩
  | 122 => ⟨S73728x512, .f32⟩
  | 123 => ⟨S73728x512, .f32⟩
  | 124 => ⟨S73728x512, .f32⟩
  | 125 => ⟨S1x1024x512, .f32⟩
  | 126 => ⟨S1024x512, .f32⟩
  | 127 => ⟨S73728x512, .f32⟩
  | _ => ⟨S73728x1024, .bf16⟩

abbrev hbmTy0_2 (i : Nat) : BufTy := match i % 128 with
  | 0 => ⟨S73728x512, .f32⟩
  | 1 => ⟨S73728x1, .f32⟩
  | 2 => ⟨S1x512x1024, .f32⟩
  | 3 => ⟨S512x1024, .f32⟩
  | 4 => ⟨S73728x1024, .f32⟩
  | 5 => ⟨S73728x1024, .f32⟩
  | 6 => ⟨S73728x1024, .f32⟩
  | 7 => ⟨S73728x1024, .f32⟩
  | 8 => ⟨S1x1024x512, .f32⟩
  | 9 => ⟨S1024x512, .f32⟩
  | 10 => ⟨S73728x512, .f32⟩
  | 11 => ⟨S73728x512, .f32⟩
  | 12 => ⟨S73728x512, .f32⟩
  | 13 => ⟨S_, .f32⟩
  | 14 => ⟨S73728x512, .f32⟩
  | 15 => ⟨S73728x512, .f32⟩
  | 16 => ⟨S_, .f32⟩
  | 17 => ⟨S73728x512, .f32⟩
  | 18 => ⟨S73728x512, .f32⟩
  | 19 => ⟨S73728x512, .f32⟩
  | 20 => ⟨S1x1024x512, .f32⟩
  | 21 => ⟨S1024x512, .f32⟩
  | 22 => ⟨S73728x512, .f32⟩
  | 23 => ⟨S73728x512, .f32⟩
  | 24 => ⟨S73728x1, .f32⟩
  | 25 => ⟨S1x512x1024, .f32⟩
  | 26 => ⟨S512x1024, .f32⟩
  | 27 => ⟨S73728x1024, .f32⟩
  | 28 => ⟨S73728x1024, .f32⟩
  | 29 => ⟨S73728x1024, .f32⟩
  | 30 => ⟨S73728x1024, .f32⟩
  | 31 => ⟨S1x1024x512, .f32⟩
  | 32 => ⟨S1024x512, .f32⟩
  | 33 => ⟨S73728x512, .f32⟩
  | 34 => ⟨S73728x512, .f32⟩
  | 35 => ⟨S73728x512, .f32⟩
  | 36 => ⟨S_, .f32⟩
  | 37 => ⟨S73728x512, .f32⟩
  | 38 => ⟨S73728x512, .f32⟩
  | 39 => ⟨S_, .f32⟩
  | 40 => ⟨S73728x512, .f32⟩
  | 41 => ⟨S73728x512, .f32⟩
  | 42 => ⟨S73728x512, .f32⟩
  | 43 => ⟨S1x1024x512, .f32⟩
  | 44 => ⟨S1024x512, .f32⟩
  | 45 => ⟨S73728x512, .f32⟩
  | 46 => ⟨S73728x512, .f32⟩
  | 47 => ⟨S73728x1, .f32⟩
  | 48 => ⟨S1x512x1024, .f32⟩
  | 49 => ⟨S512x1024, .f32⟩
  | 50 => ⟨S73728x1024, .f32⟩
  | 51 => ⟨S73728x1024, .f32⟩
  | 52 => ⟨S73728x1024, .f32⟩
  | 53 => ⟨S73728x1024, .f32⟩
  | 54 => ⟨S1x1024x512, .f32⟩
  | 55 => ⟨S1024x512, .f32⟩
  | 56 => ⟨S73728x512, .f32⟩
  | 57 => ⟨S73728x512, .f32⟩
  | 58 => ⟨S73728x512, .f32⟩
  | 59 => ⟨S_, .f32⟩
  | 60 => ⟨S73728x512, .f32⟩
  | 61 => ⟨S73728x512, .f32⟩
  | 62 => ⟨S_, .f32⟩
  | 63 => ⟨S73728x512, .f32⟩
  | 64 => ⟨S73728x512, .f32⟩
  | 65 => ⟨S73728x512, .f32⟩
  | 66 => ⟨S1x1024x512, .f32⟩
  | 67 => ⟨S1024x512, .f32⟩
  | 68 => ⟨S73728x512, .f32⟩
  | 69 => ⟨S73728x512, .f32⟩
  | 70 => ⟨S73728x1, .f32⟩
  | 71 => ⟨S1x512x1024, .f32⟩
  | 72 => ⟨S512x1024, .f32⟩
  | 73 => ⟨S73728x1024, .f32⟩
  | 74 => ⟨S73728x1024, .f32⟩
  | 75 => ⟨S73728x1024, .f32⟩
  | 76 => ⟨S73728x1024, .f32⟩
  | 77 => ⟨S1x1024x512, .f32⟩
  | 78 => ⟨S1024x512, .f32⟩
  | 79 => ⟨S73728x512, .f32⟩
  | 80 => ⟨S73728x512, .f32⟩
  | 81 => ⟨S73728x512, .f32⟩
  | 82 => ⟨S_, .f32⟩
  | 83 => ⟨S73728x512, .f32⟩
  | 84 => ⟨S73728x512, .f32⟩
  | 85 => ⟨S_, .f32⟩
  | 86 => ⟨S73728x512, .f32⟩
  | 87 => ⟨S73728x512, .f32⟩
  | 88 => ⟨S73728x512, .f32⟩
  | 89 => ⟨S1x1024x512, .f32⟩
  | 90 => ⟨S1024x512, .f32⟩
  | 91 => ⟨S73728x512, .f32⟩
  | 92 => ⟨S73728x512, .f32⟩
  | 93 => ⟨S73728x1, .f32⟩
  | 94 => ⟨S1x512x1024, .f32⟩
  | 95 => ⟨S512x1024, .f32⟩
  | 96 => ⟨S73728x1024, .f32⟩
  | 97 => ⟨S73728x1024, .f32⟩
  | 98 => ⟨S73728x1024, .f32⟩
  | 99 => ⟨S73728x1024, .f32⟩
  | 100 => ⟨S1x1024x512, .f32⟩
  | 101 => ⟨S1024x512, .f32⟩
  | 102 => ⟨S73728x512, .f32⟩
  | 103 => ⟨S73728x512, .f32⟩
  | 104 => ⟨S73728x512, .f32⟩
  | 105 => ⟨S_, .f32⟩
  | 106 => ⟨S73728x512, .f32⟩
  | 107 => ⟨S73728x512, .f32⟩
  | 108 => ⟨S_, .f32⟩
  | 109 => ⟨S73728x512, .f32⟩
  | 110 => ⟨S73728x512, .f32⟩
  | 111 => ⟨S73728x512, .f32⟩
  | 112 => ⟨S1x1024x512, .f32⟩
  | 113 => ⟨S1024x512, .f32⟩
  | 114 => ⟨S73728x512, .f32⟩
  | 115 => ⟨S73728x512, .f32⟩
  | 116 => ⟨S73728x1, .f32⟩
  | 117 => ⟨S1x512x1024, .f32⟩
  | 118 => ⟨S512x1024, .f32⟩
  | 119 => ⟨S73728x1024, .f32⟩
  | 120 => ⟨S73728x1024, .f32⟩
  | 121 => ⟨S73728x1024, .f32⟩
  | 122 => ⟨S73728x1024, .f32⟩
  | 123 => ⟨S32x2304x1024, .f32⟩
  | 124 => ⟨S32x2304x1024, .f32⟩
  | 125 => ⟨S32x1x1x1024, .f32⟩
  | 126 => ⟨S32x1x1024, .f32⟩
  | 127 => ⟨S32x1x1x1024, .f32⟩
  | _ => ⟨S73728x1024, .bf16⟩

abbrev hbmTy0_3 (i : Nat) : BufTy := match i % 128 with
  | 0 => ⟨S32x1x1024, .f32⟩
  | 1 => ⟨S32x256x1024, .f32⟩
  | 2 => ⟨S32x256x1024, .f32⟩
  | 3 => ⟨S32x256x1024, .f32⟩
  | 4 => ⟨S32x256x1024, .f32⟩
  | 5 => ⟨S32x256x1024, .f32⟩
  | 6 => ⟨S32x2048x1024, .f32⟩
  | 7 => ⟨S32x2048x1024, .f32⟩
  | 8 => ⟨S32x2048x1024, .f32⟩
  | 9 => ⟨S32x2048x1024, .f32⟩
  | 10 => ⟨S32x2048x1024, .f32⟩
  | 11 => ⟨S32x2304x1024, .f32⟩
  | 12 => ⟨S73728x1024, .f32⟩
  | _ => ⟨S73728x1024, .bf16⟩

abbrev hbmTy (i : Nat) : BufTy := match i / 128 with
  | 0 => hbmTy0_0 i
  | 1 => hbmTy0_1 i
  | 2 => hbmTy0_2 i
  | 3 => hbmTy0_3 i
  | _ => ⟨S73728x1024, .bf16⟩

abbrev bufTy : (tb : Table) → Fin (tcTables nBuf tb) → BufTy
  | .hbm, ⟨i, _⟩ => hbmTy i
  | _, _ => ⟨S73728x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_call5_v0 : Ref sig .tc := ⟨.hbm, 129, rfl⟩
abbrev main_call5_v1 : Ref sig .tc := ⟨.hbm, 130, rfl⟩
abbrev main_call5_cst : Ref sig .tc := ⟨.hbm, 131, rfl⟩
abbrev main_call5_v2 : Ref sig .tc := ⟨.hbm, 132, rfl⟩
abbrev main_call5_v3 : Ref sig .tc := ⟨.hbm, 133, rfl⟩
abbrev main_call5_cst_0 : Ref sig .tc := ⟨.hbm, 134, rfl⟩
abbrev main_call5_v4 : Ref sig .tc := ⟨.hbm, 135, rfl⟩
abbrev main_call5_v5 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_call6_v0 : Ref sig .tc := ⟨.hbm, 152, rfl⟩
abbrev main_call6_v1 : Ref sig .tc := ⟨.hbm, 153, rfl⟩
abbrev main_call6_cst : Ref sig .tc := ⟨.hbm, 154, rfl⟩
abbrev main_call6_v2 : Ref sig .tc := ⟨.hbm, 155, rfl⟩
abbrev main_call6_v3 : Ref sig .tc := ⟨.hbm, 156, rfl⟩
abbrev main_call6_cst_0 : Ref sig .tc := ⟨.hbm, 157, rfl⟩
abbrev main_call6_v4 : Ref sig .tc := ⟨.hbm, 158, rfl⟩
abbrev main_call6_v5 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_call7_v0 : Ref sig .tc := ⟨.hbm, 175, rfl⟩
abbrev main_call7_v1 : Ref sig .tc := ⟨.hbm, 176, rfl⟩
abbrev main_call7_cst : Ref sig .tc := ⟨.hbm, 177, rfl⟩
abbrev main_call7_v2 : Ref sig .tc := ⟨.hbm, 178, rfl⟩
abbrev main_call7_v3 : Ref sig .tc := ⟨.hbm, 179, rfl⟩
abbrev main_call7_cst_0 : Ref sig .tc := ⟨.hbm, 180, rfl⟩
abbrev main_call7_v4 : Ref sig .tc := ⟨.hbm, 181, rfl⟩
abbrev main_call7_v5 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_call8_v0 : Ref sig .tc := ⟨.hbm, 198, rfl⟩
abbrev main_call8_v1 : Ref sig .tc := ⟨.hbm, 199, rfl⟩
abbrev main_call8_cst : Ref sig .tc := ⟨.hbm, 200, rfl⟩
abbrev main_call8_v2 : Ref sig .tc := ⟨.hbm, 201, rfl⟩
abbrev main_call8_v3 : Ref sig .tc := ⟨.hbm, 202, rfl⟩
abbrev main_call8_cst_0 : Ref sig .tc := ⟨.hbm, 203, rfl⟩
abbrev main_call8_v4 : Ref sig .tc := ⟨.hbm, 204, rfl⟩
abbrev main_call8_v5 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_call9_v0 : Ref sig .tc := ⟨.hbm, 221, rfl⟩
abbrev main_call9_v1 : Ref sig .tc := ⟨.hbm, 222, rfl⟩
abbrev main_call9_cst : Ref sig .tc := ⟨.hbm, 223, rfl⟩
abbrev main_call9_v2 : Ref sig .tc := ⟨.hbm, 224, rfl⟩
abbrev main_call9_v3 : Ref sig .tc := ⟨.hbm, 225, rfl⟩
abbrev main_call9_cst_0 : Ref sig .tc := ⟨.hbm, 226, rfl⟩
abbrev main_call9_v4 : Ref sig .tc := ⟨.hbm, 227, rfl⟩
abbrev main_call9_v5 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_call10_v0 : Ref sig .tc := ⟨.hbm, 244, rfl⟩
abbrev main_call10_v1 : Ref sig .tc := ⟨.hbm, 245, rfl⟩
abbrev main_call10_cst : Ref sig .tc := ⟨.hbm, 246, rfl⟩
abbrev main_call10_v2 : Ref sig .tc := ⟨.hbm, 247, rfl⟩
abbrev main_call10_v3 : Ref sig .tc := ⟨.hbm, 248, rfl⟩
abbrev main_call10_cst_0 : Ref sig .tc := ⟨.hbm, 249, rfl⟩
abbrev main_call10_v4 : Ref sig .tc := ⟨.hbm, 250, rfl⟩
abbrev main_call10_v5 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_call11_v0 : Ref sig .tc := ⟨.hbm, 267, rfl⟩
abbrev main_call11_v1 : Ref sig .tc := ⟨.hbm, 268, rfl⟩
abbrev main_call11_cst : Ref sig .tc := ⟨.hbm, 269, rfl⟩
abbrev main_call11_v2 : Ref sig .tc := ⟨.hbm, 270, rfl⟩
abbrev main_call11_v3 : Ref sig .tc := ⟨.hbm, 271, rfl⟩
abbrev main_call11_cst_0 : Ref sig .tc := ⟨.hbm, 272, rfl⟩
abbrev main_call11_v4 : Ref sig .tc := ⟨.hbm, 273, rfl⟩
abbrev main_call11_v5 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_call12_v0 : Ref sig .tc := ⟨.hbm, 290, rfl⟩
abbrev main_call12_v1 : Ref sig .tc := ⟨.hbm, 291, rfl⟩
abbrev main_call12_cst : Ref sig .tc := ⟨.hbm, 292, rfl⟩
abbrev main_call12_v2 : Ref sig .tc := ⟨.hbm, 293, rfl⟩
abbrev main_call12_v3 : Ref sig .tc := ⟨.hbm, 294, rfl⟩
abbrev main_call12_cst_0 : Ref sig .tc := ⟨.hbm, 295, rfl⟩
abbrev main_call12_v4 : Ref sig .tc := ⟨.hbm, 296, rfl⟩
abbrev main_call12_v5 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_call13_v0 : Ref sig .tc := ⟨.hbm, 313, rfl⟩
abbrev main_call13_v1 : Ref sig .tc := ⟨.hbm, 314, rfl⟩
abbrev main_call13_cst : Ref sig .tc := ⟨.hbm, 315, rfl⟩
abbrev main_call13_v2 : Ref sig .tc := ⟨.hbm, 316, rfl⟩
abbrev main_call13_v3 : Ref sig .tc := ⟨.hbm, 317, rfl⟩
abbrev main_call13_cst_0 : Ref sig .tc := ⟨.hbm, 318, rfl⟩
abbrev main_call13_v4 : Ref sig .tc := ⟨.hbm, 319, rfl⟩
abbrev main_call13_v5 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_v215 : Ref sig .tc := ⟨.hbm, 335, rfl⟩
abbrev main_call14_v0 : Ref sig .tc := ⟨.hbm, 336, rfl⟩
abbrev main_call14_v1 : Ref sig .tc := ⟨.hbm, 337, rfl⟩
abbrev main_call14_cst : Ref sig .tc := ⟨.hbm, 338, rfl⟩
abbrev main_call14_v2 : Ref sig .tc := ⟨.hbm, 339, rfl⟩
abbrev main_call14_v3 : Ref sig .tc := ⟨.hbm, 340, rfl⟩
abbrev main_call14_cst_0 : Ref sig .tc := ⟨.hbm, 341, rfl⟩
abbrev main_call14_v4 : Ref sig .tc := ⟨.hbm, 342, rfl⟩
abbrev main_call14_v5 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_call15_v0 : Ref sig .tc := ⟨.hbm, 359, rfl⟩
abbrev main_call15_v1 : Ref sig .tc := ⟨.hbm, 360, rfl⟩
abbrev main_call15_cst : Ref sig .tc := ⟨.hbm, 361, rfl⟩
abbrev main_call15_v2 : Ref sig .tc := ⟨.hbm, 362, rfl⟩
abbrev main_call15_v3 : Ref sig .tc := ⟨.hbm, 363, rfl⟩
abbrev main_call15_cst_0 : Ref sig .tc := ⟨.hbm, 364, rfl⟩
abbrev main_call15_v4 : Ref sig .tc := ⟨.hbm, 365, rfl⟩
abbrev main_call15_v5 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_v256 : Ref sig .tc := ⟨.hbm, 392, rfl⟩
abbrev main_v257 : Ref sig .tc := ⟨.hbm, 393, rfl⟩
abbrev main_v258 : Ref sig .tc := ⟨.hbm, 394, rfl⟩
abbrev main_v259 : Ref sig .tc := ⟨.hbm, 395, rfl⟩
abbrev main_v260 : Ref sig .tc := ⟨.hbm, 396, rfl⟩

abbrev nD : Nat := 1
abbrev τ : Topo := Topo.v7x

variable {F : FTy → Type} [FloatOps F]
-- ==== InProj.lean ====
abbrev S73728x1024 : Shape := ⟨2, ![73728, 1024]⟩
abbrev S32x2x6x1024 : Shape := ⟨4, ![32, 2, 6, 1024]⟩
abbrev S1024 : Shape := ⟨1, ![1024]⟩
abbrev S1024x10304 : Shape := ⟨2, ![1024, 10304]⟩
abbrev S2x32 : Shape := ⟨2, ![2, 32]⟩
abbrev S1024x5120 : Shape := ⟨2, ![1024, 5120]⟩
abbrev S1024x10240 : Shape := ⟨2, ![1024, 10240]⟩
abbrev S1024x64 : Shape := ⟨2, ![1024, 64]⟩
abbrev S_ : Shape := ⟨0, ![]⟩
abbrev S1024x128 : Shape := ⟨2, ![1024, 128]⟩
abbrev S1x64 : Shape := ⟨2, ![1, 64]⟩
abbrev S1x128 : Shape := ⟨2, ![1, 128]⟩
abbrev S1x1024 : Shape := ⟨2, ![1, 1024]⟩
abbrev S73728x10240 : Shape := ⟨2, ![73728, 10240]⟩
abbrev S73728x128 : Shape := ⟨2, ![73728, 128]⟩
abbrev S256x1024 : Shape := ⟨2, ![256, 1024]⟩
abbrev S1x1x6x1024 : Shape := ⟨4, ![1, 1, 6, 1024]⟩
abbrev S256x10240 : Shape := ⟨2, ![256, 10240]⟩
abbrev S256x128 : Shape := ⟨2, ![256, 128]⟩
abbrev S1x1x1x1024 : Shape := ⟨4, ![1, 1, 1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S73728x64 : Shape := ⟨2, ![73728, 64]⟩

abbrev nBuf : Space → Nat
  | .hbm => 22
  | .vmem => 12
  | .smem => 0
  | _ => 0

abbrev bufTy : (tb : Table) → Fin (tcTables nBuf tb) → BufTy
  | .hbm, ⟨0, _⟩ => ⟨S73728x1024, .f32⟩
  | .hbm, ⟨1, _⟩ => ⟨S32x2x6x1024, .f32⟩
  | .hbm, ⟨2, _⟩ => ⟨S1024, .f32⟩
  | .hbm, ⟨3, _⟩ => ⟨S1024x10304, .f32⟩
  | .hbm, ⟨4, _⟩ => ⟨S2x32, .f32⟩
  | .hbm, ⟨5, _⟩ => ⟨S1024x5120, .f32⟩
  | .hbm, ⟨6, _⟩ => ⟨S1024x5120, .f32⟩
  | .hbm, ⟨7, _⟩ => ⟨S1024x10240, .f32⟩
  | .hbm, ⟨8, _⟩ => ⟨S1024x10240, .bf16⟩
  | .hbm, ⟨9, _⟩ => ⟨S1024x64, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x64, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x1024, .f32⟩
  | .hbm, ⟨19, _⟩ => ⟨S73728x10240, .bf16⟩
  | .hbm, ⟨20, _⟩ => ⟨S73728x128, .f32⟩
  | .hbm, ⟨21, _⟩ => ⟨S73728x64, .f32⟩
  | .local _ .vmem, ⟨0, _⟩ => ⟨S256x1024, .f32⟩
  | .local _ .vmem, ⟨1, _⟩ => ⟨S256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x10240, .bf16⟩
  | .local _ .vmem, ⟨6, _⟩ => ⟨S1024x128, .bf16⟩
  | .local _ .vmem, ⟨7, _⟩ => ⟨S1x128, .f32⟩
  | .local _ .vmem, ⟨8, _⟩ => ⟨S256x10240, .bf16⟩
  | .local _ .vmem, ⟨9, _⟩ => ⟨S256x10240, .bf16⟩
  | .local _ .vmem, ⟨10, _⟩ => ⟨S256x128, .f32⟩
  | .local _ .vmem, ⟨11, _⟩ => ⟨S256x128, .f32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![288], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x10240 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjRefIdeal.lean ====
abbrev S73728x1024 : Shape := ⟨2, ![73728, 1024]⟩
abbrev S32x2x6x1024 : Shape := ⟨4, ![32, 2, 6, 1024]⟩
abbrev S1024 : Shape := ⟨1, ![1024]⟩
abbrev S1024x10304 : Shape := ⟨2, ![1024, 10304]⟩
abbrev S2x32 : Shape := ⟨2, ![2, 32]⟩
abbrev S32x2304x1024 : Shape := ⟨3, ![32, 2304, 1024]⟩
abbrev S32x256x1024 : Shape := ⟨3, ![32, 256, 1024]⟩
abbrev S32x1x1x1024 : Shape := ⟨4, ![32, 1, 1, 1024]⟩
abbrev S32x1x1024 : Shape := ⟨3, ![32, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x2048x1024 : Shape := ⟨3, ![32, 2048, 1024]⟩
abbrev S32x2048 : Shape := ⟨2, ![32, 2048]⟩
abbrev S32x2048x1 : Shape := ⟨3, ![32, 2048, 1]⟩
abbrev S32x2304x10304 : Shape := ⟨3, ![32, 2304, 10304]⟩
abbrev S32x2304x5120 : Shape := ⟨3, ![32, 2304, 5120]⟩
abbrev S32x2304x10240 : Shape := ⟨3, ![32, 2304, 10240]⟩
abbrev S32x2304x64 : Shape := ⟨3, ![32, 2304, 64]⟩
abbrev S32x2304x2x32 : Shape := ⟨4, ![32, 2304, 2, 32]⟩
abbrev S1x1x2x32 : Shape := ⟨4, ![1, 1, 2, 32]⟩
abbrev S73728x10240 : Shape := ⟨2, ![73728, 10240]⟩
abbrev S73728x64 : Shape := ⟨2, ![73728, 64]⟩

abbrev nBuf : Space → Nat
  | .hbm => 89
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S32x2x6x1024, .f32⟩
  | .hbm, ⟨2, _⟩ => ⟨S1024, .f32⟩
  | .hbm, ⟨3, _⟩ => ⟨S1024x10304, .f32⟩
  | .hbm, ⟨4, _⟩ => ⟨S2x32, .f32⟩
  | .hbm, ⟨5, _⟩ => ⟨S32x2304x1024, .f32⟩
  | .hbm, ⟨6, _⟩ => ⟨S32x256x1024, .f32⟩
  | .hbm, ⟨7, _⟩ => ⟨S32x1x1x1024, .f32⟩
  | .hbm, ⟨8, _⟩ => ⟨S32x1x1024, .f32⟩
  | .hbm, ⟨9, _⟩ => ⟨S32x1x1x1024, .f32⟩
  | .hbm, ⟨10, _⟩ => ⟨S32x1x1024, .f32⟩
  | .hbm, ⟨11, _⟩ => ⟨S32x256x1024, .f32⟩
  | .hbm, ⟨12, _⟩ => ⟨S_, .f32⟩
  | .hbm, ⟨13, _⟩ => ⟨S32x256, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x2048x1024, .f32⟩
  | .hbm, ⟨35, _⟩ => ⟨S32x1x1x1024, .f32⟩
  | .hbm, ⟨36, _⟩ => ⟨S32x1x1024, .f32⟩
  | .hbm, ⟨37, _⟩ => ⟨S32x1x1x1024, .f32⟩
  | .hbm, ⟨38, _⟩ => ⟨S32x1x1024, .f32⟩
  | .hbm, ⟨39, _⟩ => ⟨S32x2048x1024, .f32⟩
  | .hbm, ⟨40, _⟩ => ⟨S_, .f32⟩
  | .hbm, ⟨41, _⟩ => ⟨S32x2048, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1, .f32⟩
  | .hbm, ⟨50, _⟩ => ⟨S32x2048x1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | .hbm, ⟨55, _⟩ => ⟨S_, .f32⟩
  | .hbm, ⟨56, _⟩ => ⟨S32x1x1024, .f32⟩
  | .hbm, ⟨57, _⟩ => ⟨S32x1x1024, .f32⟩
  | .hbm, ⟨58, _⟩ => ⟨S32x2048x1024, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S32x2304x1024, .f32⟩
  | .hbm, ⟨63, _⟩ => ⟨S32x2304x10304, .f32⟩
  | .hbm, ⟨64, _⟩ => ⟨S32x2304x5120, .f32⟩
  | .hbm, ⟨65, _⟩ => ⟨S32x2304x5120, .f32⟩
  | .hbm, ⟨66, _⟩ => ⟨S32x2304x10240, .f32⟩
  | .hbm, ⟨67, _⟩ => ⟨S32x2304x64, .f32⟩
  | .hbm, ⟨68, _⟩ => ⟨S32x2304x2x32, .f32⟩
  | .hbm, ⟨69, _⟩ => ⟨S1x1x2x32, .f32⟩
  | .hbm, ⟨70, _⟩ => ⟨S32x2304x2x32, .f32⟩
  | .hbm, ⟨71, _⟩ => ⟨S32x2304x2x32, .f32⟩
  | .hbm, ⟨72, _⟩ => ⟨S_, .f32⟩
  | .hbm, ⟨73, _⟩ => ⟨S32x2304x2x32, .f32⟩
  | .hbm, ⟨74, _⟩ => ⟨S32x2304x2x32, .f32⟩
  | .hbm, ⟨75, _⟩ => ⟨S32x2304x2x32, .f32⟩
  | .hbm, ⟨76, _⟩ => ⟨S32x2304x2x32, .f32⟩
  | .hbm, ⟨77, _⟩ => ⟨S32x2304x2x32, .i1⟩
  | .hbm, ⟨78, _⟩ => ⟨S32x2304x2x32, .f32⟩
  | .hbm, ⟨79, _⟩ => ⟨S32x2304x2x32, .f32⟩
  | .hbm, ⟨80, _⟩ => ⟨S32x2304x2x32, .f32⟩
  | .hbm, ⟨81, _⟩ => ⟨S32x2304x2x32, .f32⟩
  | .hbm, ⟨82, _⟩ => ⟨S32x2304x2x32, .f32⟩
  | .hbm, ⟨83, _⟩ => ⟨S32x2304x2x32, .f32⟩
  | .hbm, ⟨84, _⟩ => ⟨S32x2304x2x32, .f32⟩
  | .hbm, ⟨85, _⟩ => ⟨S32x2304x2x32, .f32⟩
  | .hbm, ⟨86, _⟩ => ⟨S73728x10240, .f32⟩
  | .hbm, ⟨87, _⟩ => ⟨S73728x10240, .bf16⟩
  | .hbm, ⟨88, _⟩ => ⟨S73728x64, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== MixOut.lean ====
abbrev S73728x1024 : Shape := ⟨2, ![73728, 1024]⟩
abbrev S32x2304x2048 : Shape := ⟨3, ![32, 2304, 2048]⟩
abbrev S32x2304x3072 : Shape := ⟨3, ![32, 2304, 3072]⟩
abbrev S73728x10240 : Shape := ⟨2, ![73728, 10240]⟩
abbrev S32x2x6x1024 : Shape := ⟨4, ![32, 2, 6, 1024]⟩
abbrev S32 : Shape := ⟨1, ![32]⟩
abbrev S2048 : Shape := ⟨1, ![2048]⟩
abbrev S2048x1024 : Shape := ⟨2, ![2048, 1024]⟩
abbrev S3x1024 : Shape := ⟨2, ![3, 1024]⟩
abbrev S1024x1024 : Shape := ⟨2, ![1024, 1024]⟩
abbrev S73728x2048 : Shape := ⟨2, ![73728, 2048]⟩
abbrev S73728x3072 : Shape := ⟨2, ![73728, 3072]⟩
abbrev S32x64 : Shape := ⟨2, ![32, 64]⟩
abbrev S1x2048 : Shape := ⟨2, ![1, 2048]⟩
abbrev S256x1024 : Shape := ⟨2, ![256, 1024]⟩
abbrev S256x2048 : Shape := ⟨2, ![256, 2048]⟩
abbrev S1x1x6x1024 : Shape := ⟨4, ![1, 1, 6, 1024]⟩
abbrev S256 : Shape := ⟨1, ![256]⟩
abbrev S256x1 : Shape := ⟨2, ![256, 1]⟩
abbrev S1x1024 : Shape := ⟨2, ![1, 1024]⟩
abbrev S1x1x1x1024 : Shape := ⟨4, ![1, 1, 1, 1024]⟩

abbrev nBuf : Space → Nat
  | .hbm => 21
  | .vmem => 28
  | .smem => 0
  | _ => 0

abbrev bufTy : (tb : Table) → Fin (tcTables nBuf tb) → BufTy
  | .hbm, ⟨0, _⟩ => ⟨S73728x1024, .f32⟩
  | .hbm, ⟨1, _⟩ => ⟨S32x2304x2048, .bf16⟩
  | .hbm, ⟨2, _⟩ => ⟨S32x2304x3072, .bf16⟩
  | .hbm, ⟨3, _⟩ => ⟨S73728x10240, .bf16⟩
  | .hbm, ⟨4, _⟩ => ⟨S32x2x6x1024, .f32⟩
  | .hbm, ⟨5, _⟩ => ⟨S32, .f32⟩
  | .hbm, ⟨6, _⟩ => ⟨S2048, .f32⟩
  | .hbm, ⟨7, _⟩ => ⟨S2048x1024, .f32⟩
  | .hbm, ⟨8, _⟩ => ⟨S3x1024, .f32⟩
  | .hbm, ⟨9, _⟩ => ⟨S1024x1024, .f32⟩
  | .hbm, ⟨10, _⟩ => ⟨S1024x1024, .f32⟩
  | .hbm, ⟨11, _⟩ => ⟨S73728x2048, .bf16⟩
  | .hbm, ⟨12, _⟩ => ⟨S73728x3072, .bf16⟩
  | .hbm, ⟨13, _⟩ => ⟨S32x64, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S2048x1024, .bf16⟩
  | .hbm, ⟨18, _⟩ => ⟨S1024x1024, .bf16⟩
  | .hbm, ⟨19, _⟩ => ⟨S1024x1024, .bf16⟩
  | .hbm, ⟨20, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1x6x1024, .f32⟩
  | .local _ .vmem, ⟨19, _⟩ => ⟨S1x1x6x1024, .f32⟩
  | .local _ .vmem, ⟨20, _⟩ => ⟨S1x2048, .f32⟩
  | .local _ .vmem, ⟨21, _⟩ => ⟨S1x2048, .f32⟩
  | .local _ .vmem, ⟨22, _⟩ => ⟨S2048x1024, .bf16⟩
  | .local _ .vmem, ⟨23, _⟩ => ⟨S3x1024, .f32⟩
  | .local _ .vmem, ⟨24, _⟩ => ⟨S1024x1024, .bf16⟩
  | .local _ .vmem, ⟨25, _⟩ => ⟨S1024x1024, .bf16⟩
  | .local _ .vmem, ⟨26, _⟩ => ⟨S256x1024, .f32⟩
  | .local _ .vmem, ⟨27, _⟩ => ⟨S256x1024, .f32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![288], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixOutRefIdeal.lean ====
abbrev S73728x1024 : Shape := ⟨2, ![73728, 1024]⟩
abbrev S32x2304x2048 : Shape := ⟨3, ![32, 2304, 2048]⟩
abbrev S32x2304x3072 : Shape := ⟨3, ![32, 2304, 3072]⟩
abbrev S73728x10240 : Shape := ⟨2, ![73728, 10240]⟩
abbrev S32x2x6x1024 : Shape := ⟨4, ![32, 2, 6, 1024]⟩
abbrev S32 : Shape := ⟨1, ![32]⟩
abbrev S2048 : Shape := ⟨1, ![2048]⟩
abbrev S2048x1024 : Shape := ⟨2, ![2048, 1024]⟩
abbrev S3x1024 : Shape := ⟨2, ![3, 1024]⟩
abbrev S1024x1024 : Shape := ⟨2, ![1024, 1024]⟩
abbrev S73728x2048 : Shape := ⟨2, ![73728, 2048]⟩
abbrev S73728x3072 : Shape := ⟨2, ![73728, 3072]⟩
abbrev S73728x32x64 : Shape := ⟨3, ![73728, 32, 64]⟩
abbrev S32x1 : Shape := ⟨2, ![32, 1]⟩
abbrev S1x32x1 : Shape := ⟨3, ![1, 32, 1]⟩
abbrev S_ : Shape := ⟨0, ![]⟩
abbrev S73728 : Shape := ⟨1, ![73728]⟩
abbrev S73728x1 : Shape := ⟨2, ![73728, 1]⟩
abbrev S1x2048 : Shape := ⟨2, ![1, 2048]⟩
abbrev S32x2304x1024 : Shape := ⟨3, ![32, 2304, 1024]⟩
abbrev S32x256x1024 : Shape := ⟨3, ![32, 256, 1024]⟩
abbrev S32x258x1024 : Shape := ⟨3, ![32, 258, 1024]⟩
abbrev S1x1024 : Shape := ⟨2, ![1, 1024]⟩
abbrev S1024 : Shape := ⟨1, ![1024]⟩
abbrev S1x1x1024 : Shape := ⟨3, ![1, 1, 1024]⟩
abbrev S32x2048x1024 : Shape := ⟨3, ![32, 2048, 1024]⟩
abbrev S1024x64x1024 : Shape := ⟨3, ![1024, 64, 1024]⟩
abbrev S1024x66x1024 : Shape := ⟨3, ![1024, 66, 1024]⟩
abbrev S32x1x1x1024 : Shape := ⟨4, ![32, 1, 1, 1024]⟩
abbrev S32x1x1024 : Shape := ⟨3, ![32, 1, 1024]⟩

abbrev nBuf : Space → Nat
  | .hbm => 151
  | .vmem => 0
  | .smem => 0
  | _ => 0

abbrev hbmTy0_0 (i : Nat) : BufTy := match i % 128 with
  | 0 => ⟨S73728x1024, .f32⟩
  | 1 => ⟨S32x2304x2048, .bf16⟩
  | 2 => ⟨S32x2304x3072, .bf16⟩
  | 3 => ⟨S73728x10240, .bf16⟩
  | 4 => ⟨S32x2x6x1024, .f32⟩
  | 5 => ⟨S32, .f32⟩
  | 6 => ⟨S2048, .f32⟩
  | 7 => ⟨S2048x1024, .f32⟩
  | 8 => ⟨S3x1024, .f32⟩
  | 9 => ⟨S1024x1024, .f32⟩
  | 10 => ⟨S1024x1024, .f32⟩
  | 11 => ⟨S73728x2048, .bf16⟩
  | 12 => ⟨S73728x2048, .f32⟩
  | 13 => ⟨S73728x3072, .bf16⟩
  | 14 => ⟨S73728x10240, .f32⟩
  | 15 => ⟨S73728x1024, .f32⟩
  | 16 => ⟨S73728x1024, .f32⟩
  | 17 => ⟨S73728x1024, .f32⟩
  | 18 => ⟨S73728x1024, .f32⟩
  | 19 => ⟨S73728x1024, .f32⟩
  | 20 => ⟨S73728x2048, .bf16⟩
  | 21 => ⟨S73728x2048, .f32⟩
  | 22 => ⟨S73728x2048, .f32⟩
  | 23 => ⟨S73728x32x64, .f32⟩
  | 24 => ⟨S32x1, .f32⟩
  | 25 => ⟨S1x32x1, .f32⟩
  | 26 => ⟨S73728x32x64, .f32⟩
  | 27 => ⟨S73728x32x64, .f32⟩
  | 28 => ⟨S73728x2048, .f32⟩
  | 29 => ⟨S73728x2048, .f32⟩
  | 30 => ⟨S73728x2048, .f32⟩
  | 31 => ⟨S73728x2048, .f32⟩
  | 32 => ⟨S_, .f32⟩
  | 33 => ⟨S73728x2048, .f32⟩
  | 34 => ⟨S73728x2048, .f32⟩
  | 35 => ⟨S_, .f32⟩
  | 36 => ⟨S73728x2048, .f32⟩
  | 37 => ⟨S73728x2048, .f32⟩
  | 38 => ⟨S73728x2048, .f32⟩
  | 39 => ⟨S73728x2048, .f32⟩
  | 40 => ⟨S73728x2048, .f32⟩
  | 41 => ⟨S_, .f32⟩
  | 42 => ⟨S73728, .f32⟩
  | 43 => ⟨S73728x1, .f32⟩
  | 44 => ⟨S_, .f32⟩
  | 45 => ⟨S73728x1, .f32⟩
  | 46 => ⟨S73728x1, .f32⟩
  | 47 => ⟨S_, .f32⟩
  | 48 => ⟨S73728x1, .f32⟩
  | 49 => ⟨S73728x1, .f32⟩
  | 50 => ⟨S73728x1, .f32⟩
  | 51 => ⟨S73728x2048, .f32⟩
  | 52 => ⟨S73728x2048, .f32⟩
  | 53 => ⟨S1x2048, .f32⟩
  | 54 => ⟨S73728x2048, .f32⟩
  | 55 => ⟨S73728x2048, .f32⟩
  | 56 => ⟨S73728x1024, .f32⟩
  | 57 => ⟨S73728x1024, .f32⟩
  | 58 => ⟨S32x2304x1024, .f32⟩
  | 59 => ⟨S32x256x1024, .f32⟩
  | 60 => ⟨S_, .i32⟩
  | 61 => ⟨S_, .f32⟩
  | 62 => ⟨S32x258x1024, .f32⟩
  | 63 => ⟨S1x1024, .f32⟩
  | 64 => ⟨S1024, .f32⟩
  | 65 => ⟨S32x256x1024, .f32⟩
  | 66 => ⟨S1x1x1024, .f32⟩
  | 67 => ⟨S32x256x1024, .f32⟩
  | 68 => ⟨S32x256x1024, .f32⟩
  | 69 => ⟨S1x1024, .f32⟩
  | 70 => ⟨S1024, .f32⟩
  | 71 => ⟨S32x256x1024, .f32⟩
  | 72 => ⟨S1x1x1024, .f32⟩
  | 73 => ⟨S32x256x1024, .f32⟩
  | 74 => ⟨S32x256x1024, .f32⟩
  | 75 => ⟨S32x256x1024, .f32⟩
  | 76 => ⟨S1x1024, .f32⟩
  | 77 => ⟨S1024, .f32⟩
  | 78 => ⟨S32x256x1024, .f32⟩
  | 79 => ⟨S1x1x1024, .f32⟩
  | 80 => ⟨S32x256x1024, .f32⟩
  | 81 => ⟨S32x256x1024, .f32⟩
  | 82 => ⟨S32x256x1024, .f32⟩
  | 83 => ⟨S32x2048x1024, .f32⟩
  | 84 => ⟨S1024x64x1024, .f32⟩
  | 85 => ⟨S_, .i32⟩
  | 86 => ⟨S_, .f32⟩
  | 87 => ⟨S1024x66x1024, .f32⟩
  | 88 => ⟨S1x1024, .f32⟩
  | 89 => ⟨S1024, .f32⟩
  | 90 => ⟨S1024x64x1024, .f32⟩
  | 91 => ⟨S1x1x1024, .f32⟩
  | 92 => ⟨S1024x64x1024, .f32⟩
  | 93 => ⟨S1024x64x1024, .f32⟩
  | 94 => ⟨S1x1024, .f32⟩
  | 95 => ⟨S1024, .f32⟩
  | 96 => ⟨S1024x64x1024, .f32⟩
  | 97 => ⟨S1x1x1024, .f32⟩
  | 98 => ⟨S1024x64x1024, .f32⟩
  | 99 => ⟨S1024x64x1024, .f32⟩
  | 100 => ⟨S1024x64x1024, .f32⟩
  | 101 => ⟨S1x1024, .f32⟩
  | 102 => ⟨S1024, .f32⟩
  | 103 => ⟨S1024x64x1024, .f32⟩
  | 104 => ⟨S1x1x1024, .f32⟩
  | 105 => ⟨S1024x64x1024, .f32⟩
  | 106 => ⟨S1024x64x1024, .f32⟩
  | 107 => ⟨S1024x64x1024, .f32⟩
  | 108 => ⟨S32x2048x1024, .f32⟩
  | 109 => ⟨S32x2304x1024, .f32⟩
  | 110 => ⟨S73728x1024, .f32⟩
  | 111 => ⟨S73728x1024, .f32⟩
  | 112 => ⟨S73728x1024, .f32⟩
  | 113 => ⟨S73728x1024, .f32⟩
  | 114 => ⟨S73728x1024, .f32⟩
  | 115 => ⟨S_, .f32⟩
  | 116 => ⟨S73728x1024, .f32⟩
  | 117 => ⟨S73728x1024, .f32⟩
  | 118 => ⟨S_, .f32⟩
  | 119 => ⟨S73728x1024, .f32⟩
  | 120 => ⟨S73728x1024, .f32⟩
  | 121 => ⟨S73728x1024, .f32⟩
  | 122 => ⟨S73728x1024, .f32⟩
  | 123 => ⟨S73728x1024, .f32⟩
  | 124 => ⟨S_, .f32⟩
  | 125 => ⟨S73728x1024, .f32⟩
  | 126 => ⟨S73728x1024, .f32⟩
  | 127 => ⟨S_, .f32⟩
  | _ => ⟨S73728x1024, .f32⟩

abbrev hbmTy0_1 (i : Nat) : BufTy := match i % 128 with
  | 0 => ⟨S73728x1024, .f32⟩
  | 1 => ⟨S73728x1024, .f32⟩
  | 2 => ⟨S73728x1024, .f32⟩
  | 3 => ⟨S73728x1024, .f32⟩
  | 4 => ⟨S73728x1024, .f32⟩
  | 5 => ⟨S32x2304x1024, .f32⟩
  | 6 => ⟨S32x2304x1024, .f32⟩
  | 7 => ⟨S32x256x1024, .f32⟩
  | 8 => ⟨S32x1x1x1024, .f32⟩
  | 9 => ⟨S32x1x1024, .f32⟩
  | 10 => ⟨S32x256x1024, .f32⟩
  | 11 => ⟨S32x256x1024, .f32⟩
  | 12 => ⟨S32x256x1024, .f32⟩
  | 13 => ⟨S32x256x1024, .f32⟩
  | 14 => ⟨S32x2048x1024, .f32⟩
  | 15 => ⟨S32x1x1x1024, .f32⟩
  | 16 => ⟨S32x1x1024, .f32⟩
  | 17 => ⟨S32x2048x1024, .f32⟩
  | 18 => ⟨S32x2048x1024, .f32⟩
  | 19 => ⟨S32x2048x1024, .f32⟩
  | 20 => ⟨S32x2048x1024, .f32⟩
  | 21 => ⟨S32x2304x1024, .f32⟩
  | 22 => ⟨S73728x1024, .f32⟩
  | _ => ⟨S73728x1024, .f32⟩

abbrev hbmTy (i : Nat) : BufTy := match i / 128 with
  | 0 => hbmTy0_0 i
  | 1 => hbmTy0_1 i
  | _ => ⟨S73728x1024, .f32⟩

abbrev bufTy : (tb : Table) → Fin (tcTables nBuf tb) → BufTy
  | .hbm, ⟨i, _⟩ => hbmTy i
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_2 : Ref sig .tc := ⟨.hbm, 85, rfl⟩
abbrev main_call2_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_3 : Ref sig .tc := ⟨.hbm, 115, rfl⟩
abbrev main_v89 : Ref sig .tc := ⟨.hbm, 116, rfl⟩
abbrev main_v90 : Ref sig .tc := ⟨.hbm, 117, rfl⟩
abbrev main_cst_4 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_5 : Ref sig .tc := ⟨.hbm, 124, rfl⟩
abbrev main_v96 : Ref sig .tc := ⟨.hbm, 125, rfl⟩
abbrev main_v97 : Ref sig .tc := ⟨.hbm, 126, rfl⟩
abbrev main_cst_6 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩

abbrev nD : Nat := 1
abbrev τ : Topo := Topo.v7x

variable {F : FTy → Type} [FloatOps F]
-- ==== Norm.lean ====
abbrev S73728x1024 : Shape := ⟨2, ![73728, 1024]⟩
abbrev S1024 : Shape := ⟨1, ![1024]⟩
abbrev S32x2304x1024 : Shape := ⟨3, ![32, 2304, 1024]⟩
abbrev S1x1024 : Shape := ⟨2, ![1, 1024]⟩
abbrev S32x2048x1024 : Shape := ⟨3, ![32, 2048, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S73728x1024, .f32⟩
  | .hbm, ⟨1, _⟩ => ⟨S1024, .f32⟩
  | .hbm, ⟨2, _⟩ => ⟨S32x2304x1024, .f32⟩
  | .hbm, ⟨3, _⟩ => ⟨S1x1024, .f32⟩
  | .hbm, ⟨4, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormRefIdeal.lean ====
abbrev S73728x1024 : Shape := ⟨2, ![73728, 1024]⟩
abbrev S1024 : Shape := ⟨1, ![1024]⟩
abbrev S32x2304x1024 : Shape := ⟨3, ![32, 2304, 1024]⟩
abbrev S32x2048x1024 : Shape := ⟨3, ![32, 2048, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S1024, .f32⟩
  | .hbm, ⟨2, _⟩ => ⟨S32x2304x1024, .f32⟩
  | .hbm, ⟨3, _⟩ => ⟨S32x2048x1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.ScanRefRun.lean ====
/-
The reference of the scan's run, stated by its trips.  A valuation holds a state when it gives the
loop's buffers the state's values; one trip then keeps it holding with the next state.  So the run's result
is the last field of the state after eighteen trips from the state the host code before the loop leaves.
Each field of that first state is read off by a lemma of its own.
-/
module

public import proofs.«01_k».proof.Proof.Gen.ScanRefIdeal.Run
public import proofs.«01_k».proof.Proof.Gen.ScanRefIdeal.Step

@[expose] public section

noncomputable section

namespace Cert.ScanRefIdeal.Trips

open Idealize.ShloMosaic Idealize.ShloMosaic.TcCoe Idealize.SL.Sem Idealize.ShloMosaic.StableHlo
open Cert.ScanRefIdeal Cert.ScanRefIdeal.Gen Cert.ScanRefIdeal.Value
open Cert.ScanRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v66_8) = s.main_v66_8
  f_9 : V0 (Proc.devRef .tc main_v66_9) = s.main_v66_9
  f_0 : V0 (Proc.devRef .tc main_v66_0) = s.main_v66_0
  f_1 : V0 (Proc.devRef .tc main_v66_1) = s.main_v66_1
  f_2 : V0 (Proc.devRef .tc main_v66_2) = s.main_v66_2
  f_3 : V0 (Proc.devRef .tc main_v66_3) = s.main_v66_3
  f_4 : V0 (Proc.devRef .tc main_v66_4) = s.main_v66_4
  f_5 : V0 (Proc.devRef .tc main_v66_5) = s.main_v66_5
  n_7 : V0 (Proc.devRef .tc main_v66_7) = constantI S_ 32 (BitVec.ofNat 32 j)
  k_6 : V0 (Proc.devRef .tc main_v66_6) = Cert.ScanRefIdeal.Step.K_main_v63 (F := F)

variable {V0 s j}

set_option maxRecDepth 8192 in
theorem al_0 (h : Holds V0 s j) : (constantI S_ 32 0#32 : (Proc.devRef .tc main_while0b_call13_c : DevRef τ sig).ty.Contents (Elt F)) = Cert.ScanRefIdeal.Step.b0 j s := by
  unfold Cert.ScanRefIdeal.Step.b0
  rfl
set_option maxRecDepth 8192 in
theorem al_1 (h : Holds V0 s j) : (constantI S_ 32 0#32 : (Proc.devRef .tc main_while0b_call13_c_0 : DevRef τ sig).ty.Contents (Elt F)) = Cert.ScanRefIdeal.Step.b1 j s := by
  unfold Cert.ScanRefIdeal.Step.b1
  rfl
set_option maxRecDepth 8192 in
theorem al_2 (h : Holds V0 s j) : (constantI S_ 32 0#32 : (Proc.devRef .tc main_while0b_call13_c_1 : DevRef τ sig).ty.Contents (Elt F)) = Cert.ScanRefIdeal.Step.b2 j s := by
  unfold Cert.ScanRefIdeal.Step.b2
  rfl
set_option maxRecDepth 8192 in
theorem al_3 (h : Holds V0 s j) : (Host.dynamicSlice S1x64x128x3072 (V0 (Proc.devRef .tc main_v66_0)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x128x3072_S1x64x128x3072 : (Proc.devRef .tc main_while0b_call13_v0 : DevRef τ sig).ty.Contents (Elt F)) = Cert.ScanRefIdeal.Step.b3 j s := by
  unfold Cert.ScanRefIdeal.Step.b3
  rw [← al_0 h, ← al_1 h, ← al_2 h, h.f_0, h.n_7]
  try rfl
set_option maxRecDepth 8192 in
theorem al_4 (h : Holds V0 s j) : (res_main_while0b_v78 V0 : (Proc.devRef .tc main_while0b_v78 : DevRef τ sig).ty.Contents (Elt F)) = Cert.ScanRefIdeal.Step.b4 j s := by
  unfold res_main_while0b_v78 Cert.ScanRefIdeal.Step.b4
  rw [← al_3 h]
  try rfl
set_option maxRecDepth 8192 in
theorem al_5 (h : Holds V0 s j) : (constantI S_ 32 0#32 : (Proc.devRef .tc main_while0b_call14_c : DevRef τ sig).ty.Contents (Elt F)) = Cert.ScanRefIdeal.Step.b5 j s := by
  unfold Cert.ScanRefIdeal.Step.b5
  rfl
set_option maxRecDepth 8192 in
theorem al_6 (h : Holds V0 s j) : (constantI S_ 32 0#32 : (Proc.devRef .tc main_while0b_call14_c_0 : DevRef τ sig).ty.Contents (Elt F)) = Cert.ScanRefIdeal.Step.b6 j s := by
  unfold Cert.ScanRefIdeal.Step.b6
  rfl
set_option maxRecDepth 8192 in
theorem al_7 (h : Holds V0 s j) : (constantI S_ 32 0#32 : (Proc.devRef .tc main_while0b_call14_c_1 : DevRef τ sig).ty.Contents (Elt F)) = Cert.ScanRefIdeal.Step.b7 j s := by
  unfold Cert.ScanRefIdeal.Step.b7
  rfl
set_option maxRecDepth 8192 in
theorem al_8 (h : Holds V0 s j) : (constantI S_ 32 0#32 : (Proc.devRef .tc main_while0b_call14_c_2 : DevRef τ sig).ty.Contents (Elt F)) = Cert.ScanRefIdeal.Step.b8 j s := by
  unfold Cert.ScanRefIdeal.Step.b8
  rfl
set_option maxRecDepth 8192 in
theorem al_9 (h : Holds V0 s j) : (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8 : (Proc.devRef .tc main_while0b_call14_v0 : DevRef τ sig).ty.Contents (Elt F)) = Cert.ScanRefIdeal.Step.b9 j s := by
  unfold Cert.ScanRefIdeal.Step.b9
  rw [← al_5 h, ← al_6 h, ← al_7 h, ← al_8 h, h.f_1, h.n_7]
  try rfl
set_option maxRecDepth 8192 in
theorem al_10 (h : Holds V0 s j) : (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8 : (Proc.devRef .tc main_while0b_v79 : DevRef τ sig).ty.Contents (Elt F)) = Cert.ScanRefIdeal.Step.b10 j s := by
  unfold Cert.ScanRefIdeal.Step.b10
  rw [← al_9 h]
  try rfl
set_option maxRecDepth 8192 in
theorem al_11 (h : Holds V0 s j) : (constantI S_ 32 0#32 : (Proc.devRef .tc main_while0b_call15_c : DevRef τ sig).ty.Contents (Elt F)) = Cert.ScanRefIdeal.Step.b11 j s := by
  unfold Cert.ScanRefIdeal.Step.b11
  rfl
set_option maxRecDepth 8192 in
theorem al_12 (h : Holds V0 s j) : (constantI S_ 32 0#32 : (Proc.devRef .tc main_while0b_call15_c_0 : DevRef τ sig).ty.Contents (Elt F)) = Cert.ScanRefIdeal.Step.b12 j s := by
  unfold Cert.ScanRefIdeal.Step.b12
  rfl
set_option maxRecDepth 8192 in
theorem al_13 (h : Holds V0 s j) : (constantI S_ 32 0#32 : (Proc.devRef .tc main_while0b_call15_c_1 : DevRef τ sig).ty.Contents (Elt F)) = Cert.ScanRefIdeal.Step.b13 j s := by
  unfold Cert.ScanRefIdeal.Step.b13
  rfl
set_option maxRecDepth 8192 in
theorem al_14 (h : Holds V0 s j) : (constantI S_ 32 0#32 : (Proc.devRef .tc main_while0b_call15_c_2 : DevRef τ sig).ty.Contents (Elt F)) = Cert.ScanRefIdeal.Step.b14 j s := by
  unfold Cert.ScanRefIdeal.Step.b14
  rfl
set_option maxRecDepth 8192 in
theorem al_15 (h : Holds V0 s j) : (Host.dynamicSlice S1x64x128x4x8 (V0 (Proc.devRef .tc main_v66_2)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8 : (Proc.devRef .tc main_while0b_call15_v0 : DevRef τ sig).ty.Contents (Elt F)) = Cert.ScanRefIdeal.Step.b15 j s := by
  unfold Cert.ScanRefIdeal.Step.b15
  rw [← al_11 h, ← al_12 h, ← al_13 h, ← al_14 h, h.f_2, h.n_7]
  try rfl
set_option maxRecDepth 8192 in
theorem al_16 (h : Holds V0 s j) : (res_main_while0b_v80 V0 : (Proc.devRef .tc main_while0b_v80 : DevRef τ sig).ty.Contents (Elt F)) = Cert.ScanRefIdeal.Step.b16 j s := by
  unfold res_main_while0b_v80 Cert.ScanRefIdeal.Step.b16
  rw [← al_15 h]
  try rfl
set_option maxRecDepth 8192 in
theorem al_17 (h : Holds V0 s j) : (constantI S_ 32 0#32 : (Proc.devRef .tc main_while0b_call16_c : DevRef τ sig).ty.Contents (Elt F)) = Cert.ScanRefIdeal.Step.b17 j s := by
  unfold Cert.ScanRefIdeal.Step.b17
  rfl
set_option maxRecDepth 8192 in
theorem al_18 (h : Holds V0 s j) : (constantI S_ 32 0#32 : (Proc.devRef .tc main_while0b_call16_c_0 : DevRef τ sig).ty.Contents (Elt F)) = Cert.ScanRefIdeal.Step.b18 j s := by
  unfold Cert.ScanRefIdeal.Step.b18
  rfl
set_option maxRecDepth 8192 in
theorem al_19 (h : Holds V0 s j) : (constantI S_ 32 0#32 : (Proc.devRef .tc main_while0b_call16_c_1 : DevRef τ sig).ty.Contents (Elt F)) = Cert.ScanRefIdeal.Step.b19 j s := by
  unfold Cert.ScanRefIdeal.Step.b19
  rfl
set_option maxRecDepth 8192 in
theorem al_20 (h : Holds V0 s j) : (constantI S_ 32 0#32 : (Proc.devRef .tc main_while0b_call16_c_2 : DevRef τ sig).ty.Contents (Elt F)) = Cert.ScanRefIdeal.Step.b20 j s := by
  unfold Cert.ScanRefIdeal.Step.b20
  rfl
set_option maxRecDepth 8192 in
theorem al_21 (h : Holds V0 s j) : (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8 : (Proc.devRef .tc main_while0b_call16_v0 : DevRef τ sig).ty.Contents (Elt F)) = Cert.ScanRefIdeal.Step.b21 j s := by
  unfold Cert.ScanRefIdeal.Step.b21
  rw [← al_17 h, ← al_18 h, ← al_19 h, ← al_20 h, h.f_3, h.n_7]
  try rfl
set_option maxRecDepth 8192 in
theorem al_22 (h : Holds V0 s j) : (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8 : (Proc.devRef .tc main_while0b_v81 : DevRef τ sig).ty.Contents (Elt F)) = Cert.ScanRefIdeal.Step.b22 j s := by
  unfold Cert.ScanRefIdeal.Step.b22
  rw [← al_21 h]
  try rfl
set_option maxRecDepth 8192 in
theorem al_23 (h : Holds V0 s j) : (constantI S_ 32 0#32 : (Proc.devRef .tc main_while0b_call17_c : DevRef τ sig).ty.Contents (Elt F)) = Cert.ScanRefIdeal.Step.b23 j s := by
  unfold Cert.ScanRefIdeal.Step.b23
  rfl
set_option maxRecDepth 8192 in
theorem al_24 (h : Holds V0 s j) : (constantI S_ 32 0#32 : (Proc.devRef .tc main_while0b_call17_c_0 : DevRef τ sig).ty.Contents (Elt F)) = Cert.ScanRefIdeal.Step.b24 j s := by
  unfold Cert.ScanRefIdeal.Step.b24
  rfl
set_option maxRecDepth 8192 in
theorem al_25 (h : Holds V0 s j) : (constantI S_ 32 0#32 : (Proc.devRef .tc main_while0b_call17_c_1 : DevRef τ sig).ty.Contents (Elt F)) = Cert.ScanRefIdeal.Step.b25 j s := by
  unfold Cert.ScanRefIdeal.Step.b25
  rfl
set_option maxRecDepth 8192 in
theorem al_26 (h : Holds V0 s j) : (constantI S_ 32 0#32 : (Proc.devRef .tc main_while0b_call17_c_2 : DevRef τ sig).ty.Contents (Elt F)) = Cert.ScanRefIdeal.Step.b26 j s := by
  unfold Cert.ScanRefIdeal.Step.b26
  rfl
set_option maxRecDepth 8192 in
theorem al_27 (h : Holds V0 s j) : (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8 : (Proc.devRef .tc main_while0b_call17_v0 : DevRef τ sig).ty.Contents (Elt F)) = Cert.ScanRefIdeal.Step.b27 j s := by
  unfold Cert.ScanRefIdeal.Step.b27
  rw [← al_23 h, ← al_24 h, ← al_25 h, ← al_26 h, h.f_4, h.n_7]
  try rfl
set_option maxRecDepth 8192 in
theorem al_28 (h : Holds V0 s j) : (shapeCast S64x128x4x8 (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8 : (Proc.devRef .tc main_while0b_v82 : DevRef τ sig).ty.Contents (Elt F)) = Cert.ScanRefIdeal.Step.b28 j s := by
  unfold Cert.ScanRefIdeal.Step.b28
  rw [← al_27 h]
  try rfl
set_option maxRecDepth 8192 in
theorem al_29 (h : Holds V0 s j) : (constantI S_ 32 0#32 : (Proc.devRef .tc main_while0b_call18_c : DevRef τ sig).ty.Contents (Elt F)) = Cert.ScanRefIdeal.Step.b29 j s := by
  unfold Cert.ScanRefIdeal.Step.b29
  rfl
set_option maxRecDepth 8192 in
theorem al_30 (h : Holds V0 s j) : (constantI S_ 32 0#32 : (Proc.devRef .tc main_while0b_call18_c_0 : DevRef τ sig).ty.Contents (Elt F)) = Cert.ScanRefIdeal.Step.b30 j s := by
  unfold Cert.ScanRefIdeal.Step.b30
  rfl
set_option maxRecDepth 8192 in
theorem al_31 (h : Holds V0 s j) : (constantI S_ 32 0#32 : (Proc.devRef .tc main_while0b_call18_c_1 : DevRef τ sig).ty.Contents (Elt F)) = Cert.ScanRefIdeal.Step.b31 j s := by
  unfold Cert.ScanRefIdeal.Step.b31
  rfl
set_option maxRecDepth 8192 in
theorem al_32 (h : Holds V0 s j) : (Host.dynamicSlice S1x64x4x8 (V0 (Proc.devRef .tc main_v66_5)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x4x8_S1x64x4x8 : (Proc.devRef .tc main_while0b_call18_v0 : DevRef τ sig).ty.Contents (Elt F)) = Cert.ScanRefIdeal.Step.b32 j s := by
  unfold Cert.ScanRefIdeal.Step.b32
  rw [← al_29 h, ← al_30 h, ← al_31 h, h.f_5, h.n_7]
  try rfl
set_option maxRecDepth 8192 in
theorem al_33 (h : Holds V0 s j) : (shapeCast S64x4x8 (Host.dynamicSlice S1x64x4x8 (V0 (Proc.devRef .tc main_v66_5)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x4x8_S1x64x4x8) shapeCasts_S1x64x4x8_S64x4x8 : (Proc.devRef .tc main_while0b_v83 : DevRef τ sig).ty.Contents (Elt F)) = Cert.ScanRefIdeal.Step.b33 j s := by
  unfold Cert.ScanRefIdeal.Step.b33
  rw [← al_32 h]
  try rfl
set_option maxRecDepth 8192 in
theorem al_34 (h : Holds V0 s j) : (extractStridedSlice S64x128x2048 ![0, 0, 0] (res_main_while0b_v78 V0) slices_S64x128x3072_S64x128x2048_0_0_0 : (Proc.devRef .tc main_while0b_v84 : DevRef τ sig).ty.Contents (Elt F)) = Cert.ScanRefIdeal.Step.b34 j s := by
  unfold Cert.ScanRefIdeal.Step.b34
  rw [← al_4 h]
  try rfl
set_option maxRecDepth 8192 in
theorem al_35 (h : Holds V0 s j) : (res_main_while0b_v85 V0 : (Proc.devRef .tc main_while0b_v85 : DevRef τ sig).ty.Contents (Elt F)) = Cert.ScanRefIdeal.Step.b35 j s := by
  unfold res_main_while0b_v85 Cert.ScanRefIdeal.Step.b35
  rw [← al_34 h]
  try rfl
set_option maxRecDepth 8192 in
theorem al_36 (h : Holds V0 s j) : (extractStridedSlice S64x128x512 ![0, 0, 2048] (res_main_while0b_v78 V0) slices_S64x128x3072_S64x128x512_0_0_2048 : (Proc.devRef .tc main_while0b_v86 : DevRef τ sig).ty.Contents (Elt F)) = Cert.ScanRefIdeal.Step.b36 j s := by
  unfold Cert.ScanRefIdeal.Step.b36
  rw [← al_4 h]
  try rfl
set_option maxRecDepth 8192 in
theorem al_37 (h : Holds V0 s j) : (res_main_while0b_v87 V0 : (Proc.devRef .tc main_while0b_v87 : DevRef τ sig).ty.Contents (Elt F)) = Cert.ScanRefIdeal.Step.b37 j s := by
  unfold res_main_while0b_v87 Cert.ScanRefIdeal.Step.b37
  rw [← al_36 h]
  try rfl
set_option maxRecDepth 8192 in
theorem al_38 (h : Holds V0 s j) : (extractStridedSlice S64x128x512 ![0, 0, 2560] (res_main_while0b_v78 V0) slices_S64x128x3072_S64x128x512_0_0_2560 : (Proc.devRef .tc main_while0b_v88 : DevRef τ sig).ty.Contents (Elt F)) = Cert.ScanRefIdeal.Step.b38 j s := by
  unfold Cert.ScanRefIdeal.Step.b38
  rw [← al_4 h]
  try rfl
set_option maxRecDepth 8192 in
theorem al_39 (h : Holds V0 s j) : (res_main_while0b_v89 V0 : (Proc.devRef .tc main_while0b_v89 : DevRef τ sig).ty.Contents (Elt F)) = Cert.ScanRefIdeal.Step.b39 j s := by
  unfold res_main_while0b_v89 Cert.ScanRefIdeal.Step.b39
  rw [← al_38 h]
  try rfl
set_option maxRecDepth 8192 in
theorem al_40 (h : Holds V0 s j) : (broadcastInDim S64x128x1x4x8 ![0, 1, 3, 4] bcast_S64x128x4x8_S64x128x1x4x8_0_1_3_4 (res_main_while0b_v80 V0) : (Proc.devRef .tc main_while0b_v90 : DevRef τ sig).ty.Contents (Elt F)) = Cert.ScanRefIdeal.Step.b40 j s := by
  unfold Cert.ScanRefIdeal.Step.b40
  rw [← al_16 h]
  try rfl
set_option maxRecDepth 8192 in
theorem al_41 (h : Holds V0 s j) : (broadcastInDim S64x1x128x4x8 ![0, 2, 3, 4] bcast_S64x128x4x8_S64x1x128x4x8_0_2_3_4 (res_main_while0b_v80 V0) : (Proc.devRef .tc main_while0b_v91 : DevRef τ sig).ty.Contents (Elt F)) = Cert.ScanRefIdeal.Step.b41 j s := by
  unfold Cert.ScanRefIdeal.Step.b41
  rw [← al_16 h]
  try rfl
set_option maxRecDepth 8192 in
theorem al_42 (h : Holds V0 s j) : (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0)) : (Proc.devRef .tc main_while0b_v92 : DevRef τ sig).ty.Contents (Elt F)) = Cert.ScanRefIdeal.Step.b42 j s := by
  unfold Cert.ScanRefIdeal.Step.b42
  rw [← al_40 h]
  try rfl
set_option maxRecDepth 8192 in
theorem al_43 (h : Holds V0 s j) : (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)) : (Proc.devRef .tc main_while0b_v93 : DevRef τ sig).ty.Contents (Elt F)) = Cert.ScanRefIdeal.Step.b43 j s := by
  unfold Cert.ScanRefIdeal.Step.b43
  rw [← al_41 h]
  try rfl
set_option maxRecDepth 8192 in
theorem al_44 (h : Holds V0 s j) : (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0))) : (Proc.devRef .tc main_while0b_v94 : DevRef τ sig).ty.Contents (Elt F)) = Cert.ScanRefIdeal.Step.b44 j s := by
  unfold Cert.ScanRefIdeal.Step.b44
  rw [← al_42 h, ← al_43 h]
  try rfl
set_option maxRecDepth 8192 in
theorem al_45 (h : Holds V0 s j) : (constant S_ .f32 0xFF800000#32 : (Proc.devRef .tc main_while0b_cst_11 : DevRef τ sig).ty.Contents (Elt F)) = Cert.ScanRefIdeal.Step.b45 j s := by
  unfold Cert.ScanRefIdeal.Step.b45
  rfl
set_option maxRecDepth 8192 in
theorem al_46 (h : Holds V0 s j) : (id (constant S_ .f32 0xFF800000#32) : (Proc.devRef .tc main_while0b_call19_v0 : DevRef τ sig).ty.Contents (Elt F)) = Cert.ScanRefIdeal.Step.b46 j s := by
  unfold Cert.ScanRefIdeal.Step.b46
  rw [← al_45 h]
  try rfl
set_option maxRecDepth 8192 in
theorem al_47 (h : Holds V0 s j) : (broadcastInDim S64x128x128x4x8 ![0, 1, 2, 3, 4] bcast_S1x128x128x1x1_S64x128x128x4x8_0_1_2_3_4 (V0 (Proc.devRef .tc main_v66_6)) : (Proc.devRef .tc main_while0b_call19_v1 : DevRef τ sig).ty.Contents (Elt F)) = Cert.ScanRefIdeal.Step.b47 j s := by
  unfold Cert.ScanRefIdeal.Step.b47
  rw [h.k_6]
  try rfl
set_option maxRecDepth 8192 in
theorem al_48 (h : Holds V0 s j) : (broadcastInDim S64x128x128x4x8 ![] bcast_S_S64x128x128x4x8 (id (constant S_ .f32 0xFF800000#32)) : (Proc.devRef .tc main_while0b_call19_v2 : DevRef τ sig).ty.Contents (Elt F)) = Cert.ScanRefIdeal.Step.b48 j s := by
  unfold Cert.ScanRefIdeal.Step.b48
  rw [← al_46 h]
  try rfl
set_option maxRecDepth 8192 in
theorem al_49 (h : Holds V0 s j) : (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32))) : (Proc.devRef .tc main_while0b_v95 : DevRef τ sig).ty.Contents (Elt F)) = Cert.ScanRefIdeal.Step.b49 j s := by
  unfold Cert.ScanRefIdeal.Step.b49
  rw [← al_47 h, ← al_44 h, ← al_48 h]
  try rfl
set_option maxRecDepth 8192 in
theorem al_50 (h : Holds V0 s j) : (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32)))) : (Proc.devRef .tc main_while0b_v96 : DevRef τ sig).ty.Contents (Elt F)) = Cert.ScanRefIdeal.Step.b50 j s := by
  unfold Cert.ScanRefIdeal.Step.b50
  rw [← al_49 h]
  try rfl
set_option maxRecDepth 8192 in
theorem al_51 (h : Holds V0 s j) : (Host.dotGeneral dot_S64x128x4x128_S64x128x4x128_S64x4x128x128_3_3_1_1_02_02 none (res_main_while0b_v87 V0) (res_main_while0b_v89 V0) : (Proc.devRef .tc main_while0b_v97 : DevRef τ sig).ty.Contents (Elt F)) = Cert.ScanRefIdeal.Step.b51 j s := by
  unfold Cert.ScanRefIdeal.Step.b51
  rw [← al_37 h, ← al_39 h]
  try rfl
set_option maxRecDepth 8192 in
theorem al_52 (h : Holds V0 s j) : (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1 : (Proc.devRef .tc main_while0b_v98 : DevRef τ sig).ty.Contents (Elt F)) = Cert.ScanRefIdeal.Step.b52 j s := by
  unfold Cert.ScanRefIdeal.Step.b52
  rw [← al_51 h]
  try rfl
set_option maxRecDepth 8192 in
theorem al_53 (h : Holds V0 s j) : (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8) : (Proc.devRef .tc main_while0b_v99 : DevRef τ sig).ty.Contents (Elt F)) = Cert.ScanRefIdeal.Step.b53 j s := by
  unfold Cert.ScanRefIdeal.Step.b53
  rw [← al_10 h]
  try rfl
set_option maxRecDepth 8192 in
theorem al_54 (h : Holds V0 s j) : (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)) : (Proc.devRef .tc main_while0b_v100 : DevRef τ sig).ty.Contents (Elt F)) = Cert.ScanRefIdeal.Step.b54 j s := by
  unfold Cert.ScanRefIdeal.Step.b54
  rw [← al_53 h]
  try rfl
set_option maxRecDepth 8192 in
theorem al_55 (h : Holds V0 s j) : (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8))) : (Proc.devRef .tc main_while0b_v101 : DevRef τ sig).ty.Contents (Elt F)) = Cert.ScanRefIdeal.Step.b55 j s := by
  unfold Cert.ScanRefIdeal.Step.b55
  rw [← al_35 h, ← al_54 h]
  try rfl
set_option maxRecDepth 8192 in
theorem al_56 (h : Holds V0 s j) : (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1) : (Proc.devRef .tc main_while0b_v102 : DevRef τ sig).ty.Contents (Elt F)) = Cert.ScanRefIdeal.Step.b56 j s := by
  unfold Cert.ScanRefIdeal.Step.b56
  rw [← al_52 h]
  try rfl
set_option maxRecDepth 8192 in
theorem al_57 (h : Holds V0 s j) : (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1)) : (Proc.devRef .tc main_while0b_v103 : DevRef τ sig).ty.Contents (Elt F)) = Cert.ScanRefIdeal.Step.b57 j s := by
  unfold Cert.ScanRefIdeal.Step.b57
  rw [← al_56 h]
  try rfl
set_option maxRecDepth 8192 in
theorem al_58 (h : Holds V0 s j) : (mulf (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1))) (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32))))) : (Proc.devRef .tc main_while0b_v104 : DevRef τ sig).ty.Contents (Elt F)) = Cert.ScanRefIdeal.Step.b58 j s := by
  unfold Cert.ScanRefIdeal.Step.b58
  rw [← al_57 h, ← al_50 h]
  try rfl
set_option maxRecDepth 8192 in
theorem al_59 (h : Holds V0 s j) : (Host.dotGeneral dot_S64x128x4x8x64_S64x128x128x4x8_S64x4x8x64x128_1_2_4_1_023_034 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (mulf (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1))) (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32)))))) : (Proc.devRef .tc main_while0b_v105 : DevRef τ sig).ty.Contents (Elt F)) = Cert.ScanRefIdeal.Step.b59 j s := by
  unfold Cert.ScanRefIdeal.Step.b59
  rw [← al_55 h, ← al_58 h]
  try rfl
set_option maxRecDepth 8192 in
theorem al_60 (h : Holds V0 s j) : (transpose S64x128x4x8x64 [0, 4, 1, 2, 3] (Host.dotGeneral dot_S64x128x4x8x64_S64x128x128x4x8_S64x4x8x64x128_1_2_4_1_023_034 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (mulf (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1))) (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32))))))) transposes_S64x4x8x64x128_S64x128x4x8x64_0_4_1_2_3 : (Proc.devRef .tc main_while0b_v106 : DevRef τ sig).ty.Contents (Elt F)) = Cert.ScanRefIdeal.Step.b60 j s := by
  unfold Cert.ScanRefIdeal.Step.b60
  rw [← al_59 h]
  try rfl
set_option maxRecDepth 8192 in
theorem al_61 (h : Holds V0 s j) : (Host.dotGeneral dot_S64x4x8x64x128_S64x128x4x128_S64x4x8x64x128_4_3_23_1_01_02 none (V0 (Proc.devRef .tc main_v66_8)) (res_main_while0b_v89 V0) : (Proc.devRef .tc main_while0b_v107 : DevRef τ sig).ty.Contents (Elt F)) = Cert.ScanRefIdeal.Step.b61 j s := by
  unfold Cert.ScanRefIdeal.Step.b61
  rw [← al_39 h, h.f_8]
  try rfl
set_option maxRecDepth 8192 in
theorem al_62 (h : Holds V0 s j) : (transpose S64x128x4x8x64 [0, 4, 1, 2, 3] (Host.dotGeneral dot_S64x4x8x64x128_S64x128x4x128_S64x4x8x64x128_4_3_23_1_01_02 none (V0 (Proc.devRef .tc main_v66_8)) (res_main_while0b_v89 V0)) transposes_S64x4x8x64x128_S64x128x4x8x64_0_4_1_2_3 : (Proc.devRef .tc main_while0b_v108 : DevRef τ sig).ty.Contents (Elt F)) = Cert.ScanRefIdeal.Step.b62 j s := by
  unfold Cert.ScanRefIdeal.Step.b62
  rw [← al_61 h]
  try rfl
set_option maxRecDepth 8192 in
theorem al_63 (h : Holds V0 s j) : (broadcastInDim S64x128x4x8x1 ![0, 1, 2, 3] bcast_S64x128x4x8_S64x128x4x8x1_0_1_2_3 (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8) : (Proc.devRef .tc main_while0b_v109 : DevRef τ sig).ty.Contents (Elt F)) = Cert.ScanRefIdeal.Step.b63 j s := by
  unfold Cert.ScanRefIdeal.Step.b63
  rw [← al_22 h]
  try rfl
set_option maxRecDepth 8192 in
theorem al_64 (h : Holds V0 s j) : (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)) : (Proc.devRef .tc main_while0b_v110 : DevRef τ sig).ty.Contents (Elt F)) = Cert.ScanRefIdeal.Step.b64 j s := by
  unfold Cert.ScanRefIdeal.Step.b64
  rw [← al_63 h]
  try rfl
set_option maxRecDepth 8192 in
theorem al_65 (h : Holds V0 s j) : (mulf (transpose S64x128x4x8x64 [0, 4, 1, 2, 3] (Host.dotGeneral dot_S64x4x8x64x128_S64x128x4x128_S64x4x8x64x128_4_3_23_1_01_02 none (V0 (Proc.devRef .tc main_v66_8)) (res_main_while0b_v89 V0)) transposes_S64x4x8x64x128_S64x128x4x8x64_0_4_1_2_3) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8))) : (Proc.devRef .tc main_while0b_v111 : DevRef τ sig).ty.Contents (Elt F)) = Cert.ScanRefIdeal.Step.b65 j s := by
  unfold Cert.ScanRefIdeal.Step.b65
  rw [← al_62 h, ← al_64 h]
  try rfl
set_option maxRecDepth 8192 in
theorem al_66 (h : Holds V0 s j) : (broadcastInDim S64x4x8x1x1 ![0, 1, 2] bcast_S64x4x8_S64x4x8x1x1_0_1_2 (shapeCast S64x4x8 (Host.dynamicSlice S1x64x4x8 (V0 (Proc.devRef .tc main_v66_5)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x4x8_S1x64x4x8) shapeCasts_S1x64x4x8_S64x4x8) : (Proc.devRef .tc main_while0b_v112 : DevRef τ sig).ty.Contents (Elt F)) = Cert.ScanRefIdeal.Step.b66 j s := by
  unfold Cert.ScanRefIdeal.Step.b66
  rw [← al_33 h]
  try rfl
set_option maxRecDepth 8192 in
theorem al_67 (h : Holds V0 s j) : (broadcastInDim S64x4x8x64x128 ![0, 1, 2, 3, 4] bcast_S64x4x8x1x1_S64x4x8x64x128_0_1_2_3_4 (broadcastInDim S64x4x8x1x1 ![0, 1, 2] bcast_S64x4x8_S64x4x8x1x1_0_1_2 (shapeCast S64x4x8 (Host.dynamicSlice S1x64x4x8 (V0 (Proc.devRef .tc main_v66_5)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x4x8_S1x64x4x8) shapeCasts_S1x64x4x8_S64x4x8)) : (Proc.devRef .tc main_while0b_v113 : DevRef τ sig).ty.Contents (Elt F)) = Cert.ScanRefIdeal.Step.b67 j s := by
  unfold Cert.ScanRefIdeal.Step.b67
  rw [← al_66 h]
  try rfl
set_option maxRecDepth 8192 in
theorem al_68 (h : Holds V0 s j) : (mulf (V0 (Proc.devRef .tc main_v66_8)) (broadcastInDim S64x4x8x64x128 ![0, 1, 2, 3, 4] bcast_S64x4x8x1x1_S64x4x8x64x128_0_1_2_3_4 (broadcastInDim S64x4x8x1x1 ![0, 1, 2] bcast_S64x4x8_S64x4x8x1x1_0_1_2 (shapeCast S64x4x8 (Host.dynamicSlice S1x64x4x8 (V0 (Proc.devRef .tc main_v66_5)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x4x8_S1x64x4x8) shapeCasts_S1x64x4x8_S64x4x8))) : (Proc.devRef .tc main_while0b_v114 : DevRef τ sig).ty.Contents (Elt F)) = Cert.ScanRefIdeal.Step.b68 j s := by
  unfold Cert.ScanRefIdeal.Step.b68
  rw [← al_67 h, h.f_8]
  try rfl
set_option maxRecDepth 8192 in
theorem al_69 (h : Holds V0 s j) : (broadcastInDim S64x128x4x8x1 ![0, 1, 2, 3] bcast_S64x128x4x8_S64x128x4x8x1_0_1_2_3 (shapeCast S64x128x4x8 (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8) : (Proc.devRef .tc main_while0b_v115 : DevRef τ sig).ty.Contents (Elt F)) = Cert.ScanRefIdeal.Step.b69 j s := by
  unfold Cert.ScanRefIdeal.Step.b69
  rw [← al_28 h]
  try rfl
set_option maxRecDepth 8192 in
theorem al_70 (h : Holds V0 s j) : (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)) : (Proc.devRef .tc main_while0b_v116 : DevRef τ sig).ty.Contents (Elt F)) = Cert.ScanRefIdeal.Step.b70 j s := by
  unfold Cert.ScanRefIdeal.Step.b70
  rw [← al_69 h]
  try rfl
set_option maxRecDepth 8192 in
theorem al_71 (h : Holds V0 s j) : (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8))) : (Proc.devRef .tc main_while0b_v117 : DevRef τ sig).ty.Contents (Elt F)) = Cert.ScanRefIdeal.Step.b71 j s := by
  unfold Cert.ScanRefIdeal.Step.b71
  rw [← al_35 h, ← al_70 h]
  try rfl
set_option maxRecDepth 8192 in
theorem al_72 (h : Holds V0 s j) : (Host.dotGeneral dot_S64x128x4x8x64_S64x128x4x128_S64x4x8x64x128_1_1_34_3_02_02 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (res_main_while0b_v87 V0) : (Proc.devRef .tc main_while0b_v118 : DevRef τ sig).ty.Contents (Elt F)) = Cert.ScanRefIdeal.Step.b72 j s := by
  unfold Cert.ScanRefIdeal.Step.b72
  rw [← al_71 h, ← al_37 h]
  try rfl
set_option maxRecDepth 8192 in
theorem al_73 (h : Holds V0 s j) : (addf (mulf (V0 (Proc.devRef .tc main_v66_8)) (broadcastInDim S64x4x8x64x128 ![0, 1, 2, 3, 4] bcast_S64x4x8x1x1_S64x4x8x64x128_0_1_2_3_4 (broadcastInDim S64x4x8x1x1 ![0, 1, 2] bcast_S64x4x8_S64x4x8x1x1_0_1_2 (shapeCast S64x4x8 (Host.dynamicSlice S1x64x4x8 (V0 (Proc.devRef .tc main_v66_5)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x4x8_S1x64x4x8) shapeCasts_S1x64x4x8_S64x4x8)))) (Host.dotGeneral dot_S64x128x4x8x64_S64x128x4x128_S64x4x8x64x128_1_1_34_3_02_02 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (res_main_while0b_v87 V0)) : (Proc.devRef .tc main_while0b_v119 : DevRef τ sig).ty.Contents (Elt F)) = Cert.ScanRefIdeal.Step.b73 j s := by
  unfold Cert.ScanRefIdeal.Step.b73
  rw [← al_68 h, ← al_72 h]
  try rfl
set_option maxRecDepth 8192 in
theorem al_74 (h : Holds V0 s j) : (addf (transpose S64x128x4x8x64 [0, 4, 1, 2, 3] (Host.dotGeneral dot_S64x128x4x8x64_S64x128x128x4x8_S64x4x8x64x128_1_2_4_1_023_034 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (mulf (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1))) (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32))))))) transposes_S64x4x8x64x128_S64x128x4x8x64_0_4_1_2_3) (mulf (transpose S64x128x4x8x64 [0, 4, 1, 2, 3] (Host.dotGeneral dot_S64x4x8x64x128_S64x128x4x128_S64x4x8x64x128_4_3_23_1_01_02 none (V0 (Proc.devRef .tc main_v66_8)) (res_main_while0b_v89 V0)) transposes_S64x4x8x64x128_S64x128x4x8x64_0_4_1_2_3) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) : (Proc.devRef .tc main_while0b_v120 : DevRef τ sig).ty.Contents (Elt F)) = Cert.ScanRefIdeal.Step.b74 j s := by
  unfold Cert.ScanRefIdeal.Step.b74
  rw [← al_60 h, ← al_65 h]
  try rfl
set_option maxRecDepth 8192 in
theorem al_75 (h : Holds V0 s j) : (broadcastInDim S1x64x128x4x8x64 ![1, 2, 3, 4, 5] bcast_S64x128x4x8x64_S1x64x128x4x8x64_1_2_3_4_5 (addf (transpose S64x128x4x8x64 [0, 4, 1, 2, 3] (Host.dotGeneral dot_S64x128x4x8x64_S64x128x128x4x8_S64x4x8x64x128_1_2_4_1_023_034 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (mulf (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1))) (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32))))))) transposes_S64x4x8x64x128_S64x128x4x8x64_0_4_1_2_3) (mulf (transpose S64x128x4x8x64 [0, 4, 1, 2, 3] (Host.dotGeneral dot_S64x4x8x64x128_S64x128x4x128_S64x4x8x64x128_4_3_23_1_01_02 none (V0 (Proc.devRef .tc main_v66_8)) (res_main_while0b_v89 V0)) transposes_S64x4x8x64x128_S64x128x4x8x64_0_4_1_2_3) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8))))) : (Proc.devRef .tc main_while0b_call20_v0 : DevRef τ sig).ty.Contents (Elt F)) = Cert.ScanRefIdeal.Step.b75 j s := by
  unfold Cert.ScanRefIdeal.Step.b75
  rw [← al_74 h]
  try rfl
set_option maxRecDepth 8192 in
theorem al_76 (h : Holds V0 s j) : (constantI S_ 32 0#32 : (Proc.devRef .tc main_while0b_call20_c : DevRef τ sig).ty.Contents (Elt F)) = Cert.ScanRefIdeal.Step.b76 j s := by
  unfold Cert.ScanRefIdeal.Step.b76
  rfl
set_option maxRecDepth 8192 in
theorem al_77 (h : Holds V0 s j) : (constantI S_ 32 0#32 : (Proc.devRef .tc main_while0b_call20_c_0 : DevRef τ sig).ty.Contents (Elt F)) = Cert.ScanRefIdeal.Step.b77 j s := by
  unfold Cert.ScanRefIdeal.Step.b77
  rfl
set_option maxRecDepth 8192 in
theorem al_78 (h : Holds V0 s j) : (constantI S_ 32 0#32 : (Proc.devRef .tc main_while0b_call20_c_1 : DevRef τ sig).ty.Contents (Elt F)) = Cert.ScanRefIdeal.Step.b78 j s := by
  unfold Cert.ScanRefIdeal.Step.b78
  rfl
set_option maxRecDepth 8192 in
theorem al_79 (h : Holds V0 s j) : (constantI S_ 32 0#32 : (Proc.devRef .tc main_while0b_call20_c_2 : DevRef τ sig).ty.Contents (Elt F)) = Cert.ScanRefIdeal.Step.b79 j s := by
  unfold Cert.ScanRefIdeal.Step.b79
  rfl
set_option maxRecDepth 8192 in
theorem al_80 (h : Holds V0 s j) : (constantI S_ 32 0#32 : (Proc.devRef .tc main_while0b_call20_c_3 : DevRef τ sig).ty.Contents (Elt F)) = Cert.ScanRefIdeal.Step.b80 j s := by
  unfold Cert.ScanRefIdeal.Step.b80
  rfl
set_option maxRecDepth 8192 in
theorem al_81 (h : Holds V0 s j) : (Host.dynamicUpdateSlice (V0 (Proc.devRef .tc main_v66_9)) (broadcastInDim S1x64x128x4x8x64 ![1, 2, 3, 4, 5] bcast_S64x128x4x8x64_S1x64x128x4x8x64_1_2_3_4_5 (addf (transpose S64x128x4x8x64 [0, 4, 1, 2, 3] (Host.dotGeneral dot_S64x128x4x8x64_S64x128x128x4x8_S64x4x8x64x128_1_2_4_1_023_034 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (mulf (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1))) (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32))))))) transposes_S64x4x8x64x128_S64x128x4x8x64_0_4_1_2_3) (mulf (transpose S64x128x4x8x64 [0, 4, 1, 2, 3] (Host.dotGeneral dot_S64x4x8x64x128_S64x128x4x128_S64x4x8x64x128_4_3_23_1_01_02 none (V0 (Proc.devRef .tc main_v66_8)) (res_main_while0b_v89 V0)) transposes_S64x4x8x64x128_S64x128x4x8x64_0_4_1_2_3) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))))) (fun k => (((![V0 (Proc.devRef .tc main_v66_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S18x64x128x4x8x64_S1x64x128x4x8x64 : (Proc.devRef .tc main_while0b_v121 : DevRef τ sig).ty.Contents (Elt F)) = Cert.ScanRefIdeal.Step.b81 j s := by
  unfold Cert.ScanRefIdeal.Step.b81
  rw [← al_75 h, ← al_76 h, ← al_77 h, ← al_78 h, ← al_79 h, ← al_80 h, h.f_9, h.n_7]
  try rfl

/-! One trip's step of the carried values is `step`, field by field; a counter steps to the next number. -/

theorem step_8 (h : Holds V0 s j) : step_main_v66_8 V0 = (step j s).main_v66_8 := by
  unfold step_main_v66_8 Cert.ScanRefIdeal.Step.step
  show id (addf (mulf (V0 (Proc.devRef .tc main_v66_8)) (broadcastInDim S64x4x8x64x128 ![0, 1, 2, 3, 4] bcast_S64x4x8x1x1_S64x4x8x64x128_0_1_2_3_4 (broadcastInDim S64x4x8x1x1 ![0, 1, 2] bcast_S64x4x8_S64x4x8x1x1_0_1_2 (shapeCast S64x4x8 (Host.dynamicSlice S1x64x4x8 (V0 (Proc.devRef .tc main_v66_5)) (fun k => (((![V0 (Proc.devRef .tc main_v66_7), constantI S_ 32 0#32, constantI S_ 32 0#32, constantI S_ 32 0#32] : Fin 4 → (⟨S_, .i32⟩ : BufTy).Contents (Elt F))) k (Shape.Idx.first h_S_)).toInt) sliceFits_S18x64x4x8_S1x64x4x8) shapeCasts_S1x64x4x8_S64x4x8)))) (Host.dotGeneral dot_S64x128x4x8x64_S64x128x4x128_S64x4x8x64x128_1_1_34_3_02_02 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_4)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (res_main_while0b_v87 V0))) = _
  rw [al_73 h]
  try rfl
theorem step_9 (h : Holds V0 s j) : step_main_v66_9 V0 = (step j s).main_v66_9 := by
  unfold step_main_v66_9 Cert.ScanRefIdeal.Step.step
  show id (Host.dynamicUpdateSlice (V0 (Proc.devRef .tc main_v66_9)) (broadcastInDim S1x64x128x4x8x64 ![1, 2, 3, 4, 5] bcast_S64x128x4x8x64_S1x64x128x4x8x64_1_2_3_4_5 (addf (transpose S64x128x4x8x64 [0, 4, 1, 2, 3] (Host.dotGeneral dot_S64x128x4x8x64_S64x128x128x4x8_S64x4x8x64x128_1_2_4_1_023_034 none (mulf (res_main_while0b_v85 V0) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))) (mulf (broadcastInDim S64x128x128x4x8 ![0, 1, 2, 3, 4] bcast_S64x128x128x4x1_S64x128x128x4x8_0_1_2_3_4 (broadcastInDim S64x128x128x4x1 ![0, 1, 2, 3] bcast_S64x128x128x4_S64x128x128x4x1_0_1_2_3 (transpose S64x128x128x4 [0, 3, 2, 1] (Host.dotGeneral dot_S64x128x4x128_S64x128x4x128_S64x4x128x128_3_3_1_1_02_02 none (res_main_while0b_v87 V0) (res_main_while0b_v89 V0)) transposes_S64x4x128x128_S64x128x128x4_0_3_2_1))) (Host.exp (select (broadcastInDim S64x128x128x4x8 ![0, 1, 2, 3, 4] bcast_S1x128x128x1x1_S64x128x128x4x8_0_1_2_3_4 (V0 (Proc.devRef .tc main_v66_6))) (subf (broadcastInDim S64x128x128x4x8 ![0, 1, 2, 3, 4] bcast_S64x128x1x4x8_S64x128x128x4x8_0_1_2_3_4 (broadcastInDim S64x128x1x4x8 ![0, 1, 3, 4] bcast_S64x128x4x8_S64x128x1x4x8_0_1_3_4 (res_main_while0b_v80 V0))) (broadcastInDim S64x128x128x4x8 ![0, 1, 2, 3, 4] bcast_S64x1x128x4x8_S64x128x128x4x8_0_1_2_3_4 (broadcastInDim S64x1x128x4x8 ![0, 2, 3, 4] bcast_S64x128x4x8_S64x1x128x4x8_0_2_3_4 (res_main_while0b_v80 V0)))) (broadcastInDim S64x128x128x4x8 ![] bcast_S_S64x128x128x4x8 (id (constant S_ .f32 0xFF800000#32))))))) transposes_S64x4x8x64x128_S64x128x4x8x64_0_4_1_2_3) (mulf (transpose S64x128x4x8x64 [0, 4, 1, 2, 3] (Host.dotGeneral dot_S64x4x8x64x128_S64x128x4x128_S64x4x8x64x128_4_3_23_1_01_02 none (V0 (Proc.devRef .tc main_v66_8)) (res_main_while0b_v89 V0)) transposes_S64x4x8x64x128_S64x128x4x8x64_0_4_1_2_3) (broadcastInDim S64x128x4x8x64 ![0, 1, 2, 3, 4] bcast_S64x128x4x8x1_S64x128x4x8x64_0_1_2_3_4 (broadcastInDim S64x128x4x8x1 ![0, 1, 2, 3] bcast_S64x128x4x8_S64x128x4x8x1_0_1_2_3 (shapeCast S64x128x4x8 (Host.dynamicSlice S1x64x128x4x8 (V0 (Proc.devRef .tc main_v66_3)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S18x64x128x4x8_S1x64x128x4x8) shapeCasts_S1x64x128x4x8_S64x128x4x8)))))) (fun k => (((![V0 (Proc.devRef .tc main_v66_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S18x64x128x4x8x64_S1x64x128x4x8x64) = _
  exact al_81 h
theorem step_7 (h : Holds V0 s j) : step_main_v66_7 V0 = constantI S_ 32 (BitVec.ofNat 32 (j + 1)) := by
  unfold step_main_v66_7
  rw [h.n_7]
  funext i
  show BitVec.ofNat 32 j + 1#32 = BitVec.ofNat 32 (j + 1)
  simp only [BitVec.ofNat_add]

set_option maxRecDepth 8192 in
theorem out_main_v77_holds (h : Holds V0 s j) : out_main_v77 V0 = Cert.ScanRefIdeal.Step.R_main_v77 s := by
  unfold out_main_v77 Cert.ScanRefIdeal.Step.R_main_v77
  rw [h.f_9]
  try rfl

/-- One trip keeps the valuation holding: `step` of the state, the same set-up values, the next number. -/
theorem holds_step (h : Holds V0 s j) : Holds (STEP V0) (step j s) (j + 1) where
  f_8 := (STEP_main_v66_8 V0).trans (step_8 h)
  f_9 := (STEP_main_v66_9 V0).trans (step_9 h)
  n_7 := (STEP_main_v66_7 V0).trans (step_7 h)
  k_6 := (STEP_main_v66_6 V0).trans h.k_6
  f_0 := (STEP_main_v66_0 V0).trans h.f_0
  f_1 := (STEP_main_v66_1 V0).trans h.f_1
  f_2 := (STEP_main_v66_2 V0).trans h.f_2
  f_3 := (STEP_main_v66_3 V0).trans h.f_3
  f_4 := (STEP_main_v66_4 V0).trans h.f_4
  f_5 := (STEP_main_v66_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 8000000 in
/-- What the operations before the loop leave in its buffer `main_v66_8`. -/
theorem entry_f_8 : entryContents preI m c (Proc.devRef .tc main_v66_8) = (initState m c).main_v66_8 := by
  simp only [entryContents, afterL_cons, afterL_nil]
  after_reads_simp
  rfl

set_option maxRecDepth 65536 in
set_option maxHeartbeats 8000000 in
/-- What the operations before the loop leave in its buffer `main_v66_9`. -/
theorem entry_f_9 : entryContents preI m c (Proc.devRef .tc main_v66_9) = (initState m c).main_v66_9 := by
  simp only [entryContents, afterL_cons, afterL_nil]
  after_reads_simp
  rfl

set_option maxRecDepth 65536 in
set_option maxHeartbeats 8000000 in
/-- What the operations before the loop leave in its buffer `main_v66_0`. -/
theorem entry_f_0 : entryContents preI m c (Proc.devRef .tc main_v66_0) = (initState m c).main_v66_0 := by
  simp only [entryContents, afterL_cons, afterL_nil]
  after_reads_simp
  rfl

set_option maxRecDepth 65536 in
set_option maxHeartbeats 8000000 in
/-- What the operations before the loop leave in its buffer `main_v66_1`. -/
theorem entry_f_1 : entryContents preI m c (Proc.devRef .tc main_v66_1) = (initState m c).main_v66_1 := by
  simp only [entryContents, afterL_cons, afterL_nil]
  after_reads_simp
  rfl

set_option maxRecDepth 65536 in
set_option maxHeartbeats 8000000 in
/-- What the operations before the loop leave in its buffer `main_v66_2`. -/
theorem entry_f_2 : entryContents preI m c (Proc.devRef .tc main_v66_2) = (initState m c).main_v66_2 := by
  simp only [entryContents, afterL_cons, afterL_nil]
  after_reads_simp
  rfl

set_option maxRecDepth 65536 in
set_option maxHeartbeats 8000000 in
/-- What the operations before the loop leave in its buffer `main_v66_3`. -/
theorem entry_f_3 : entryContents preI m c (Proc.devRef .tc main_v66_3) = (initState m c).main_v66_3 := by
  simp only [entryContents, afterL_cons, afterL_nil]
  after_reads_simp
  rfl

set_option maxRecDepth 65536 in
set_option maxHeartbeats 8000000 in
/-- What the operations before the loop leave in its buffer `main_v66_4`. -/
theorem entry_f_4 : entryContents preI m c (Proc.devRef .tc main_v66_4) = (initState m c).main_v66_4 := by
  simp only [entryContents, afterL_cons, afterL_nil]
  after_reads_simp
  rfl

set_option maxRecDepth 65536 in
set_option maxHeartbeats 8000000 in
/-- What the operations before the loop leave in its buffer `main_v66_5`. -/
theorem entry_f_5 : entryContents preI m c (Proc.devRef .tc main_v66_5) = (initState m c).main_v66_5 := by
  simp only [entryContents, afterL_cons, afterL_nil]
  after_reads_simp
  rfl

set_option maxRecDepth 65536 in
set_option maxHeartbeats 8000000 in
/-- What the operations before the loop leave in its buffer `main_v66_7`. -/
theorem entry_n_7 : entryContents preI m c (Proc.devRef .tc main_v66_7) = constantI S_ 32 (BitVec.ofNat 32 0) := by
  simp only [entryContents, afterL_cons, afterL_nil]
  after_reads_simp
  rfl

set_option maxRecDepth 65536 in
set_option maxHeartbeats 8000000 in
/-- What the operations before the loop leave in its buffer `main_v66_6`. -/
theorem entry_k_6 : entryContents preI m c (Proc.devRef .tc main_v66_6) = Cert.ScanRefIdeal.Step.K_main_v63 (F := F) := by
  simp only [entryContents, afterL_cons, afterL_nil]
  after_reads_simp
  rfl

/-- The operations before the loop leave the first state, with the trip's number zero. -/
theorem entry_holds : Holds (entryContents preI m c) (initState m c) 0 where
  f_8 := entry_f_8 m c
  f_9 := entry_f_9 m c
  f_0 := entry_f_0 m c
  f_1 := entry_f_1 m c
  f_2 := entry_f_2 m c
  f_3 := entry_f_3 m c
  f_4 := entry_f_4 m c
  f_5 := entry_f_5 m c
  n_7 := entry_n_7 m c
  k_6 := entry_k_6 m c

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The result as `step` iterated: every weakly fair execution of `ScanRefIdeal` terminates with each result at its field of state
    number 18 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v77) = Cert.ScanRefIdeal.Step.R_main_v77 (it c 18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 18
    ⟨(h c).1.trans (out_main_v77_holds hk), (h c).2.1, (h c).2.2.1, (h c).2.2.2.1, (h c).2.2.2.2.1, (h c).2.2.2.2.2.1, (h c).2.2.2.2.2.2⟩) (Value.run m ρ)

end Cert.ScanRefIdeal.Trips

end
-- ==== Proof.ScanIdealLoop.lean ====
/- The counted loop of the scan kernel (program `ScanIdeal`): one trip handles one forward chunk and one backward chunk,
   carrying the two directions' states and the summed output. The backward chunk of trip `k` is `(19 - k) mod 18`:
   the context's two chunks in reverse, then the latents' sixteen in reverse. -/
module

public import proofs.«01_k».proof.Proof.Gen.ScanIdeal.Skeleton
public import proofs.«01_k».proof.Proof.Gen.ScanIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.ScanIdeal.Chunks

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the pipelined call is stated over. -/
local notation "𝕄G" => MT nD τ sig Unit (Elt F) ℕ (UR sig nD τ) ℕ

/-- The chunk the backward direction works on at trip `k`. -/
abbrev back (k : Fin k0_t1_loop.trips) : ℕ := (19 - k.val) % 18

theorem off8_eq : ∀ k : Fin k0_t1_loop.trips, k0_off8 k = ![0, 128 * back k, 0] := by decide +kernel

/-- Where a trip finds the backward direction's rows of x. -/
instance closedOff8 (k : Fin k0_t1_loop.trips) : ClosedOff (k0_off8 k) := ⟨![0, 128 * back k, 0], off8_eq k⟩

theorem off9_eq : ∀ k : Fin k0_t1_loop.trips, k0_off9 k = ![0, 128 * back k, 0] := by decide +kernel

/-- Where a trip finds the backward direction's rows of B and C. -/
instance closedOff9 (k : Fin k0_t1_loop.trips) : ClosedOff (k0_off9 k) := ⟨![0, 128 * back k, 0], off9_eq k⟩

theorem off10_eq : ∀ k : Fin k0_t1_loop.trips, k0_off10 k = ![0, 0, 128 * back k, 0] := by decide +kernel

/-- Where a trip finds the backward direction's rows of the column table. -/
instance closedOff10 (k : Fin k0_t1_loop.trips) : ClosedOff (k0_off10 k) := ⟨![0, 0, 128 * back k, 0], off10_eq k⟩

theorem off11_eq : ∀ k : Fin k0_t1_loop.trips, k0_off11 k = ![0, 0, 1, 0, back k, 0, 0] := by decide +kernel

/-- Where a trip finds the backward direction's chunk of the first row table. -/
instance closedOff11 (k : Fin k0_t1_loop.trips) : ClosedOff (k0_off11 k) := ⟨![0, 0, 1, 0, back k, 0, 0], off11_eq k⟩

theorem off12_eq : ∀ k : Fin k0_t1_loop.trips, k0_off12 k = ![0, 0, 1, 1, back k, 0, 0] := by decide +kernel

/-- Where a trip finds the backward direction's chunk of the second row table. -/
instance closedOff12 (k : Fin k0_t1_loop.trips) : ClosedOff (k0_off12 k) := ⟨![0, 0, 1, 1, back k, 0, 0], off12_eq k⟩

theorem off13_eq : ∀ k : Fin k0_t1_loop.trips, k0_off13 k = ![128 * back k, 0] := by decide +kernel

/-- Where a trip finds the backward direction's rows of the summed output. -/
instance closedOff13 (k : Fin k0_t1_loop.trips) : ClosedOff (k0_off13 k) := ⟨![128 * back k, 0], off13_eq k⟩

theorem off14_eq : ∀ k : Fin k0_t1_loop.trips, k0_off14 k = ![0, 0, back k, 1, 0] := by decide +kernel

/-- Where a trip finds the backward direction's chunk of the state factors. -/
instance closedOff14 (k : Fin k0_t1_loop.trips) : ClosedOff (k0_off14 k) := ⟨![0, 0, back k, 1, 0], off14_eq k⟩

variable (𝒱 : Variants) (c : Dev nD) (bd : Option 𝒱.V) (E : Set ℕ) (i : grid0.Coords)
  (arg2 : Memref sig .tc .vmem S1x2304x512 .bf16) (harg2 : arg2.IsWhole)
  (arg3 : Memref sig .tc .vmem S1x2304x128 .bf16) (harg3 : arg3.IsWhole)
  (arg4 : Memref sig .tc .vmem S1x2304x128 .bf16) (harg4 : arg4.IsWhole)
  (arg5 : Memref sig .tc .vmem S1x1x2304x48 .f32) (harg5 : arg5.IsWhole)
  (arg6 : Memref sig .tc .vmem S1x1x2x2x18x8x128 .f32) (harg6 : arg6.IsWhole)
  (arg7 : Memref sig .tc .vmem S1x1x18x2x512 .f32) (harg7 : arg7.IsWhole)
  (arg8 : Memref sig .tc .vmem S2x48x1024 .bf16) (harg8 : arg8.IsWhole)
  (arg9 : Memref sig .tc .vmem S1x2304x512 .bf16) (harg9 : arg9.IsWhole)
  (arg10 : Memref sig .tc .vmem S128x512 .f32) (harg10 : arg10.IsWhole)
  (arg11 : Memref sig .tc .vmem S128x512 .f32) (harg11 : arg11.IsWhole)
  (arg12 : Memref sig .tc .vmem S2304x512 .f32) (harg12 : arg12.IsWhole)
  (X_arg2 : BufTy.Contents (Elt F) arg2.view.ty)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (X_arg8 : BufTy.Contents (Elt F) arg8.view.ty)
  (G_arg10 : BufTy.Contents (Elt F) arg10.view.ty)
  (G_arg11 : BufTy.Contents (Elt F) arg11.view.ty)
  (G_arg12 : BufTy.Contents (Elt F) arg12.view.ty)

/-- What one trip holds: the seven inputs, unchanged, and the two states and the summed output at given contents. -/
abbrev TripAt (f_arg10 : BufTy.Contents (Elt F) arg10.view.ty) (f_arg11 : BufTy.Contents (Elt F) arg11.view.ty) (f_arg12 : BufTy.Contents (Elt F) arg12.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12))

/-- One trip: from any contents of the two states and the sum, the stores it makes, and that it runs. -/
@[irreducible] def trip (k : Fin k0_t1_loop.trips) :
    Σ' (L_arg10 : (BufTy.Contents (Elt F) arg10.view.ty → BufTy.Contents (Elt F) arg11.view.ty → BufTy.Contents (Elt F) arg12.view.ty → List (View.Piece (Elt F) S128x512 .f32))) (L_arg11 : (BufTy.Contents (Elt F) arg10.view.ty → BufTy.Contents (Elt F) arg11.view.ty → BufTy.Contents (Elt F) arg12.view.ty → List (View.Piece (Elt F) S128x512 .f32))) , { L_arg12 : (BufTy.Contents (Elt F) arg10.view.ty → BufTy.Contents (Elt F) arg11.view.ty → BufTy.Contents (Elt F) arg12.view.ty → List (View.Piece (Elt F) S2304x512 .f32)) // ∀ (E : Set ℕ) (f_arg10 : BufTy.Contents (Elt F) arg10.view.ty) (f_arg11 : BufTy.Contents (Elt F) arg11.view.ty) (f_arg12 : BufTy.Contents (Elt F) arg12.view.ty),
      TripAt (F := F) c arg2 arg3 arg4 arg5 arg6 arg7 arg8 arg10 arg11 arg12 X_arg2 X_arg3 X_arg4 X_arg5 X_arg6 X_arg7 X_arg8 f_arg10 f_arg11 f_arg12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 k PUnit.unit)
          (fun _ => TripAt (F := F) c arg2 arg3 arg4 arg5 arg6 arg7 arg8 arg10 arg11 arg12 X_arg2 X_arg3 X_arg4 X_arg5 X_arg6 X_arg7 X_arg8 (arg10.view.writes (Elt F) f_arg10 (L_arg10 f_arg10 f_arg11 f_arg12)) (arg11.view.writes (Elt F) f_arg11 (L_arg11 f_arg10 f_arg11 f_arg12)) (arg12.view.writes (Elt F) f_arg12 (L_arg12 f_arg10 f_arg11 f_arg12))) } := by
  have hk : k.val < 18 := Nat.lt_of_lt_of_le k.isLt k0_t1_abs.2.1
  refine ⟨?_, ?_, ?_, fun E f_arg10 f_arg11 f_arg12 => ?run⟩
  case run =>
    unfold k0_t1_body
    iintro ⟨HR_arg2, HR_arg3, HR_arg4, HR_arg5, HR_arg6, HR_arg7, HR_arg8, HW_arg10, HW_arg11, HW_arg12⟩
    sl_exec
    sl_step
    sl_close

/-- The three lists of stores of one trip. -/
abbrev tripStores (k : Fin k0_t1_loop.trips) (f_arg10 : BufTy.Contents (Elt F) arg10.view.ty) (f_arg11 : BufTy.Contents (Elt F) arg11.view.ty) (f_arg12 : BufTy.Contents (Elt F) arg12.view.ty) : List (View.Piece (Elt F) S128x512 .f32) × List (View.Piece (Elt F) S128x512 .f32) × List (View.Piece (Elt F) S2304x512 .f32) :=
  ((trip (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k).1 f_arg10 f_arg11 f_arg12, (trip (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k).2.1 f_arg10 f_arg11 f_arg12, (trip (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k).2.2.1 f_arg10 f_arg11 f_arg12)

/-- One step of the accumulated lists of stores. -/
@[irreducible] def storesStep (k : ℕ) (prev : List (View.Piece (Elt F) S128x512 .f32) × List (View.Piece (Elt F) S128x512 .f32) × List (View.Piece (Elt F) S2304x512 .f32)) : List (View.Piece (Elt F) S128x512 .f32) × List (View.Piece (Elt F) S128x512 .f32) × List (View.Piece (Elt F) S2304x512 .f32) :=
  if h : k < k0_t1_loop.trips then
    ((tripStores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 ⟨k, h⟩ (arg10.view.writes (Elt F) G_arg10 prev.1) (arg11.view.writes (Elt F) G_arg11 prev.2.1) (arg12.view.writes (Elt F) G_arg12 prev.2.2)).1 ++ prev.1, (tripStores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 ⟨k, h⟩ (arg10.view.writes (Elt F) G_arg10 prev.1) (arg11.view.writes (Elt F) G_arg11 prev.2.1) (arg12.view.writes (Elt F) G_arg12 prev.2.2)).2.1 ++ prev.2.1, (tripStores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 ⟨k, h⟩ (arg10.view.writes (Elt F) G_arg10 prev.1) (arg11.view.writes (Elt F) G_arg11 prev.2.1) (arg12.view.writes (Elt F) G_arg12 prev.2.2)).2.2 ++ prev.2.2)
  else prev

/-- The lists of stores of the first `k` trips. -/
def stores : ℕ → List (View.Piece (Elt F) S128x512 .f32) × List (View.Piece (Elt F) S128x512 .f32) × List (View.Piece (Elt F) S2304x512 .f32)
  | 0 => ([], [], [])
  | k + 1 => storesStep 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k (stores k)

/-- The lists after one more trip. -/
theorem stores_succ (k : Fin k0_t1_loop.trips) :
    stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 (k.val + 1)
      = ((tripStores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k (arg10.view.writes (Elt F) G_arg10 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).1) (arg11.view.writes (Elt F) G_arg11 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.1) (arg12.view.writes (Elt F) G_arg12 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.2)).1 ++ (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).1, (tripStores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k (arg10.view.writes (Elt F) G_arg10 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).1) (arg11.view.writes (Elt F) G_arg11 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.1) (arg12.view.writes (Elt F) G_arg12 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.2)).2.1 ++ (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.1, (tripStores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k (arg10.view.writes (Elt F) G_arg10 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).1) (arg11.view.writes (Elt F) G_arg11 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.1) (arg12.view.writes (Elt F) G_arg12 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.2)).2.2 ++ (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k.val).2.2) := by
  rw [stores.eq_2]; unfold storesStep; exact dif_pos k.isLt

/-- The invariant: after `k` trips the three buffers hold the first `k` trips' stores over their initial contents. -/
abbrev inv (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg10.view.loc (c : Thread nD τ) ↦[arg10.view.set]{fullShare} f) ∗ ⌜f = arg10.view.writes (Elt F) G_arg10 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k).1⌝) ∗ (∃ f, (arg11.view.loc (c : Thread nD τ) ↦[arg11.view.set]{fullShare} f) ∗ ⌜f = arg11.view.writes (Elt F) G_arg11 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k).2.1⌝) ∗ (∃ f, (arg12.view.loc (c : Thread nD τ) ↦[arg12.view.set]{fullShare} f) ∗ ⌜f = arg12.view.writes (Elt F) G_arg12 (stores (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 k).2.2⌝))

set_option warn.classDefReducibility false in
/-- The loop goes through by this invariant. -/
@[sl_loop] def loopInv :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 where
  inv := inv (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12
  step k acc := by
    iintro ⟨HR_arg2, HR_arg3, HR_arg4, HR_arg5, HR_arg6, HR_arg7, HR_arg8, ⟨%f_arg10, HW_arg10, %h_arg10⟩, ⟨%f_arg11, HW_arg11, %h_arg11⟩, ⟨%f_arg12, HW_arg12, %h_arg12⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HW_arg10 HW_arg11 HW_arg12]
    · iapply ((trip (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k).2.2.2 E f_arg10 f_arg11 f_arg12)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HW_arg10]; · iexact HW_arg10
      isplitl [HW_arg11]; · iexact HW_arg11
      iexact HW_arg12
    · iintro %_ ⟨HR_arg2, HR_arg3, HR_arg4, HR_arg5, HR_arg6, HR_arg7, HR_arg8, HW_arg10, HW_arg11, HW_arg12⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      rw [stores_succ]
      isplitl [HW_arg10]
      · iexists _; isplitl [HW_arg10]; · iexact HW_arg10
        ipureintro; rw [h_arg10, h_arg11, h_arg12, ← View.writes_append]
      isplitl [HW_arg11]
      · iexists _; isplitl [HW_arg11]; · iexact HW_arg11
        ipureintro; rw [h_arg10, h_arg11, h_arg12, ← View.writes_append]
      iexists _; isplitl [HW_arg12]; · iexact HW_arg12
      ipureintro; rw [h_arg10, h_arg11, h_arg12, ← View.writes_append]

end Cert.ScanIdeal.Chunks
-- ==== Proof.ScanIdealFrame.lean ====
/- The scan kernel's body run whole, and the call around it (program `ScanIdeal`): what the output block holds after each grid
   point, that the pipelined call runs to its end, and that it leaves its arguments as they were. -/
module

public import proofs.«01_k».proof.Proof.Gen.ScanIdeal.Frame
public import proofs.«01_k».proof.Proof.ScanIdealLoop
public import Idealize.ShloMosaic.Lib.Claim

@[expose] public section

set_option maxRecDepth 16384

noncomputable section

namespace Cert.ScanIdeal.Chunks

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra the pipelined call is stated over. -/
local notation "𝕄" => MT nD τ sig Unit (Elt F) ℕ (UR sig nD τ) ℕ

variable (m : (ℓ : Loc nD τ sig) → Buf (Elt F) ℓ) (ρ : Dev nD → PrngReg)

/-- The output's staging buffer, read for what its stores leave. -/
abbrev VO0_7 : View sig .tc .vmem S1x2304x512 .bf16 := (Memref.whole cc0_stg7_0 : Memref sig .tc .vmem S1x2304x512 .bf16).view
/-- The staging buffers of the eight windows at a point, each whole. -/
abbrev ms0_0 (t : Fin cfg0.N) : Memref sig .tc .vmem S1x2304x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2304x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2304x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2304x48 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2x2x18x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x18x2x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x48x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2304x512 .bf16 := win0_7.stage (cfg0.slots t 7)
abbrev hs0_7 (t : Fin cfg0.N) : (ms0_7 t).IsWhole := hstage0_7 ((cfg0.slots t 7).cast nbuf0_7)
/-- The three scratch buffers: the forward state, the backward state, the summed output. -/
abbrev scM0_0 : Memref sig .tc .vmem S128x512 .f32 := Memref.whole cc0_scratch0
abbrev scM0_1 : Memref sig .tc .vmem S128x512 .f32 := Memref.whole cc0_scratch1
abbrev scM0_2 : Memref sig .tc .vmem S2304x512 .f32 := Memref.whole cc0_scratch2

/-- The call's invariant hands the body its scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

section Body

variable (c : Dev nD) (i : grid0.Coords)
  (arg2 : Memref sig .tc .vmem S1x2304x512 .bf16) (harg2 : arg2.IsWhole)
  (arg3 : Memref sig .tc .vmem S1x2304x128 .bf16) (harg3 : arg3.IsWhole)
  (arg4 : Memref sig .tc .vmem S1x2304x128 .bf16) (harg4 : arg4.IsWhole)
  (arg5 : Memref sig .tc .vmem S1x1x2304x48 .f32) (harg5 : arg5.IsWhole)
  (arg6 : Memref sig .tc .vmem S1x1x2x2x18x8x128 .f32) (harg6 : arg6.IsWhole)
  (arg7 : Memref sig .tc .vmem S1x1x18x2x512 .f32) (harg7 : arg7.IsWhole)
  (arg8 : Memref sig .tc .vmem S2x48x1024 .bf16) (harg8 : arg8.IsWhole)
  (arg9 : Memref sig .tc .vmem S1x2304x512 .bf16) (harg9 : arg9.IsWhole)
  (arg10 : Memref sig .tc .vmem S128x512 .f32) (harg10 : arg10.IsWhole)
  (arg11 : Memref sig .tc .vmem S128x512 .f32) (harg11 : arg11.IsWhole)
  (arg12 : Memref sig .tc .vmem S2304x512 .f32) (harg12 : arg12.IsWhole)
  (x0 : Vec F S1x2304x512 .bf16)
  (x1 : Vec F S1x2304x128 .bf16)
  (x2 : Vec F S1x2304x128 .bf16)
  (x3 : Vec F S1x1x2304x48 .f32)
  (x4 : Vec F S1x1x2x2x18x8x128 .f32)
  (x5 : Vec F S1x1x18x2x512 .f32)
  (x6 : Vec F S2x48x1024 .bf16)

set_option maxHeartbeats 1000000 in
/-- The stores the body makes into its output block, and that from the input blocks it runs to its end, leaving them as they were. -/
def kernelRun0_A :
    { L7 : List (View.Piece (Elt F) S1x2304x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_ssd_scan i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_ssd_scan_eq_skeleton]; unfold cc0_ssd_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The body's one store covers the output block. -/
theorem cover0_A_7 (y : S1x2304x512.Idx) :
    ∃ pc ∈ (kernelRun0_A c i arg2 harg2 arg3 harg3 arg4 harg4 arg5 harg5 arg6 harg6 arg7 harg7 arg8 harg8 arg9 harg9 arg10 harg10 arg11 harg11 arg12 harg12 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 x0 x1 x2 x3 x4 x5 x6).1 S1x2304x512.size (by sl_kernel_rfl) y

/-- What the body leaves in the output block. -/
def out0_A_7 : Vec F S1x2304x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 x0 x1 x2 x3 x4 x5 x6).1)

end Body

/-- What the output block holds after the body at point `t`. -/
def outsAt0 (c : Dev nD) (t : Fin cfg0.N) : Vec F S1x2304x512 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t)

/-- The call's data: the arrays as found, each window after each point, the invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q w := Pipeline.shareOf spec0 w
  owed _ := 0

/-- The arrays are as the call finds them. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input window holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point turns the one into the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%e7, H7⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _)

/-- The call's body at a point's slots. -/
theorem defs₀_row (t : Fin cfg0.N) :
    defs₀ (F := F) .tc cfg0.body (cfg0.bodyArgs t (cfg0.slots t)) = bodyAt0 t := by
  unfold defs₀; rw [Defs.onTc_tc]

/-- The call's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end, the call's arrays at what its data say and no semaphore up. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The program leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The same, with no semaphore up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ScanIdeal.Chunks
-- ==== Proof.ScanCell.lean ====
/-
  One chunk of the scan kernel, entry by entry: what the two heads of a pair put out, what the four
  pairs put out, and what a chunk adds to the carried state.
-/
module

public import proofs.«01_k».proof.Proof.ScanIdealFrame
public import Idealize.ShloMosaic.Lib.Pipeline.ValueKit
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScanIdeal.Cell

open Cert.ScanIdeal Cert.ScanIdeal.Gen

/-- The weights of one head: the product of the readouts and the inputs, decayed, times the step sizes. -/
def lhs (mask : IVec S128x128 1) (cols : FVec Ideal S128x48 .f32) (arow dtrow : FVec Ideal S8x128 .f32)
    (cb : FVec Ideal S128x128 .f32) (c j : ℕ) (hc : S128x48.Slices ![0, c] S128x1) (hj : S8x128.Slices ![j, 0] S1x128) :
    FVec Ideal S128x128 .bf16 :=
  truncf .bf16 (mulf (mulf cb (exp (select mask
    (subf (broadcastTo S128x128 (extractStridedSlice S128x1 ![0, c] cols hc) broadcasts_S128x1_S128x128)
      (broadcastTo S128x128 (extractStridedSlice S1x128 ![j, 0] arow hj) broadcasts_S1x128_S128x128))
    (broadcast S128x128 (Scalar.ofBits .f32 0xFF800000#32 : Ideal .f32)))))
    (broadcastTo S128x128 (extractStridedSlice S1x128 ![j, 0] dtrow hj) broadcasts_S1x128_S128x128)) bitsLt_bf16_f32

theorem lhs_at (mask : IVec S128x128 1) (cols : FVec Ideal S128x48 .f32) (arow dtrow : FVec Ideal S8x128 .f32)
    (cb : FVec Ideal S128x128 .f32) (c j : ℕ) (hc : S128x48.Slices ![0, c] S128x1) (hj : S8x128.Slices ![j, 0] S1x128)
    (hc' : c < 48) (hj' : j < 8) (l r : Fin 128) :
    lhs mask cols arow dtrow cb c j hc hj (ix2 l r)
      = cb (ix2 l r) * Ideal.exp (Scalar.select (mask (ix2 l r)) (cols (ix2 l ⟨c, hc'⟩) - arow (ix2 ⟨j, hj'⟩ r)) (⊥ : EReal))
          * dtrow (ix2 ⟨j, hj'⟩ r) := by
  have e : Ideal.ofBits .f32 4286578688#32 = (⊥ : EReal) := by simp [Ideal.ofBits, Ideal.ieee]
  pointwise [lhs]
  first | done | rw [e] | simp only [e]

/-- The columns of two heads, `xp`, met by their weights: the left half of the columns by `E`, the right half by `O`. -/
def pair (low : IVec S1x128 1) (E O : FVec Ideal S128x128 .bf16) (xp zero : FVec Ideal S128x128 .bf16) : FVec Ideal S128x128 .f32 :=
  matmul dot_S128x256_S256x128_S128x128_1_0_0_1_n_n none
    (concatenate S128x256 1 [⟨S128x128, E⟩, ⟨S128x128, O⟩] concatenates_S128x128_S128x128_S128x256_d1)
    (concatenate S256x128 0
      [⟨S128x128, select (broadcastTo S128x128 (shapeCast S1x128 low shapeCasts_S1x128_S1x128) broadcasts_S1x128_S128x128) xp zero⟩,
       ⟨S128x128, select (broadcastTo S128x128 (shapeCast S1x128 low shapeCasts_S1x128_S1x128) broadcasts_S1x128_S128x128) zero xp⟩]
      concatenates_S128x128_S128x128_S256x128_d0)
    (constant S128x128 .f32 0x00000000#32)

theorem ge_at (l r : Fin 128) : k0_pay4 (ix2 l r) = if r ≤ l then 1#1 else 0#1 := by
  have e : IntOp.cmpi .sge (BitVec.ofNat 32 l.val) (BitVec.ofNat 32 r.val)
      = BitVec.ofBool (decide (r.val ≤ l.val)) := WordCmp.cmpi_sge_ofNat (by omega) (by omega)
  have hv : k0_pay4 (ix2 l r) = IntOp.cmpi .sge (BitVec.ofNat 32 l.val) (BitVec.ofNat 32 r.val) := by
    pointwise [k0_pay4]
    try rfl
  rw [hv, e]
  by_cases h : r ≤ l
  · have : r.val ≤ l.val := h
    simp [h, this]
  · have : ¬ r.val ≤ l.val := h
    simp [h, this]

theorem le_at (l r : Fin 128) : k0_pay5 (ix2 l r) = if l ≤ r then 1#1 else 0#1 := by
  have e : IntOp.cmpi .sle (BitVec.ofNat 32 l.val) (BitVec.ofNat 32 r.val)
      = BitVec.ofBool (decide (l.val ≤ r.val)) := WordCmp.cmpi_sle_ofNat (by omega) (by omega)
  have hv : k0_pay5 (ix2 l r) = IntOp.cmpi .sle (BitVec.ofNat 32 l.val) (BitVec.ofNat 32 r.val) := by
    pointwise [k0_pay5]
    try rfl
  rw [hv, e]
  by_cases h : l ≤ r
  · have : l.val ≤ r.val := h
    simp [h, this]
  · have : ¬ l.val ≤ r.val := h
    simp [h, this]

theorem low_at (q : Fin 128) : k0_pay6 (ix2 0 q) = if q.val < 64 then 1#1 else 0#1 := by
  have e : IntOp.cmpi .slt (BitVec.ofNat 32 q.val) (BitVec.ofNat 32 64)
      = BitVec.ofBool (decide (q.val < 64)) := WordCmp.cmpi_slt_ofNat (by omega) (by omega)
  have hv : k0_pay6 (ix2 0 q) = IntOp.cmpi .slt (BitVec.ofNat 32 q.val) (BitVec.ofNat 32 64) := by
    pointwise [k0_pay6]
    try rfl
  rw [hv, e]
  by_cases h : q.val < 64 <;> simp [h]

/-- A block of zeros. -/
def zeros : FVec Ideal S128x128 .bf16 := broadcast S128x128 (Scalar.ofBits .bf16 0x0000#16 : Ideal .bf16)

theorem zeros_at (l q : Fin 128) : zeros (ix2 l q) = (0 : EReal) := by
  pointwise [zeros]

theorem pair_at (E O xp : FVec Ideal S128x128 .bf16) (l q : Fin 128) :
    pair k0_pay6 E O xp zeros (ix2 l q)
      = if q.val < 64 then ∑ r : Fin 128, E (ix2 l r) * xp (ix2 r q) else ∑ r : Fin 128, O (ix2 l r) * xp (ix2 r q) := by
  have hv : pair k0_pay6 E O xp zeros (ix2 l q)
      = ∑ r : Fin 128, E (ix2 l r) * Scalar.select (k0_pay6 (ix2 0 q)) (xp (ix2 r q)) (zeros (ix2 r q))
        + ∑ r : Fin 128, O (ix2 l r) * Scalar.select (k0_pay6 (ix2 0 q)) (zeros (ix2 r q)) (xp (ix2 r q)) := by
    pointwise [pair]
  rw [hv, low_at]
  by_cases h : q.val < 64
  · simp [h, Scalar.select, zeros_at]
  · simp [h, Scalar.select, zeros_at]

/-- The four pairs side by side. -/
def parts (mask : IVec S128x128 1) (x : FVec Ideal S128x512 .bf16) (cols : FVec Ideal S128x48 .f32) (arow dtrow : FVec Ideal S8x128 .f32)
    (cb : FVec Ideal S128x128 .f32) (c : Fin 8 → ℕ) (hc : ∀ j : Fin 8, S128x48.Slices ![0, c j] S128x1) : FVec Ideal S128x512 .f32 :=
  concatenate S128x512 1
    [⟨S128x128, pair k0_pay6 (lhs mask cols arow dtrow cb (c 0) 0 (hc 0) slices_S8x128_o0_0_S1x128)
        (lhs mask cols arow dtrow cb (c 1) 1 (hc 1) slices_S8x128_o1_0_S1x128)
        (extractStridedSlice S128x128 ![0, 0] x slices_S128x512_o0_0_S128x128) zeros⟩,
     ⟨S128x128, pair k0_pay6 (lhs mask cols arow dtrow cb (c 2) 2 (hc 2) slices_S8x128_o2_0_S1x128)
        (lhs mask cols arow dtrow cb (c 3) 3 (hc 3) slices_S8x128_o3_0_S1x128)
        (extractStridedSlice S128x128 ![0, 128] x slices_S128x512_o0_128_S128x128) zeros⟩,
     ⟨S128x128, pair k0_pay6 (lhs mask cols arow dtrow cb (c 4) 4 (hc 4) slices_S8x128_o4_0_S1x128)
        (lhs mask cols arow dtrow cb (c 5) 5 (hc 5) slices_S8x128_o5_0_S1x128)
        (extractStridedSlice S128x128 ![0, 256] x slices_S128x512_o0_256_S128x128) zeros⟩,
     ⟨S128x128, pair k0_pay6 (lhs mask cols arow dtrow cb (c 6) 6 (hc 6) slices_S8x128_o6_0_S1x128)
        (lhs mask cols arow dtrow cb (c 7) 7 (hc 7) slices_S8x128_o7_0_S1x128)
        (extractStridedSlice S128x128 ![0, 384] x slices_S128x512_o0_384_S128x128) zeros⟩]
    concatenates_S128x128_S128x128_S128x128_S128x128_S128x512_d1

/-- The weight of input `r` in output `l` of head `j`. -/
def weight (mask : IVec S128x128 1) (cols : FVec Ideal S128x48 .f32) (arow dtrow : FVec Ideal S8x128 .f32)
    (cb : FVec Ideal S128x128 .f32) (c : Fin 48) (j : Fin 8) (l r : Fin 128) : EReal :=
  cb (ix2 l r) * Ideal.exp (Scalar.select (mask (ix2 l r)) (cols (ix2 l c) - arow (ix2 j r)) (⊥ : EReal)) * dtrow (ix2 j r)

theorem parts_at (mask : IVec S128x128 1) (x : FVec Ideal S128x512 .bf16) (cols : FVec Ideal S128x48 .f32) (arow dtrow : FVec Ideal S8x128 .f32)
    (cb : FVec Ideal S128x128 .f32) (c : Fin 8 → ℕ) (hc : ∀ j : Fin 8, S128x48.Slices ![0, c j] S128x1) (hc' : ∀ j, c j < 48)
    (l : Fin 128) (j : Fin 8) (p : Fin 64) :
    parts mask x cols arow dtrow cb c hc (ix2 l ⟨64 * j.val + p.val, by omega⟩)
      = ∑ r : Fin 128, weight mask cols arow dtrow cb ⟨c j, hc' j⟩ j l r * x (ix2 r ⟨64 * j.val + p.val, by omega⟩) := by
  have hp := p.isLt
  fin_cases j
  all_goals
    unfold parts weight
    pointwise [pair_at]
    repeat (first | rw [dif_pos (by omega)] | rw [dif_neg (by omega)] | rw [if_pos (by omega)] | rw [if_neg (by omega)])
    refine Finset.sum_congr rfl fun r _ => ?_
    rw [lhs_at _ _ _ _ _ _ _ _ _ (hc' _) (by omega)]
    first | rfl | exact congrArg₂ (· * ·) rfl (congrArg x (congrArg (ix2 r) (Fin.ext (by simp only; omega))))

/-- What the kernel adds to a chunk of the sum: what the incoming state gives plus what the chunk's own inputs give. -/
def outOf (mask : IVec S128x128 1) (x : FVec Ideal S128x512 .bf16) (cols : FVec Ideal S128x48 .f32) (arow dtrow : FVec Ideal S8x128 .f32)
    (cb : FVec Ideal S128x128 .f32) (inter y : FVec Ideal S128x512 .f32) (c : Fin 8 → ℕ) (hc : ∀ j : Fin 8, S128x48.Slices ![0, c j] S128x1) :
    FVec Ideal S128x512 .f32 :=
  shapeCast S128x512 (addf y (addf inter (parts mask x cols arow dtrow cb c hc))) shapeCasts_S128x512_S128x512

theorem outOf_at (mask : IVec S128x128 1) (x : FVec Ideal S128x512 .bf16) (cols : FVec Ideal S128x48 .f32) (arow dtrow : FVec Ideal S8x128 .f32)
    (cb : FVec Ideal S128x128 .f32) (inter y : FVec Ideal S128x512 .f32) (c : Fin 8 → ℕ) (hc : ∀ j : Fin 8, S128x48.Slices ![0, c j] S128x1)
    (l : Fin 128) (q : Fin 512) :
    outOf mask x cols arow dtrow cb inter y c hc (ix2 l q)
      = y (ix2 l q) + (inter (ix2 l q) + parts mask x cols arow dtrow cb c hc (ix2 l q)) := by
  pointwise [outOf]

theorem hcF : ∀ j : Fin 8, S128x48.Slices ![0, j.val] S128x1 := by decide

theorem hcB : ∀ j : Fin 8, S128x48.Slices ![0, 24 + j.val] S128x1 := by decide

theorem fwd_eq (x : FVec Ideal S128x512 .bf16) (cols : FVec Ideal S128x48 .f32) (arow dtrow : FVec Ideal S8x128 .f32)
    (cb : FVec Ideal S128x128 .f32) (inter y : FVec Ideal S128x512 .f32) :
    k0_pay33 k0_pay4 k0_pay6 x cols arow dtrow cb inter (k0_pay22 k0_pay4 k0_pay6 x cols arow dtrow cb)
        (k0_pay26 k0_pay4 k0_pay6 x dtrow cb (k0_pay23 k0_pay4 cols arow dtrow cb) (k0_pay24 arow) (k0_pay25 cols))
        (k0_pay27 k0_pay4 cols arow dtrow cb) (k0_pay28 k0_pay4 cols arow dtrow cb) (k0_pay29 x) (k0_pay30 (F := Ideal))
        (k0_pay31 k0_pay6 x) (k0_pay32 k0_pay6) y
      = outOf k0_pay4 x cols arow dtrow cb inter y (fun j => j.val) hcF := rfl

theorem bwd_eq (x : FVec Ideal S128x512 .bf16) (bb cc : FVec Ideal S128x128 .bf16) (cols : FVec Ideal S128x48 .f32) (arow : FVec Ideal S8x128 .f32)
    (dt : Vec Ideal S1x1x1x1x1x8x128 .f32) (inter y : FVec Ideal S128x512 .f32) :
    k0_pay7 inter
        (k0_pay51 k0_pay6 (k0_pay46 k0_pay5 bb cc cols arow dt) (k0_pay47 k0_pay5 bb cc cols arow dt) (k0_pay48 x) (k0_pay49 (F := Ideal)) (k0_pay50 k0_pay6))
        (k0_pay52 k0_pay5 k0_pay6 x cols arow (k0_pay41 dt) (k0_pay42 bb cc))
        (k0_pay55 k0_pay5 k0_pay6 x cols arow (k0_pay41 dt) (k0_pay42 bb cc) (k0_pay53 k0_pay5 cols arow (k0_pay42 bb cc)) (k0_pay54 (k0_pay41 dt)))
        (k0_pay56 k0_pay5 cols arow (k0_pay41 dt) (k0_pay42 bb cc)) (k0_pay57 k0_pay5 cols arow (k0_pay41 dt) (k0_pay42 bb cc)) (k0_pay58 x)
        (Scalar.ofBits .bf16 0x0000#16) y
      = outOf k0_pay5 x cols arow (k0_pay41 dt) (k0_pay42 bb cc) inter y (fun j => 24 + j.val) hcB := rfl

/-- The state after a chunk: the incoming state decayed, plus the chunk's inputs weighted and met by its input directions. -/
def stateOf (bb : FVec Ideal S128x128 .bf16) (st : FVec Ideal S128x512 .f32) (x : FVec Ideal S128x512 .bf16) (dw : FVec Ideal S128x512 .f32)
    (eal : Vec Ideal S1x1x1x1x512 .f32) : FVec Ideal S128x512 .f32 :=
  k0_pay35 bb st (k0_pay34 x dw) eal

theorem stateOf_at (bb : FVec Ideal S128x128 .bf16) (st : FVec Ideal S128x512 .f32) (x : FVec Ideal S128x512 .bf16) (dw : FVec Ideal S128x512 .f32)
    (eal : Vec Ideal S1x1x1x1x512 .f32) (n : Fin 128) (q : Fin 512) :
    stateOf bb st x dw eal (ix2 n q)
      = st (ix2 n q) * eal (ix5 0 0 0 0 q) + ∑ r : Fin 128, bb (ix2 r n) * (x (ix2 r q) * dw (ix2 r q)) := by
  pointwise [stateOf, k0_pay35, k0_pay34]

theorem pay8_eq (bb : FVec Ideal S128x128 .bf16) (st : FVec Ideal S128x512 .f32) (x : FVec Ideal S128x512 .bf16) (dw : FVec Ideal S128x512 .f32)
    (eal : Vec Ideal S1x1x1x1x512 .f32) : k0_pay8 x bb dw st eal = stateOf bb st x dw eal := rfl

theorem inter_at (cc : FVec Ideal S128x128 .bf16) (st ea : FVec Ideal S128x512 .f32) (l : Fin 128) (q : Fin 512) :
    k0_pay21 cc ea (k0_pay20 st) (constant S128x512 .f32 0x00000000#32) (ix2 l q)
      = (∑ n : Fin 128, cc (ix2 l n) * st (ix2 n q)) * ea (ix2 l q) := by
  pointwise [k0_pay21, k0_pay20]

theorem ea_at (col : Vec Ideal S1x1x128x48 .f32) (e : Vec Ideal S1x48x1024 .bf16) (l : Fin 128) (q : Fin 512) :
    k0_pay18 col e (ix2 l q) = ∑ c : Fin 48, col (ix4 0 0 l c) * e (ix3 0 c ⟨q.val, by omega⟩) := by
  pointwise [k0_pay18, k0_pay17, k0_pay13]

theorem dw_at (col : Vec Ideal S1x1x128x48 .f32) (e : Vec Ideal S1x48x1024 .bf16) (l : Fin 128) (q : Fin 512) :
    k0_pay19 col e (ix2 l q) = ∑ c : Fin 48, col (ix4 0 0 l c) * e (ix3 0 c ⟨512 + q.val, by omega⟩) := by
  pointwise [k0_pay19, k0_pay17, k0_pay13]

theorem cb_at (bb cc : FVec Ideal S128x128 .bf16) (l r : Fin 128) :
    k0_pay42 bb cc (ix2 l r) = ∑ n : Fin 128, cc (ix2 l n) * bb (ix2 r n) := by
  pointwise [k0_pay42]

end Cert.ScanIdeal.Cell
-- ==== Proof.ScanTrip.lean ====
/-
  The scan kernel's loop as a recursion on vectors: the stores of a trip named by what they put into the two
  states and the sum, and what the three buffers read after so many trips.
-/
module

public import proofs.«01_k».proof.Proof.ScanCell
public import Idealize.ShloMosaic.Lib.VecWindow
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ScanIdeal.Chunks

open Cert.ScanIdeal Cert.ScanIdeal.Gen Cert.ScanIdeal.Cell

section Vectors

variable (X : Vec Ideal S1x2304x512 .bf16) (Bv Cv : Vec Ideal S1x2304x128 .bf16) (Col : Vec Ideal S1x1x2304x48 .f32)
  (Row : Vec Ideal S1x1x2x2x18x8x128 .f32) (Eal : Vec Ideal S1x1x18x2x512 .f32) (Ex : Vec Ideal S2x48x1024 .bf16)
  (k : Fin k0_t1_loop.trips)

/-- The forward chunk of the inputs. -/
abbrev xF : Vec Ideal S1x128x512 .bf16 := View.ld (Val := Elt Ideal) X (Rect.unit (s := S1x2304x512) (k0_off1 k) S1x128x512.size (k0_off1_inb k))

/-- The forward chunk of the input directions. -/
abbrev bF : Vec Ideal S1x128x128 .bf16 := View.ld (Val := Elt Ideal) Bv (Rect.unit (s := S1x2304x128) (k0_off2 k) S1x128x128.size (k0_off2_inb k))

/-- The forward chunk of the readout directions. -/
abbrev cF : Vec Ideal S1x128x128 .bf16 := View.ld (Val := Elt Ideal) Cv (Rect.unit (s := S1x2304x128) (k0_off2 k) S1x128x128.size (k0_off2_inb k))

/-- The forward chunk of the column tables. -/
abbrev colF : Vec Ideal S1x1x128x48 .f32 := View.ld (Val := Elt Ideal) Col (Rect.unit (s := S1x1x2304x48) (k0_off3 k) S1x1x128x48.size (k0_off3_inb k))

/-- The forward chunk of the running decays, as rows. -/
abbrev aF : Vec Ideal S1x1x1x1x1x8x128 .f32 := View.ld (Val := Elt Ideal) Row (Rect.unit (s := S1x1x2x2x18x8x128) (k0_off4 k) S1x1x1x1x1x8x128.size (k0_off4_inb k))

/-- The forward chunk of the step sizes, as rows. -/
abbrev tF : Vec Ideal S1x1x1x1x1x8x128 .f32 := View.ld (Val := Elt Ideal) Row (Rect.unit (s := S1x1x2x2x18x8x128) (k0_off5 k) S1x1x1x1x1x8x128.size (k0_off5_inb k))

/-- The forward chunk's decay of the state. -/
abbrev eF : Vec Ideal S1x1x1x1x512 .f32 := View.ld (Val := Elt Ideal) Eal (Rect.unit (s := S1x1x18x2x512) (k0_off7 k) S1x1x1x1x512.size (k0_off7_inb k))

/-- The forward direction's table that spreads columns over the channels. -/
abbrev sF : Vec Ideal S1x48x1024 .bf16 := View.ld (Val := Elt Ideal) Ex (Rect.unit (s := S2x48x1024) ![0, 0, 0] S1x48x1024.size inb_S2x48x1024_S1x48x1024_0_0_0)

/-- The backward chunk of the inputs. -/
abbrev xB : Vec Ideal S1x128x512 .bf16 := View.ld (Val := Elt Ideal) X (Rect.unit (s := S1x2304x512) (k0_off8 k) S1x128x512.size (k0_off8_inb k))

/-- The backward chunk of the input directions. -/
abbrev bB : Vec Ideal S1x128x128 .bf16 := View.ld (Val := Elt Ideal) Bv (Rect.unit (s := S1x2304x128) (k0_off9 k) S1x128x128.size (k0_off9_inb k))

/-- The backward chunk of the readout directions. -/
abbrev cB : Vec Ideal S1x128x128 .bf16 := View.ld (Val := Elt Ideal) Cv (Rect.unit (s := S1x2304x128) (k0_off9 k) S1x128x128.size (k0_off9_inb k))

/-- The backward chunk of the column tables. -/
abbrev colB : Vec Ideal S1x1x128x48 .f32 := View.ld (Val := Elt Ideal) Col (Rect.unit (s := S1x1x2304x48) (k0_off10 k) S1x1x128x48.size (k0_off10_inb k))

/-- The backward chunk of the running decays, as rows. -/
abbrev aB : Vec Ideal S1x1x1x1x1x8x128 .f32 := View.ld (Val := Elt Ideal) Row (Rect.unit (s := S1x1x2x2x18x8x128) (k0_off11 k) S1x1x1x1x1x8x128.size (k0_off11_inb k))

/-- The backward chunk of the step sizes, as rows. -/
abbrev tB : Vec Ideal S1x1x1x1x1x8x128 .f32 := View.ld (Val := Elt Ideal) Row (Rect.unit (s := S1x1x2x2x18x8x128) (k0_off12 k) S1x1x1x1x1x8x128.size (k0_off12_inb k))

/-- The backward chunk's decay of the state. -/
abbrev eB : Vec Ideal S1x1x1x1x512 .f32 := View.ld (Val := Elt Ideal) Eal (Rect.unit (s := S1x1x18x2x512) (k0_off14 k) S1x1x1x1x512.size (k0_off14_inb k))

/-- The backward direction's table that spreads columns over the channels. -/
abbrev sB : Vec Ideal S1x48x1024 .bf16 := View.ld (Val := Elt Ideal) Ex (Rect.unit (s := S2x48x1024) ![1, 0, 0] S1x48x1024.size inb_S2x48x1024_S1x48x1024_1_0_0)

/-- The forward state after the chunk, from the state before it. -/
def newF (st : FVec Ideal S128x512 .f32) : FVec Ideal S128x512 .f32 :=
  k0_pay35 (k0_pay11 (bF Bv k)) st (k0_pay34 (k0_pay10 (xF X k)) (k0_pay19 (colF Col k) (sF Ex))) (eF Eal k)

/-- The backward state after the chunk, from the state before it. -/
def newB (st : FVec Ideal S128x512 .f32) : FVec Ideal S128x512 .f32 :=
  k0_pay8 (k0_pay36 (xB X k)) (k0_pay37 (bB Bv k)) (k0_pay44 (k0_pay39 (colB Col k)) (sB Ex)) st (eB Eal k)

/-- The rows of the sum after the forward chunk, from the state and the rows before it. -/
def addF (st y : FVec Ideal S128x512 .f32) : FVec Ideal S128x512 .f32 :=
  outOf k0_pay4 (k0_pay10 (xF X k)) (k0_pay13 (colF Col k)) (k0_pay14 (aF Row k)) (k0_pay15 (tF Row k)) (k0_pay16 (bF Bv k) (cF Cv k))
    (k0_pay21 (k0_pay12 (cF Cv k)) (k0_pay18 (colF Col k) (sF Ex)) (k0_pay20 st) (constant S128x512 .f32 0x00000000#32)) y
    (fun j => j.val) hcF

/-- The rows of the sum after the backward chunk, from the state and the rows before it. -/
def addB (st y : FVec Ideal S128x512 .f32) : FVec Ideal S128x512 .f32 :=
  outOf k0_pay5 (k0_pay36 (xB X k)) (k0_pay39 (colB Col k)) (k0_pay40 (aB Row k)) (k0_pay41 (tB Row k))
    (k0_pay42 (k0_pay37 (bB Bv k)) (k0_pay38 (cB Cv k)))
    (k0_pay45 (k0_pay38 (cB Cv k)) (k0_pay39 (colB Col k)) (sB Ex) st) y (fun j => 24 + j.val) hcB

end Vectors

variable (𝒱 : Variants) (c : Dev nD) (bd : Option 𝒱.V) (i : grid0.Coords)
  (arg2 : Memref sig .tc .vmem S1x2304x512 .bf16) (harg2 : arg2.IsWhole)
  (arg3 : Memref sig .tc .vmem S1x2304x128 .bf16) (harg3 : arg3.IsWhole)
  (arg4 : Memref sig .tc .vmem S1x2304x128 .bf16) (harg4 : arg4.IsWhole)
  (arg5 : Memref sig .tc .vmem S1x1x2304x48 .f32) (harg5 : arg5.IsWhole)
  (arg6 : Memref sig .tc .vmem S1x1x2x2x18x8x128 .f32) (harg6 : arg6.IsWhole)
  (arg7 : Memref sig .tc .vmem S1x1x18x2x512 .f32) (harg7 : arg7.IsWhole)
  (arg8 : Memref sig .tc .vmem S2x48x1024 .bf16) (harg8 : arg8.IsWhole)
  (arg9 : Memref sig .tc .vmem S1x2304x512 .bf16) (harg9 : arg9.IsWhole)
  (arg10 : Memref sig .tc .vmem S128x512 .f32) (harg10 : arg10.IsWhole)
  (arg11 : Memref sig .tc .vmem S128x512 .f32) (harg11 : arg11.IsWhole)
  (arg12 : Memref sig .tc .vmem S2304x512 .f32) (harg12 : arg12.IsWhole)
  (X_arg2 : BufTy.Contents (Elt Ideal) arg2.view.ty)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (G_arg10 : BufTy.Contents (Elt Ideal) arg10.view.ty)
  (G_arg11 : BufTy.Contents (Elt Ideal) arg11.view.ty)
  (G_arg12 : BufTy.Contents (Elt Ideal) arg12.view.ty)

set_option maxHeartbeats 1000000 in
/-- The stores of one trip: into each state the next state, into the sum the forward chunk's rows and then the backward's. -/
theorem tripStores_eq (k : Fin k0_t1_loop.trips) (f_arg10 : BufTy.Contents (Elt Ideal) arg10.view.ty) (f_arg11 : BufTy.Contents (Elt Ideal) arg11.view.ty) (f_arg12 : BufTy.Contents (Elt Ideal) arg12.view.ty) :
    tripStores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 k f_arg10 f_arg11 f_arg12
      = ([⟨Rect.unit (s := S128x512) ![0, 0] S128x512.size inb_S128x512_S128x512_0_0,
            newF (arg2.view.read (Elt Ideal) X_arg2) (arg3.view.read (Elt Ideal) X_arg3) (arg5.view.read (Elt Ideal) X_arg5) (arg7.view.read (Elt Ideal) X_arg7) (arg8.view.read (Elt Ideal) X_arg8) k
              (arg10.view.readAt (Elt Ideal) (Rect.unit (s := S128x512) ![0, 0] S128x512.size inb_S128x512_S128x512_0_0).toLoadRect f_arg10)⟩],
         [⟨Rect.unit (s := S128x512) ![0, 0] S128x512.size inb_S128x512_S128x512_0_0,
            newB (arg2.view.read (Elt Ideal) X_arg2) (arg3.view.read (Elt Ideal) X_arg3) (arg5.view.read (Elt Ideal) X_arg5) (arg7.view.read (Elt Ideal) X_arg7) (arg8.view.read (Elt Ideal) X_arg8) k
              (arg11.view.readAt (Elt Ideal) (Rect.unit (s := S128x512) ![0, 0] S128x512.size inb_S128x512_S128x512_0_0).toLoadRect f_arg11)⟩],
         [⟨Rect.unit (s := S2304x512) (k0_off13 k) S128x512.size (k0_off13_inb k),
            addB (arg2.view.read (Elt Ideal) X_arg2) (arg3.view.read (Elt Ideal) X_arg3) (arg4.view.read (Elt Ideal) X_arg4) (arg5.view.read (Elt Ideal) X_arg5) (arg6.view.read (Elt Ideal) X_arg6) (arg8.view.read (Elt Ideal) X_arg8) k
              (arg11.view.readAt (Elt Ideal) (Rect.unit (s := S128x512) ![0, 0] S128x512.size inb_S128x512_S128x512_0_0).toLoadRect f_arg11)
              (arg12.view.readAt (Elt Ideal) (Rect.unit (s := S2304x512) (k0_off13 k) S128x512.size (k0_off13_inb k)).toLoadRect
                (arg12.view.writes (Elt Ideal) f_arg12 [⟨Rect.unit (s := S2304x512) (k0_off6 k) S128x512.size (k0_off6_inb k),
                  addF (arg2.view.read (Elt Ideal) X_arg2) (arg3.view.read (Elt Ideal) X_arg3) (arg4.view.read (Elt Ideal) X_arg4) (arg5.view.read (Elt Ideal) X_arg5) (arg6.view.read (Elt Ideal) X_arg6) (arg8.view.read (Elt Ideal) X_arg8) k
                    (arg10.view.readAt (Elt Ideal) (Rect.unit (s := S128x512) ![0, 0] S128x512.size inb_S128x512_S128x512_0_0).toLoadRect f_arg10)
                    (arg12.view.readAt (Elt Ideal) (Rect.unit (s := S2304x512) (k0_off6 k) S128x512.size (k0_off6_inb k)).toLoadRect f_arg12)⟩]))⟩,
          ⟨Rect.unit (s := S2304x512) (k0_off6 k) S128x512.size (k0_off6_inb k),
            addF (arg2.view.read (Elt Ideal) X_arg2) (arg3.view.read (Elt Ideal) X_arg3) (arg4.view.read (Elt Ideal) X_arg4) (arg5.view.read (Elt Ideal) X_arg5) (arg6.view.read (Elt Ideal) X_arg6) (arg8.view.read (Elt Ideal) X_arg8) k
              (arg10.view.readAt (Elt Ideal) (Rect.unit (s := S128x512) ![0, 0] S128x512.size inb_S128x512_S128x512_0_0).toLoadRect f_arg10)
              (arg12.view.readAt (Elt Ideal) (Rect.unit (s := S2304x512) (k0_off6 k) S128x512.size (k0_off6_inb k)).toLoadRect f_arg12)⟩]) := by
  unfold tripStores trip
  rfl

theorem trips_eq : k0_t1_loop.trips = 18 := by decide +kernel

/-! ## Where the loads and stores of a trip start -/

theorem off1_eq : ∀ k : Fin k0_t1_loop.trips, k0_off1 k = ![0, 128 * k.val, 0] := by decide +kernel
theorem off2_eq : ∀ k : Fin k0_t1_loop.trips, k0_off2 k = ![0, 128 * k.val, 0] := by decide +kernel
theorem off3_eq : ∀ k : Fin k0_t1_loop.trips, k0_off3 k = ![0, 0, 128 * k.val, 0] := by decide +kernel
theorem off4_eq : ∀ k : Fin k0_t1_loop.trips, k0_off4 k = ![0, 0, 0, 0, k.val, 0, 0] := by decide +kernel
theorem off5_eq : ∀ k : Fin k0_t1_loop.trips, k0_off5 k = ![0, 0, 0, 1, k.val, 0, 0] := by decide +kernel
theorem off6_eq : ∀ k : Fin k0_t1_loop.trips, k0_off6 k = ![128 * k.val, 0] := by decide +kernel
theorem off7_eq : ∀ k : Fin k0_t1_loop.trips, k0_off7 k = ![0, 0, k.val, 0, 0] := by decide +kernel

/-! ## Rows of the sum -/

/-- A piece of 128 whole rows read back: at its own rows the piece, elsewhere what was there. -/
theorem read_rows {sp : Space} (v : View sig .tc sp S2304x512 .f32) (f : BufTy.Contents (Elt Ideal) v.ty)
    {off : Fin 2 → ℕ} (inb : ∀ a, off a + S128x512.size a ≤ S2304x512.size a) (w : FVec Ideal S128x512 .f32)
    (L : List (View.Piece (Elt Ideal) S2304x512 .f32)) (b : ℕ) (hoff : off = ![128 * b, 0])
    (a : Fin 18) (l : Fin 128) (q : Fin 512) :
    v.read (Elt Ideal) (v.writes (Elt Ideal) f (⟨Rect.unit (s := S2304x512) off S128x512.size inb, w⟩ :: L)) (ix2 ⟨128 * a.val + l.val, by omega⟩ q)
      = if a.val = b then w (ix2 l q) else v.read (Elt Ideal) (v.writes (Elt Ideal) f L) (ix2 ⟨128 * a.val + l.val, by omega⟩ q) := by
  by_cases h : a.val = b
  · rw [if_pos h]
    refine View.read_writes_cons_unit_of_mem v f inb w L _ (ix2 l q) hoff fun x => ?_
    fin_cases x
    · show 128 * a.val + l.val = 128 * b + l.val
      rw [h]
    · show q.val = 0 + q.val
      omega
  · rw [if_neg h]
    refine View.read_writes_cons_unit_of_not_mem v f inb w L _ hoff 0 ?_
    show 128 * a.val + l.val < 128 * b ∨ 128 * b + 128 ≤ 128 * a.val + l.val
    omega

/-- A load of 128 whole rows. -/
theorem load_rows {sp : Space} (v : View sig .tc sp S2304x512 .f32) (f : BufTy.Contents (Elt Ideal) v.ty)
    {off : Fin 2 → ℕ} (inb : ∀ a, off a + S128x512.size a ≤ S2304x512.size a) (b : ℕ) (hb : b < 18) (hoff : off = ![128 * b, 0])
    (l : Fin 128) (q : Fin 512) :
    v.readAt (Elt Ideal) (Rect.unit (s := S2304x512) off S128x512.size inb).toLoadRect f (ix2 l q)
      = v.read (Elt Ideal) f (ix2 ⟨128 * b + l.val, by omega⟩ q) := by
  subst hoff
  rw [View.readAt_apply]
  refine congrArg (v.read (Elt Ideal) f) (funext fun x => Fin.ext ?_)
  fin_cases x
  · show 128 * b + 1 * l.val = 128 * b + l.val
    omega
  · show 0 + 1 * q.val = q.val
    omega

section Recursion

variable (X : Vec Ideal S1x2304x512 .bf16) (Bv Cv : Vec Ideal S1x2304x128 .bf16) (Col : Vec Ideal S1x1x2304x48 .f32)
  (Row : Vec Ideal S1x1x2x2x18x8x128 .f32) (Eal : Vec Ideal S1x1x18x2x512 .f32) (Ex : Vec Ideal S2x48x1024 .bf16)
  (s0 : FVec Ideal S128x512 .f32)

/-- The forward state after `n` trips. -/
def stF : ℕ → FVec Ideal S128x512 .f32
  | 0 => s0
  | n + 1 => if h : n < k0_t1_loop.trips then newF X Bv Col Eal Ex ⟨n, h⟩ (stF n) else stF n

/-- The backward state after `n` trips. -/
def stB : ℕ → FVec Ideal S128x512 .f32
  | 0 => s0
  | n + 1 => if h : n < k0_t1_loop.trips then newB X Bv Col Eal Ex ⟨n, h⟩ (stB n) else stB n

theorem stF_succ (k : Fin k0_t1_loop.trips) : stF X Bv Col Eal Ex s0 (k.val + 1) = newF X Bv Col Eal Ex k (stF X Bv Col Eal Ex s0 k.val) := by
  rw [stF, dif_pos k.isLt]

theorem stB_succ (k : Fin k0_t1_loop.trips) : stB X Bv Col Eal Ex s0 (k.val + 1) = newB X Bv Col Eal Ex k (stB X Bv Col Eal Ex s0 k.val) := by
  rw [stB, dif_pos k.isLt]

/-- What the forward direction puts out at its `k`-th chunk, from the state before it. -/
def outF (k : Fin k0_t1_loop.trips) (st : FVec Ideal S128x512 .f32) (l : Fin 128) (q : Fin 512) : EReal :=
  k0_pay21 (k0_pay12 (cF Cv k)) (k0_pay18 (colF Col k) (sF Ex)) (k0_pay20 st) (constant S128x512 .f32 0x00000000#32) (ix2 l q)
    + parts k0_pay4 (k0_pay10 (xF X k)) (k0_pay13 (colF Col k)) (k0_pay14 (aF Row k)) (k0_pay15 (tF Row k)) (k0_pay16 (bF Bv k) (cF Cv k))
      (fun j => j.val) hcF (ix2 l q)

/-- What the backward direction puts out at its `k`-th chunk, from the state before it. -/
def outB (k : Fin k0_t1_loop.trips) (st : FVec Ideal S128x512 .f32) (l : Fin 128) (q : Fin 512) : EReal :=
  k0_pay45 (k0_pay38 (cB Cv k)) (k0_pay39 (colB Col k)) (sB Ex) st (ix2 l q)
    + parts k0_pay5 (k0_pay36 (xB X k)) (k0_pay39 (colB Col k)) (k0_pay40 (aB Row k)) (k0_pay41 (tB Row k))
      (k0_pay42 (k0_pay37 (bB Bv k)) (k0_pay38 (cB Cv k))) (fun j => 24 + j.val) hcB (ix2 l q)

theorem addF_at (k : Fin k0_t1_loop.trips) (st y : FVec Ideal S128x512 .f32) (l : Fin 128) (q : Fin 512) :
    addF X Bv Cv Col Row Ex k st y (ix2 l q) = y (ix2 l q) + outF X Bv Cv Col Row Ex k st l q :=
  outOf_at _ _ _ _ _ _ _ _ _ _ l q

theorem addB_at (k : Fin k0_t1_loop.trips) (st y : FVec Ideal S128x512 .f32) (l : Fin 128) (q : Fin 512) :
    addB X Bv Cv Col Row Ex k st y (ix2 l q) = y (ix2 l q) + outB X Bv Cv Col Row Ex k st l q :=
  outOf_at _ _ _ _ _ _ _ _ _ _ l q

/-- The chunk number as a trip's. -/
abbrev trp (a : Fin 18) : Fin k0_t1_loop.trips := a.cast trips_eq.symm

theorem back_lt (k : Fin k0_t1_loop.trips) : back k < 18 := Nat.mod_lt _ (by decide)

/-- The trip whose backward chunk is `a`, which is the chunk of trip `a`. -/
abbrev bck (a : Fin 18) : Fin 18 := ⟨back (trp a), back_lt _⟩

theorem back_eq_iff : ∀ (a : Fin 18) (k : Fin k0_t1_loop.trips), a.val = back k ↔ (bck a).val = k.val := by
  intro a k
  have hk : k.val < 18 := trips_eq ▸ k.isLt
  show a.val = (19 - k.val) % 18 ↔ (19 - a.val) % 18 = k.val
  omega

/-- The sum after `n` trips at row `l` of chunk `a`: the forward output once that chunk is past, and the backward one. -/
def sumAt (n : ℕ) (a : Fin 18) (l : Fin 128) (q : Fin 512) : EReal :=
  (if a.val < n then outF X Bv Cv Col Row Ex (trp a) (stF X Bv Col Eal Ex s0 a.val) l q else 0)
    + (if (bck a).val < n then outB X Bv Cv Col Row Ex (trp (bck a)) (stB X Bv Col Eal Ex s0 (bck a).val) l q else 0)

theorem ite_succ (a n : ℕ) (x : EReal) : (if a < n + 1 then x else 0) = (if a < n then x else 0) + (if a = n then x else 0) := by
  by_cases h : a < n
  · rw [if_pos h, if_pos (by omega), if_neg (by omega), add_zero]
  · by_cases h' : a = n
    · rw [if_neg h, if_pos h', if_pos (by omega), zero_add]
    · rw [if_neg h, if_neg h', if_neg (by omega), add_zero]

theorem sumAt_succ (n : ℕ) (a : Fin 18) (l : Fin 128) (q : Fin 512) :
    sumAt X Bv Cv Col Row Eal Ex s0 (n + 1) a l q
      = sumAt X Bv Cv Col Row Eal Ex s0 n a l q
        + (if a.val = n then outF X Bv Cv Col Row Ex (trp a) (stF X Bv Col Eal Ex s0 a.val) l q else 0)
        + (if (bck a).val = n then outB X Bv Cv Col Row Ex (trp (bck a)) (stB X Bv Col Eal Ex s0 (bck a).val) l q else 0) := by
  unfold sumAt
  rw [ite_succ a.val, ite_succ (bck a).val]
  ac_rfl

end Recursion

/-- After `n` trips the three buffers read the two states and the sum of the recursion on vectors. -/
theorem stores_read (s0 : FVec Ideal S128x512 .f32)
    (h10 : arg10.view.read (Elt Ideal) G_arg10 = s0) (h11 : arg11.view.read (Elt Ideal) G_arg11 = s0)
    (h12 : ∀ y, arg12.view.read (Elt Ideal) G_arg12 y = (0 : EReal)) (n : ℕ) (hn : n ≤ 18) :
    arg10.view.read (Elt Ideal) (arg10.view.writes (Elt Ideal) G_arg10 (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).1)
        = stF (arg2.view.read (Elt Ideal) X_arg2) (arg3.view.read (Elt Ideal) X_arg3) (arg5.view.read (Elt Ideal) X_arg5) (arg7.view.read (Elt Ideal) X_arg7) (arg8.view.read (Elt Ideal) X_arg8) s0 n
    ∧ arg11.view.read (Elt Ideal) (arg11.view.writes (Elt Ideal) G_arg11 (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).2.1)
        = stB (arg2.view.read (Elt Ideal) X_arg2) (arg3.view.read (Elt Ideal) X_arg3) (arg5.view.read (Elt Ideal) X_arg5) (arg7.view.read (Elt Ideal) X_arg7) (arg8.view.read (Elt Ideal) X_arg8) s0 n
    ∧ ∀ (a : Fin 18) (l : Fin 128) (q : Fin 512),
        arg12.view.read (Elt Ideal) (arg12.view.writes (Elt Ideal) G_arg12 (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).2.2) (ix2 ⟨128 * a.val + l.val, by omega⟩ q)
          = sumAt (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) s0 n a l q := by
  induction n with
  | zero =>
    refine ⟨h10, h11, fun a l q => ?_⟩
    refine (h12 _).trans ?_
    simp [sumAt]
  | succ n ih =>
    obtain ⟨i1, i2, i3⟩ := ih (by omega)
    have hlt : n < k0_t1_loop.trips := by rw [trips_eq]; omega
    have hs := stores_succ (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 ⟨n, hlt⟩
    rw [tripStores_eq] at hs
    rw [hs]
    refine ⟨?_, ?_, fun a l q => ?_⟩
    · rw [stF_succ _ _ _ _ _ _ ⟨n, hlt⟩, ← i1]
      refine (View.read_writes_full (s := S128x512) arg10.view _ _ _ _).trans ?_
      exact congrArg _ (View.readAt_full (s := S128x512) arg10.view _ _)
    · rw [stB_succ _ _ _ _ _ _ ⟨n, hlt⟩, ← i2]
      refine (View.read_writes_full (s := S128x512) arg11.view _ _ _ _).trans ?_
      exact congrArg _ (View.readAt_full (s := S128x512) arg11.view _ _)
    · have e10 : arg10.view.readAt (Elt Ideal) (Rect.unit (s := S128x512) ![0, 0] S128x512.size inb_S128x512_S128x512_0_0).toLoadRect
          (arg10.view.writes (Elt Ideal) G_arg10 (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).1) = _ := (View.readAt_full (s := S128x512) arg10.view _ _).trans i1
      have e11 : arg11.view.readAt (Elt Ideal) (Rect.unit (s := S128x512) ![0, 0] S128x512.size inb_S128x512_S128x512_0_0).toLoadRect
          (arg11.view.writes (Elt Ideal) G_arg11 (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).2.1) = _ := (View.readAt_full (s := S128x512) arg11.view _ _).trans i2
      have hoffF := off6_eq ⟨n, hlt⟩
      have hoffB := off13_eq ⟨n, hlt⟩
      have hbl : back ⟨n, hlt⟩ < 18 := back_lt _
      have hY : ∀ (y : FVec Ideal S128x512 .f32) (a : Fin 18) (l : Fin 128) (q : Fin 512),
          (∀ l q, y (ix2 l q) = sumAt (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) s0 n ⟨n, hn⟩ l q
            + outF (arg2.view.read (Elt Ideal) X_arg2) (arg3.view.read (Elt Ideal) X_arg3) (arg4.view.read (Elt Ideal) X_arg4) (arg5.view.read (Elt Ideal) X_arg5) (arg6.view.read (Elt Ideal) X_arg6) (arg8.view.read (Elt Ideal) X_arg8) ⟨n, hlt⟩ (stF (arg2.view.read (Elt Ideal) X_arg2) (arg3.view.read (Elt Ideal) X_arg3) (arg5.view.read (Elt Ideal) X_arg5) (arg7.view.read (Elt Ideal) X_arg7) (arg8.view.read (Elt Ideal) X_arg8) s0 n) l q) →
          arg12.view.read (Elt Ideal) (arg12.view.writes (Elt Ideal) G_arg12 (⟨Rect.unit (s := S2304x512) (k0_off6 ⟨n, hlt⟩) S128x512.size (k0_off6_inb ⟨n, hlt⟩), y⟩ :: (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).2.2)) (ix2 ⟨128 * a.val + l.val, by omega⟩ q)
            = sumAt (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) s0 n a l q + (if a.val = n then outF (arg2.view.read (Elt Ideal) X_arg2) (arg3.view.read (Elt Ideal) X_arg3) (arg4.view.read (Elt Ideal) X_arg4) (arg5.view.read (Elt Ideal) X_arg5) (arg6.view.read (Elt Ideal) X_arg6) (arg8.view.read (Elt Ideal) X_arg8) (trp a) (stF (arg2.view.read (Elt Ideal) X_arg2) (arg3.view.read (Elt Ideal) X_arg3) (arg5.view.read (Elt Ideal) X_arg5) (arg7.view.read (Elt Ideal) X_arg7) (arg8.view.read (Elt Ideal) X_arg8) s0 a.val) l q else 0) := by
        intro y a l q hy
        refine (read_rows arg12.view G_arg12 _ y _ n hoffF a l q).trans ?_
        by_cases h : a.val = n
        · subst h
          rw [if_pos rfl, if_pos rfl]
          exact hy l q
        · rw [if_neg h, if_neg h, add_zero, i3]
      have hFv : ∀ l q, addF (arg2.view.read (Elt Ideal) X_arg2) (arg3.view.read (Elt Ideal) X_arg3) (arg4.view.read (Elt Ideal) X_arg4) (arg5.view.read (Elt Ideal) X_arg5) (arg6.view.read (Elt Ideal) X_arg6) (arg8.view.read (Elt Ideal) X_arg8) ⟨n, hlt⟩
          (arg10.view.readAt (Elt Ideal) (Rect.unit (s := S128x512) ![0, 0] S128x512.size inb_S128x512_S128x512_0_0).toLoadRect (arg10.view.writes (Elt Ideal) G_arg10 (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).1))
          (arg12.view.readAt (Elt Ideal) (Rect.unit (s := S2304x512) (k0_off6 ⟨n, hlt⟩) S128x512.size (k0_off6_inb ⟨n, hlt⟩)).toLoadRect (arg12.view.writes (Elt Ideal) G_arg12 (stores (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 G_arg10 G_arg11 G_arg12 n).2.2)) (ix2 l q)
          = sumAt (arg2.view.read (Elt Ideal) X_arg2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) s0 n ⟨n, hn⟩ l q + outF (arg2.view.read (Elt Ideal) X_arg2) (arg3.view.read (Elt Ideal) X_arg3) (arg4.view.read (Elt Ideal) X_arg4) (arg5.view.read (Elt Ideal) X_arg5) (arg6.view.read (Elt Ideal) X_arg6) (arg8.view.read (Elt Ideal) X_arg8) ⟨n, hlt⟩ (stF (arg2.view.read (Elt Ideal) X_arg2) (arg3.view.read (Elt Ideal) X_arg3) (arg5.view.read (Elt Ideal) X_arg5) (arg7.view.read (Elt Ideal) X_arg7) (arg8.view.read (Elt Ideal) X_arg8) s0 n) l q := by
        intro l q
        rw [addF_at, e10, load_rows arg12.view _ _ n hn hoffF l q]
        exact congrArg (· + _) (i3 ⟨n, hn⟩ l q)
      rw [sumAt_succ]
      refine (read_rows arg12.view G_arg12 _ _ _ (back ⟨n, hlt⟩) hoffB a l q).trans ?_
      by_cases h : a.val = back ⟨n, hlt⟩
      · have hb : (bck a).val = n := (back_eq_iff a ⟨n, hlt⟩).mp h
        rw [if_pos h, if_pos hb, addB_at, e11, load_rows arg12.view _ _ (back ⟨n, hlt⟩) hbl hoffB l q]
        have hk : trp (bck a) = (⟨n, hlt⟩ : Fin k0_t1_loop.trips) := Fin.ext hb
        rw [hk, hb]
        refine congrArg (· + _) ?_
        have ha : a = ⟨back ⟨n, hlt⟩, hbl⟩ := Fin.ext h
        rw [ha]
        exact hY _ ⟨back ⟨n, hlt⟩, hbl⟩ l q hFv
      · have hb : ¬ (bck a).val = n := fun e => h ((back_eq_iff a ⟨n, hlt⟩).mpr e)
        rw [if_neg h, if_neg hb, add_zero]
        exact hY _ a l q hFv

end Cert.ScanIdeal.Chunks
-- ==== Proof.ScanEntry.lean ====
/-
  What the scan kernel's prepared operands hold, entry by entry, as entries of the arguments.
-/
module

public import proofs.«01_k».proof.Proof.ScanIdealFrame
public import Idealize.ShloMosaic.Lib.Pipeline.ValueKit
public import Idealize.ShloMosaic.Lib.Pointwise
public import Idealize.ShloMosaic.Lib.Claim
public import Idealize.ShloMosaic.Lib.StableHlo.ReadAt
@[expose] public section
set_option maxRecDepth 16384
noncomputable section
open Idealize.ShloMosaic Idealize.ShloMosaic.TcCoe Idealize.SL.Sem
namespace Cert.ScanIdeal.Chunks
open Cert.ScanIdeal Cert.ScanIdeal.Gen
variable (m : (ℓ : Loc nD τ sig) → Buf (Elt Ideal) ℓ)

set_option maxHeartbeats 4000000 in
/-- The decays of the states, spread over the channels of a head. -/
theorem eal_at (c : Dev nD) (b : Fin 32) (g : Fin 4) (k : Fin 18) (d : Fin 2) (j : Fin 8) (p : Fin 64) :
    (V m c main_v85 : FVec Ideal S32x4x18x2x512 .f32) (ix5 b g k d ⟨64 * j.val + p.val, by omega⟩)
      = (m ((c : Thread nD τ).loc main_arg5) : FVec Ideal S32x18x1x128 .f32) (ix4 b k 0 ⟨32 * d.val + 8 * g.val + j.val, by omega⟩) := by
  unfold V
  after_reads_at
  refine congrArg (m (c, Proc.tc.devRef main_arg5)) (congrArg (ix4 b k 0) (Fin.ext ?_))
  show _ = 32 * d.val + 8 * g.val + j.val
  simp only
  omega

set_option maxHeartbeats 4000000 in
/-- The running decays among the columns. -/
theorem colA_at (c : Dev nD) (b : Fin 32) (g : Fin 4) (l : Fin 2304) (d : Fin 2) (j : Fin 8) :
    (V m c main_v70 : FVec Ideal S32x4x2304x48 .f32) (ix4 b g l ⟨24 * d.val + j.val, by omega⟩)
      = (m ((c : Thread nD τ).loc main_arg2) : FVec Ideal S32x2304x128 .f32) (ix3 b l ⟨32 * d.val + 8 * g.val + j.val, by omega⟩) := by
  unfold V
  after_reads_at
  repeat (first | rw [dif_pos (by omega)] | rw [dif_neg (by omega)])
  after_reads_at
  refine congrArg (m (c, Proc.tc.devRef main_arg2)) (congrArg (ix3 b l) (Fin.ext ?_))
  show _ = 32 * d.val + 8 * g.val + j.val
  simp only
  omega

set_option maxHeartbeats 4000000 in
/-- Their exponentials among the columns. -/
theorem colE_at (c : Dev nD) (b : Fin 32) (g : Fin 4) (l : Fin 2304) (d : Fin 2) (j : Fin 8) :
    (V m c main_v70 : FVec Ideal S32x4x2304x48 .f32) (ix4 b g l ⟨24 * d.val + 8 + j.val, by omega⟩)
      = (m ((c : Thread nD τ).loc main_arg3) : FVec Ideal S32x2304x128 .f32) (ix3 b l ⟨32 * d.val + 8 * g.val + j.val, by omega⟩) := by
  unfold V
  after_reads_at
  repeat (first | rw [dif_pos (by omega)] | rw [dif_neg (by omega)])
  after_reads_at
  refine congrArg (m (c, Proc.tc.devRef main_arg3)) (congrArg (ix3 b l) (Fin.ext ?_))
  show _ = 32 * d.val + 8 * g.val + j.val
  simp only
  omega

set_option maxHeartbeats 4000000 in
/-- The weights of the inputs in the state among the columns. -/
theorem colD_at (c : Dev nD) (b : Fin 32) (g : Fin 4) (l : Fin 2304) (d : Fin 2) (j : Fin 8) :
    (V m c main_v70 : FVec Ideal S32x4x2304x48 .f32) (ix4 b g l ⟨24 * d.val + 16 + j.val, by omega⟩)
      = (m ((c : Thread nD τ).loc main_arg4) : FVec Ideal S32x2304x128 .f32) (ix3 b l ⟨32 * d.val + 8 * g.val + j.val, by omega⟩) := by
  unfold V
  after_reads_at
  repeat (first | rw [dif_pos (by omega)] | rw [dif_neg (by omega)])
  after_reads_at
  refine congrArg (m (c, Proc.tc.devRef main_arg4)) (congrArg (ix3 b l) (Fin.ext ?_))
  show _ = 32 * d.val + 8 * g.val + j.val
  simp only
  omega

set_option maxHeartbeats 4000000 in
/-- The running decays as rows. -/
theorem rowA_at (c : Dev nD) (b : Fin 32) (g : Fin 4) (d : Fin 2) (k : Fin 18) (j : Fin 8) (r : Fin 128) :
    (V m c main_v79 : FVec Ideal S32x4x2x2x18x8x128 .f32) (ix7 b g d 0 k j r)
      = (m ((c : Thread nD τ).loc main_arg2) : FVec Ideal S32x2304x128 .f32) (ix3 b ⟨128 * k.val + r.val, by omega⟩ ⟨32 * d.val + 8 * g.val + j.val, by omega⟩) := by
  unfold V
  after_reads_at
  repeat (first | rw [dif_pos (by omega)] | rw [dif_neg (by omega)])
  after_reads_at
  refine congrArg (m (c, Proc.tc.devRef main_arg2)) ?_
  congr 1 <;> exact Fin.ext (by simp only; omega)

set_option maxHeartbeats 4000000 in
/-- The step sizes as rows. -/
theorem rowT_at (c : Dev nD) (b : Fin 32) (g : Fin 4) (d : Fin 2) (k : Fin 18) (j : Fin 8) (r : Fin 128) :
    (V m c main_v79 : FVec Ideal S32x4x2x2x18x8x128 .f32) (ix7 b g d 1 k j r)
      = (m ((c : Thread nD τ).loc main_arg1) : FVec Ideal S32x2304x128 .f32) (ix3 b ⟨128 * k.val + r.val, by omega⟩ ⟨32 * d.val + 8 * g.val + j.val, by omega⟩) := by
  unfold V
  after_reads_at
  repeat (first | rw [dif_pos (by omega)] | rw [dif_neg (by omega)])
  after_reads_at
  refine congrArg (m (c, Proc.tc.devRef main_arg1)) ?_
  congr 1 <;> exact Fin.ext (by simp only; omega)

/-- A truth value as a number. -/
theorem hit_value (p : Prop) [Decidable p] :
    (FloatOps.uitofp FTy.bf16 (BitVec.ofBool (decide p)) : Ideal .bf16) = if p then (1 : EReal) else 0 := by
  by_cases h : p
  · simp [h, FloatOps.uitofp]
  · simp [h, FloatOps.uitofp]

set_option maxHeartbeats 4000000 in
/-- The forward spreading table: one where the column is the wanted table of the head of the lane, zero elsewhere. -/
theorem exF_at (c : Dev nD) (k : Fin 48) (q : Fin 1024) :
    (V m c main_v58 : FVec Ideal S2x48x1024 .bf16) (ix3 0 k q) = if k.val = 8 + 8 * (q.val / 512) + q.val % 512 / 64 then (1 : EReal) else 0 := by
  obtain ⟨x, hx⟩ : ∃ x : Fin 2, q.val / 512 = x.val := ⟨⟨q.val / 512, by omega⟩, rfl⟩
  obtain ⟨y, hy⟩ : ∃ y : Fin 8, q.val % 512 / 64 = y.val := ⟨⟨q.val % 512 / 64, by omega⟩, rfl⟩
  unfold V
  after_reads_simp
  pointwise
  refine (congrArg (FloatOps.uitofp FTy.bf16) (congrArg₂ IntOp.andi (congrArg₂ IntOp.andi rfl
    (congrArg₂ (IntOp.cmpi CmpIPredicate.eq) (?hB : _ = BitVec.ofNat 32 (q.val / 512)) rfl))
    (congrArg₂ (IntOp.cmpi CmpIPredicate.eq) (?hD : _ = BitVec.ofNat 32 (q.val % 512 / 64)) rfl))).trans ?_
  case hB =>
    clear hx hy
    revert q
    decide +kernel
  case hD =>
    clear hx hy
    revert q
    decide +kernel
  rw [hx, hy]
  refine (congrArg (FloatOps.uitofp FTy.bf16) (?hK : _ = BitVec.ofBool (decide (k.val = 8 + 8 * x.val + y.val)))).trans (hit_value _)
  case hK =>
    clear hx hy
    revert k x y
    decide +kernel

set_option maxHeartbeats 4000000 in
/-- The backward spreading table. -/
theorem exB_at (c : Dev nD) (k : Fin 48) (q : Fin 1024) :
    (V m c main_v58 : FVec Ideal S2x48x1024 .bf16) (ix3 1 k q) = if k.val = 32 + 8 * (q.val / 512) + q.val % 512 / 64 then (1 : EReal) else 0 := by
  obtain ⟨x, hx⟩ : ∃ x : Fin 2, q.val / 512 = x.val := ⟨⟨q.val / 512, by omega⟩, rfl⟩
  obtain ⟨y, hy⟩ : ∃ y : Fin 8, q.val % 512 / 64 = y.val := ⟨⟨q.val % 512 / 64, by omega⟩, rfl⟩
  unfold V
  after_reads_simp
  pointwise
  refine (congrArg (FloatOps.uitofp FTy.bf16) (congrArg₂ IntOp.andi (congrArg₂ IntOp.andi rfl
    (congrArg₂ (IntOp.cmpi CmpIPredicate.eq) (?hB : _ = BitVec.ofNat 32 (q.val / 512)) rfl))
    (congrArg₂ (IntOp.cmpi CmpIPredicate.eq) (?hD : _ = BitVec.ofNat 32 (q.val % 512 / 64)) rfl))).trans ?_
  case hB =>
    clear hx hy
    revert q
    decide +kernel
  case hD =>
    clear hx hy
    revert q
    decide +kernel
  rw [hx, hy]
  refine (congrArg (FloatOps.uitofp FTy.bf16) (?hK : _ = BitVec.ofBool (decide (k.val = 32 + 8 * x.val + y.val)))).trans (hit_value _)
  case hK =>
    clear hx hy
    revert k x y
    decide +kernel

end Cert.ScanIdeal.Chunks
-- ==== Proof.ScanChunk.lean ====
/-
  One trip of the scan kernel in terms of the arguments: the next states and the outputs of a chunk, entry by entry.
-/
module

public import proofs.«01_k».proof.Proof.ScanTrip
public import proofs.«01_k».proof.Proof.ScanEntry

@[expose] public section

set_option maxRecDepth 16384

noncomputable section

open Idealize.ShloMosaic Idealize.ShloMosaic.TcCoe Idealize.SL.Sem
open Idealize.ShloMosaic.Pipeline (Dat)

namespace Cert.ScanIdeal.Chunks

open Cert.ScanIdeal Cert.ScanIdeal.Gen Cert.ScanIdeal.Cell

/-! ## The arguments by batch, group, chunk, row, head and channel -/

/-- The inputs of a head's channel. -/
def xs (A : FVec Ideal S32x2304x3072 .bf16) (b : Fin 32) (g : Fin 4) (k : Fin 18) (r : Fin 128) (j : Fin 8) (p : Fin 64) : EReal :=
  A (ix3 b ⟨128 * k.val + r.val, by omega⟩ ⟨512 * g.val + (64 * j.val + p.val), by omega⟩)

/-- The input directions of a group. -/
def bs (A : FVec Ideal S32x2304x3072 .bf16) (b : Fin 32) (g : Fin 4) (k : Fin 18) (r n : Fin 128) : EReal :=
  A (ix3 b ⟨128 * k.val + r.val, by omega⟩ ⟨2048 + (128 * g.val + n.val), by omega⟩)

/-- The readout directions of a group. -/
def cs (A : FVec Ideal S32x2304x3072 .bf16) (b : Fin 32) (g : Fin 4) (k : Fin 18) (r n : Fin 128) : EReal :=
  A (ix3 b ⟨128 * k.val + r.val, by omega⟩ ⟨2560 + (128 * g.val + n.val), by omega⟩)

/-- A table of a head in direction `d`. -/
def tab (T : FVec Ideal S32x2304x128 .f32) (d : Fin 2) (b : Fin 32) (g : Fin 4) (k : Fin 18) (r : Fin 128) (j : Fin 8) : EReal :=
  T (ix3 b ⟨128 * k.val + r.val, by omega⟩ ⟨32 * d.val + 8 * g.val + j.val, by omega⟩)

/-- The decay of a head's state over a chunk in direction `d`. -/
def els (T : FVec Ideal S32x18x1x128 .f32) (d : Fin 2) (b : Fin 32) (g : Fin 4) (k : Fin 18) (j : Fin 8) : EReal :=
  T (ix4 b k 0 ⟨32 * d.val + 8 * g.val + j.val, by omega⟩)

/-! ## Loads of a chunk -/

theorem ld_x (X : Vec Ideal S1x2304x512 .bf16) {off : Fin 3 → ℕ} (inb : ∀ a, off a + S1x128x512.size a ≤ S1x2304x512.size a)
    (k : Fin 18) (hoff : off = ![0, 128 * k.val, 0]) (r : Fin 128) (q : Fin 512) :
    View.ld (Val := Elt Ideal) X (Rect.unit (s := S1x2304x512) off S1x128x512.size inb) (ix3 0 r q) = X (ix3 0 ⟨128 * k.val + r.val, by omega⟩ q) := by
  subst hoff
  refine congrArg X (funext fun x => Fin.ext ?_)
  fin_cases x
  · rfl
  · show 128 * k.val + 1 * r.val = 128 * k.val + r.val
    omega
  · show 0 + 1 * q.val = q.val
    omega

theorem ld_b (X : Vec Ideal S1x2304x128 .bf16) {off : Fin 3 → ℕ} (inb : ∀ a, off a + S1x128x128.size a ≤ S1x2304x128.size a)
    (k : Fin 18) (hoff : off = ![0, 128 * k.val, 0]) (r : Fin 128) (q : Fin 128) :
    View.ld (Val := Elt Ideal) X (Rect.unit (s := S1x2304x128) off S1x128x128.size inb) (ix3 0 r q) = X (ix3 0 ⟨128 * k.val + r.val, by omega⟩ q) := by
  subst hoff
  refine congrArg X (funext fun x => Fin.ext ?_)
  fin_cases x
  · rfl
  · show 128 * k.val + 1 * r.val = 128 * k.val + r.val
    omega
  · show 0 + 1 * q.val = q.val
    omega

theorem ld_col (X : Vec Ideal S1x1x2304x48 .f32) {off : Fin 4 → ℕ} (inb : ∀ a, off a + S1x1x128x48.size a ≤ S1x1x2304x48.size a)
    (k : Fin 18) (hoff : off = ![0, 0, 128 * k.val, 0]) (r : Fin 128) (q : Fin 48) :
    View.ld (Val := Elt Ideal) X (Rect.unit (s := S1x1x2304x48) off S1x1x128x48.size inb) (ix4 0 0 r q) = X (ix4 0 0 ⟨128 * k.val + r.val, by omega⟩ q) := by
  subst hoff
  refine congrArg X (funext fun x => Fin.ext ?_)
  fin_cases x
  · rfl
  · rfl
  · show 128 * k.val + 1 * r.val = 128 * k.val + r.val
    omega
  · show 0 + 1 * q.val = q.val
    omega

theorem ld_row (X : Vec Ideal S1x1x2x2x18x8x128 .f32) {off : Fin 7 → ℕ} (inb : ∀ a, off a + S1x1x1x1x1x8x128.size a ≤ S1x1x2x2x18x8x128.size a)
    (d e : Fin 2) (k : Fin 18) (hoff : off = ![0, 0, d.val, e.val, k.val, 0, 0]) (j : Fin 8) (r : Fin 128) :
    View.ld (Val := Elt Ideal) X (Rect.unit (s := S1x1x2x2x18x8x128) off S1x1x1x1x1x8x128.size inb) (ix7 0 0 0 0 0 j r) = X (ix7 0 0 d e k j r) := by
  subst hoff
  refine congrArg X (funext fun x => Fin.ext ?_)
  fin_cases x
  · rfl
  · rfl
  · rfl
  · rfl
  · rfl
  · show 0 + 1 * j.val = j.val
    omega
  · show 0 + 1 * r.val = r.val
    omega

theorem ld_eal (X : Vec Ideal S1x1x18x2x512 .f32) {off : Fin 5 → ℕ} (inb : ∀ a, off a + S1x1x1x1x512.size a ≤ S1x1x18x2x512.size a)
    (d : Fin 2) (k : Fin 18) (hoff : off = ![0, 0, k.val, d.val, 0]) (q : Fin 512) :
    View.ld (Val := Elt Ideal) X (Rect.unit (s := S1x1x18x2x512) off S1x1x1x1x512.size inb) (ix5 0 0 0 0 q) = X (ix5 0 0 k d q) := by
  subst hoff
  refine congrArg X (funext fun x => Fin.ext ?_)
  fin_cases x
  · rfl
  · rfl
  · rfl
  · rfl
  · show 0 + 1 * q.val = q.val
    omega

theorem ld_ex (X : Vec Ideal S2x48x1024 .bf16) {off : Fin 3 → ℕ} (inb : ∀ a, off a + S1x48x1024.size a ≤ S2x48x1024.size a)
    (d : Fin 2) (hoff : off = ![d.val, 0, 0]) (c : Fin 48) (q : Fin 1024) :
    View.ld (Val := Elt Ideal) X (Rect.unit (s := S2x48x1024) off S1x48x1024.size inb) (ix3 0 c q) = X (ix3 d c q) := by
  subst hoff
  refine congrArg X (funext fun x => Fin.ext ?_)
  fin_cases x
  · rfl
  · show 0 + 1 * c.val = c.val
    omega
  · show 0 + 1 * q.val = q.val
    omega

/-! ## The remaining values at an index -/

theorem p10 (v : Vec Ideal S1x128x512 .bf16) (r : Fin 128) (q : Fin 512) : k0_pay10 v (ix2 r q) = v (ix3 0 r q) := by
  pointwise [k0_pay10]
theorem p11 (v : Vec Ideal S1x128x128 .bf16) (r : Fin 128) (q : Fin 128) : k0_pay11 v (ix2 r q) = v (ix3 0 r q) := by
  pointwise [k0_pay11]
theorem p12 (v : Vec Ideal S1x128x128 .bf16) (r : Fin 128) (q : Fin 128) : k0_pay12 v (ix2 r q) = v (ix3 0 r q) := by
  pointwise [k0_pay12]
theorem p13 (v : Vec Ideal S1x1x128x48 .f32) (r : Fin 128) (q : Fin 48) : k0_pay13 v (ix2 r q) = v (ix4 0 0 r q) := by
  pointwise [k0_pay13]
theorem p14 (v : Vec Ideal S1x1x1x1x1x8x128 .f32) (j : Fin 8) (r : Fin 128) : k0_pay14 v (ix2 j r) = v (ix7 0 0 0 0 0 j r) := by
  pointwise [k0_pay14]
theorem p15 (v : Vec Ideal S1x1x1x1x1x8x128 .f32) (j : Fin 8) (r : Fin 128) : k0_pay15 v (ix2 j r) = v (ix7 0 0 0 0 0 j r) := by
  pointwise [k0_pay15]
theorem p36 (v : Vec Ideal S1x128x512 .bf16) (r : Fin 128) (q : Fin 512) : k0_pay36 v (ix2 r q) = v (ix3 0 r q) := by
  pointwise [k0_pay36]
theorem p37 (v : Vec Ideal S1x128x128 .bf16) (r : Fin 128) (q : Fin 128) : k0_pay37 v (ix2 r q) = v (ix3 0 r q) := by
  pointwise [k0_pay37]
theorem p38 (v : Vec Ideal S1x128x128 .bf16) (r : Fin 128) (q : Fin 128) : k0_pay38 v (ix2 r q) = v (ix3 0 r q) := by
  pointwise [k0_pay38]
theorem p39 (v : Vec Ideal S1x1x128x48 .f32) (r : Fin 128) (q : Fin 48) : k0_pay39 v (ix2 r q) = v (ix4 0 0 r q) := by
  pointwise [k0_pay39]
theorem p40 (v : Vec Ideal S1x1x1x1x1x8x128 .f32) (j : Fin 8) (r : Fin 128) : k0_pay40 v (ix2 j r) = v (ix7 0 0 0 0 0 j r) := by
  pointwise [k0_pay40]
theorem p41 (v : Vec Ideal S1x1x1x1x1x8x128 .f32) (j : Fin 8) (r : Fin 128) : k0_pay41 v (ix2 j r) = v (ix7 0 0 0 0 0 j r) := by
  pointwise [k0_pay41]

theorem cbF_at (bb cc : Vec Ideal S1x128x128 .bf16) (l r : Fin 128) :
    k0_pay16 bb cc (ix2 l r) = ∑ n : Fin 128, cc (ix3 0 l n) * bb (ix3 0 r n) := by
  pointwise [k0_pay16, k0_pay11, k0_pay12]

theorem dwB_at (col : FVec Ideal S128x48 .f32) (e : Vec Ideal S1x48x1024 .bf16) (l : Fin 128) (q : Fin 512) :
    k0_pay44 col e (ix2 l q) = ∑ c : Fin 48, col (ix2 l c) * e (ix3 0 c ⟨512 + q.val, by omega⟩) := by
  pointwise [k0_pay44, k0_pay43]

theorem interB_at (cc : FVec Ideal S128x128 .bf16) (col : FVec Ideal S128x48 .f32) (e : Vec Ideal S1x48x1024 .bf16)
    (st : Vec Ideal S128x512 .f32) (l : Fin 128) (q : Fin 512) :
    k0_pay45 cc col e st (ix2 l q)
      = (∑ n : Fin 128, cc (ix2 l n) * st (ix2 n q)) * ∑ c : Fin 48, col (ix2 l c) * e (ix3 0 c ⟨q.val, by omega⟩) := by
  pointwise [k0_pay45, k0_pay43]

/-- A sum over the columns against a table with a single one. -/
theorem pick (f e : Fin 48 → EReal) (i : ℕ) (hi : i < 48) (he : ∀ c, e c = if c.val = i then (1 : EReal) else 0) :
    ∑ c : Fin 48, f c * e c = f ⟨i, hi⟩ := by
  rw [Finset.sum_eq_single ⟨i, hi⟩]
  · rw [he, if_pos rfl, mul_one]
  · intro c _ hc
    rw [he, if_neg (fun h => hc (Fin.ext h)), mul_zero]
  · intro h
    exact absurd (Finset.mem_univ _) h

/-! ## The blocks of a grid point -/

/-- The windows' block indices at a grid point. -/
theorem idx : ∀ t : Fin cfg0.N, win0_0.index t = ![t.val / 4, 0, t.val % 4] ∧ win0_1.index t = ![t.val / 4, 0, 16 + t.val % 4]
    ∧ win0_2.index t = ![t.val / 4, 0, 20 + t.val % 4] ∧ win0_3.index t = ![t.val / 4, t.val % 4, 0, 0]
    ∧ win0_4.index t = ![t.val / 4, t.val % 4, 0, 0, 0, 0, 0] ∧ win0_5.index t = ![t.val / 4, t.val % 4, 0, 0, 0]
    ∧ win0_6.index t = ![0, 0, 0] ∧ win0_7.index t = ![t.val / 4, 0, t.val % 4] ∧ t.val < 128 :=
  (by decide +kernel : ∀ t : Fin grid0.N, _)

variable (m : (ℓ : Loc nD τ sig) → Buf (Elt Ideal) ℓ) (c : Dev nD) (t : Fin cfg0.N)

/-- The batch of a grid point. -/
def bOf : Fin 32 := ⟨t.val / 4, by have := (idx t).2.2.2.2.2.2.2.2; omega⟩

/-- The group of a grid point. -/
def gOf : Fin 4 := ⟨t.val % 4, by omega⟩

theorem blk0 (k : Fin 18) (r : Fin 128) (j : Fin 8) (p : Fin 64) :
    iblk m c 0 t (ix3 0 ⟨128 * k.val + r.val, by omega⟩ ⟨64 * j.val + p.val, by omega⟩) = xs (m ((c : Thread nD τ).loc main_arg0)) (bOf t) (gOf t) k r j p := by
  unfold xs bOf gOf
  blk_point [iblk, V_main_arg0, idx t]

theorem blk1 (k : Fin 18) (r n : Fin 128) :
    iblk m c 1 t (ix3 0 ⟨128 * k.val + r.val, by omega⟩ n) = bs (m ((c : Thread nD τ).loc main_arg0)) (bOf t) (gOf t) k r n := by
  unfold bs bOf gOf
  blk_point [iblk, V_main_arg0, idx t]

theorem blk2 (k : Fin 18) (r n : Fin 128) :
    iblk m c 2 t (ix3 0 ⟨128 * k.val + r.val, by omega⟩ n) = cs (m ((c : Thread nD τ).loc main_arg0)) (bOf t) (gOf t) k r n := by
  unfold cs bOf gOf
  blk_point [iblk, V_main_arg0, idx t]

theorem blk3 (l : Fin 2304) (q : Fin 48) :
    iblk m c 3 t (ix4 0 0 l q) = (V m c main_v70 : FVec Ideal S32x4x2304x48 .f32) (ix4 (bOf t) (gOf t) l q) := by
  unfold bOf gOf
  blk_point [iblk, idx t]

theorem blk4 (d e : Fin 2) (k : Fin 18) (j : Fin 8) (r : Fin 128) :
    iblk m c 4 t (ix7 0 0 d e k j r) = (V m c main_v79 : FVec Ideal S32x4x2x2x18x8x128 .f32) (ix7 (bOf t) (gOf t) d e k j r) := by
  unfold bOf gOf
  blk_point [iblk, idx t]
  all_goals rfl

theorem blk5 (k : Fin 18) (d : Fin 2) (q : Fin 512) :
    iblk m c 5 t (ix5 0 0 k d q) = (V m c main_v85 : FVec Ideal S32x4x18x2x512 .f32) (ix5 (bOf t) (gOf t) k d q) := by
  unfold bOf gOf
  blk_point [iblk, idx t]

theorem blk6 (d : Fin 2) (k : Fin 48) (q : Fin 1024) :
    iblk m c 6 t (ix3 d k q) = (V m c main_v58 : FVec Ideal S2x48x1024 .bf16) (ix3 d k q) := by
  blk_point [iblk, idx t]

end Cert.ScanIdeal.Chunks
-- ==== Proof.ScanStep.lean ====
/-
  The next states and the outputs of a trip of the scan kernel as expressions in the arguments.
-/
module

public import proofs.«01_k».proof.Proof.ScanChunk

@[expose] public section

set_option maxRecDepth 16384

noncomputable section

open Idealize.ShloMosaic Idealize.ShloMosaic.TcCoe Idealize.SL.Sem
open Idealize.ShloMosaic.Pipeline (Dat)

namespace Cert.ScanIdeal.Chunks

open Cert.ScanIdeal Cert.ScanIdeal.Gen Cert.ScanIdeal.Cell

variable (m : (ℓ : Loc nD τ sig) → Buf (Elt Ideal) ℓ) (c : Dev nD) (t : Fin cfg0.N)

theorem xF_eq (k : Fin 18) (r : Fin 128) (j : Fin 8) (p : Fin 64) :
    xF (iblk m c 0 t) (trp k) (ix3 0 r ⟨64 * j.val + p.val, by omega⟩) = xs (m ((c : Thread nD τ).loc main_arg0)) (bOf t) (gOf t) k r j p :=
  (ld_x _ _ k (off1_eq (trp k)) r _).trans (blk0 m c t k r j p)

theorem bF_eq (k : Fin 18) (r n : Fin 128) :
    bF (iblk m c 1 t) (trp k) (ix3 0 r n) = bs (m ((c : Thread nD τ).loc main_arg0)) (bOf t) (gOf t) k r n :=
  (ld_b _ _ k (off2_eq (trp k)) r _).trans (blk1 m c t k r n)

theorem cF_eq (k : Fin 18) (r n : Fin 128) :
    cF (iblk m c 2 t) (trp k) (ix3 0 r n) = cs (m ((c : Thread nD τ).loc main_arg0)) (bOf t) (gOf t) k r n :=
  (ld_b _ _ k (off2_eq (trp k)) r _).trans (blk2 m c t k r n)

theorem eF_eq (k : Fin 18) (j : Fin 8) (p : Fin 64) :
    eF (iblk m c 5 t) (trp k) (ix5 0 0 0 0 ⟨64 * j.val + p.val, by omega⟩) = els (m ((c : Thread nD τ).loc main_arg5)) 0 (bOf t) (gOf t) k j :=
  (ld_eal _ _ 0 k (off7_eq (trp k)) _).trans ((blk5 m c t k 0 _).trans (eal_at m c _ _ k 0 j p))

theorem aF_eq (k : Fin 18) (j : Fin 8) (r : Fin 128) :
    aF (iblk m c 4 t) (trp k) (ix7 0 0 0 0 0 j r) = tab (m ((c : Thread nD τ).loc main_arg2)) 0 (bOf t) (gOf t) k r j :=
  (ld_row _ _ 0 0 k (off4_eq (trp k)) j r).trans ((blk4 m c t 0 0 k j r).trans (rowA_at m c _ _ 0 k j r))

theorem tF_eq (k : Fin 18) (j : Fin 8) (r : Fin 128) :
    tF (iblk m c 4 t) (trp k) (ix7 0 0 0 0 0 j r) = tab (m ((c : Thread nD τ).loc main_arg1)) 0 (bOf t) (gOf t) k r j :=
  (ld_row _ _ 0 1 k (off5_eq (trp k)) j r).trans ((blk4 m c t 0 1 k j r).trans (rowT_at m c _ _ 0 k j r))

theorem colAF_eq (k : Fin 18) (r : Fin 128) (j : Fin 8) (h : j.val < 48) :
    colF (iblk m c 3 t) (trp k) (ix4 0 0 r ⟨j.val, h⟩) = tab (m ((c : Thread nD τ).loc main_arg2)) 0 (bOf t) (gOf t) k r j := by
  refine (ld_col _ _ k (off3_eq (trp k)) r _).trans ((blk3 m c t _ _).trans (Eq.trans ?_ (colA_at m c (bOf t) (gOf t) ⟨128 * (k).val + r.val, by omega⟩ 0 j)))
  exact congrArg _ (congrArg (ix4 _ _ _) (Fin.ext (by simp <;> omega)))

theorem colEF_eq (k : Fin 18) (r : Fin 128) (j : Fin 8) (h : 8 + j.val < 48) :
    colF (iblk m c 3 t) (trp k) (ix4 0 0 r ⟨8 + j.val, h⟩) = tab (m ((c : Thread nD τ).loc main_arg3)) 0 (bOf t) (gOf t) k r j := by
  refine (ld_col _ _ k (off3_eq (trp k)) r _).trans ((blk3 m c t _ _).trans (Eq.trans ?_ (colE_at m c (bOf t) (gOf t) ⟨128 * (k).val + r.val, by omega⟩ 0 j)))
  exact congrArg _ (congrArg (ix4 _ _ _) (Fin.ext (by simp <;> omega)))

theorem colDF_eq (k : Fin 18) (r : Fin 128) (j : Fin 8) (h : 16 + j.val < 48) :
    colF (iblk m c 3 t) (trp k) (ix4 0 0 r ⟨16 + j.val, h⟩) = tab (m ((c : Thread nD τ).loc main_arg4)) 0 (bOf t) (gOf t) k r j := by
  refine (ld_col _ _ k (off3_eq (trp k)) r _).trans ((blk3 m c t _ _).trans (Eq.trans ?_ (colD_at m c (bOf t) (gOf t) ⟨128 * (k).val + r.val, by omega⟩ 0 j)))
  exact congrArg _ (congrArg (ix4 _ _ _) (Fin.ext (by simp <;> omega)))

theorem spreadEF_eq (k : Fin 18) (r : Fin 128) (j : Fin 8) (p : Fin 64) (h : 64 * j.val + p.val < 1024) :
    ∑ i : Fin 48, colF (iblk m c 3 t) (trp k) (ix4 0 0 r i) * sF (iblk m c 6 t) (ix3 0 i ⟨64 * j.val + p.val, h⟩)
      = tab (m ((c : Thread nD τ).loc main_arg3)) 0 (bOf t) (gOf t) k r j := by
  refine (pick (fun i => colF (iblk m c 3 t) (trp k) (ix4 0 0 r i)) (fun i => sF (iblk m c 6 t) (ix3 0 i ⟨64 * j.val + p.val, h⟩)) (8 + j.val) (by omega) fun i => ?_).trans
    (colEF_eq m c t k r j _)
  refine (ld_ex _ _ 0 rfl i _).trans ((blk6 m c t _ i _).trans ((exF_at m c i _).trans ?_))
  have e : 8 + 8 * ((64 * j.val + p.val) / 512) + (64 * j.val + p.val) % 512 / 64 = 8 + j.val := by omega
  simp only [e]

theorem spreadDF_eq (k : Fin 18) (r : Fin 128) (j : Fin 8) (p : Fin 64) (h : 512 + (64 * j.val + p.val) < 1024) :
    ∑ i : Fin 48, colF (iblk m c 3 t) (trp k) (ix4 0 0 r i) * sF (iblk m c 6 t) (ix3 0 i ⟨512 + (64 * j.val + p.val), h⟩)
      = tab (m ((c : Thread nD τ).loc main_arg4)) 0 (bOf t) (gOf t) k r j := by
  refine (pick (fun i => colF (iblk m c 3 t) (trp k) (ix4 0 0 r i)) (fun i => sF (iblk m c 6 t) (ix3 0 i ⟨512 + (64 * j.val + p.val), h⟩)) (16 + j.val) (by omega) fun i => ?_).trans
    (colDF_eq m c t k r j _)
  refine (ld_ex _ _ 0 rfl i _).trans ((blk6 m c t _ i _).trans ((exF_at m c i _).trans ?_))
  have e : 8 + 8 * ((512 + (64 * j.val + p.val)) / 512) + (512 + (64 * j.val + p.val)) % 512 / 64 = 16 + j.val := by omega
  simp only [e]

/-- The next state of direction 0. -/
theorem newF_at (k : Fin 18) (st : FVec Ideal S128x512 .f32) (n : Fin 128) (j : Fin 8) (p : Fin 64) :
    newF (iblk m c 0 t) (iblk m c 1 t) (iblk m c 3 t) (iblk m c 5 t) (iblk m c 6 t) (trp k) st (ix2 n ⟨64 * j.val + p.val, by omega⟩)
      = st (ix2 n ⟨64 * j.val + p.val, by omega⟩) * els (m ((c : Thread nD τ).loc main_arg5)) 0 (bOf t) (gOf t) k j
        + ∑ r : Fin 128, bs (m ((c : Thread nD τ).loc main_arg0)) (bOf t) (gOf t) k r n
            * (xs (m ((c : Thread nD τ).loc main_arg0)) (bOf t) (gOf t) k r j p * tab (m ((c : Thread nD τ).loc main_arg4)) 0 (bOf t) (gOf t) k r j) := by
  refine (stateOf_at _ _ _ _ _ n ⟨64 * j.val + p.val, by omega⟩).trans ?_
  refine congrArg₂ (· + ·) (congrArg _ (eF_eq m c t k j p)) (Finset.sum_congr rfl fun r _ => congrArg₂ (· * ·) ?_ (congrArg₂ (· * ·) ?_ ?_))
  · exact (p11 _ _ _).trans (bF_eq m c t k r n)
  · exact (p10 _ _ _).trans (xF_eq m c t k r j p)
  · exact (dw_at _ _ r _).trans (spreadDF_eq m c t k r j p _)

/-- The output of direction 0 in its chunk. -/
theorem outF_at (k : Fin 18) (st : FVec Ideal S128x512 .f32) (l : Fin 128) (j : Fin 8) (p : Fin 64) :
    outF (iblk m c 0 t) (iblk m c 1 t) (iblk m c 2 t) (iblk m c 3 t) (iblk m c 4 t) (iblk m c 6 t) (trp k) st l ⟨64 * j.val + p.val, by omega⟩
      = (∑ n : Fin 128, cs (m ((c : Thread nD τ).loc main_arg0)) (bOf t) (gOf t) k l n * st (ix2 n ⟨64 * j.val + p.val, by omega⟩)) * tab (m ((c : Thread nD τ).loc main_arg3)) 0 (bOf t) (gOf t) k l j
        + ∑ r : Fin 128, ((∑ n : Fin 128, cs (m ((c : Thread nD τ).loc main_arg0)) (bOf t) (gOf t) k l n * bs (m ((c : Thread nD τ).loc main_arg0)) (bOf t) (gOf t) k r n)
            * Ideal.exp (if r ≤ l then tab (m ((c : Thread nD τ).loc main_arg2)) 0 (bOf t) (gOf t) k l j - tab (m ((c : Thread nD τ).loc main_arg2)) 0 (bOf t) (gOf t) k r j else (⊥ : EReal))
            * tab (m ((c : Thread nD τ).loc main_arg1)) 0 (bOf t) (gOf t) k r j) * xs (m ((c : Thread nD τ).loc main_arg0)) (bOf t) (gOf t) k r j p := by
  unfold outF
  refine congrArg₂ (· + ·) ?_ ?_
  · refine (inter_at _ _ _ l _).trans (congrArg₂ (· * ·) (Finset.sum_congr rfl fun n _ => congrArg₂ (· * ·) ((p12 _ _ _).trans (cF_eq m c t k l n)) rfl) ?_)
    exact (ea_at _ _ l _).trans (spreadEF_eq m c t k l j p _)
  · refine (parts_at _ _ _ _ _ _ _ _ (fun j => Nat.lt_of_lt_of_le j.isLt (by decide)) l j p).trans (Finset.sum_congr rfl fun r _ => congrArg₂ (· * ·) ?_ ((p10 _ _ _).trans (xF_eq m c t k r j p)))
    unfold weight
    rw [ge_at]
    refine congrArg₂ (· * ·) (congrArg₂ (· * ·) ?_ (congrArg Ideal.exp ?_)) ((p15 _ _ _).trans (tF_eq m c t k j r))
    · exact (cbF_at _ _ l r).trans (Finset.sum_congr rfl fun n _ => congrArg₂ (· * ·) (cF_eq m c t k l n) (bF_eq m c t k r n))
    · have e1 := (p13 (colF (iblk m c 3 t) (trp k)) l ⟨j.val, by omega⟩).trans (colAF_eq m c t k l j (by omega))
      have e2 := (p14 (aF (iblk m c 4 t) (trp k)) j r).trans (aF_eq m c t k j r)
      by_cases h : r ≤ l
      · rw [if_pos h, if_pos h]
        refine Eq.trans ?_ (congrArg₂ (· - ·) e1 e2)
        simp [Scalar.select]
      · rw [if_neg h, if_neg h]
        simp [Scalar.select]

theorem xB_eq (k : Fin 18) (r : Fin 128) (j : Fin 8) (p : Fin 64) :
    xB (iblk m c 0 t) (trp k) (ix3 0 r ⟨64 * j.val + p.val, by omega⟩) = xs (m ((c : Thread nD τ).loc main_arg0)) (bOf t) (gOf t) (bck k) r j p :=
  (ld_x _ _ (bck k) (off8_eq (trp k)) r _).trans (blk0 m c t (bck k) r j p)

theorem bB_eq (k : Fin 18) (r n : Fin 128) :
    bB (iblk m c 1 t) (trp k) (ix3 0 r n) = bs (m ((c : Thread nD τ).loc main_arg0)) (bOf t) (gOf t) (bck k) r n :=
  (ld_b _ _ (bck k) (off9_eq (trp k)) r _).trans (blk1 m c t (bck k) r n)

theorem cB_eq (k : Fin 18) (r n : Fin 128) :
    cB (iblk m c 2 t) (trp k) (ix3 0 r n) = cs (m ((c : Thread nD τ).loc main_arg0)) (bOf t) (gOf t) (bck k) r n :=
  (ld_b _ _ (bck k) (off9_eq (trp k)) r _).trans (blk2 m c t (bck k) r n)

theorem eB_eq (k : Fin 18) (j : Fin 8) (p : Fin 64) :
    eB (iblk m c 5 t) (trp k) (ix5 0 0 0 0 ⟨64 * j.val + p.val, by omega⟩) = els (m ((c : Thread nD τ).loc main_arg5)) 1 (bOf t) (gOf t) (bck k) j :=
  (ld_eal _ _ 1 (bck k) (off14_eq (trp k)) _).trans ((blk5 m c t (bck k) 1 _).trans (eal_at m c _ _ (bck k) 1 j p))

theorem aB_eq (k : Fin 18) (j : Fin 8) (r : Fin 128) :
    aB (iblk m c 4 t) (trp k) (ix7 0 0 0 0 0 j r) = tab (m ((c : Thread nD τ).loc main_arg2)) 1 (bOf t) (gOf t) (bck k) r j :=
  (ld_row _ _ 1 0 (bck k) (off11_eq (trp k)) j r).trans ((blk4 m c t 1 0 (bck k) j r).trans (rowA_at m c _ _ 1 (bck k) j r))

theorem tB_eq (k : Fin 18) (j : Fin 8) (r : Fin 128) :
    tB (iblk m c 4 t) (trp k) (ix7 0 0 0 0 0 j r) = tab (m ((c : Thread nD τ).loc main_arg1)) 1 (bOf t) (gOf t) (bck k) r j :=
  (ld_row _ _ 1 1 (bck k) (off12_eq (trp k)) j r).trans ((blk4 m c t 1 1 (bck k) j r).trans (rowT_at m c _ _ 1 (bck k) j r))

theorem colAB_eq (k : Fin 18) (r : Fin 128) (j : Fin 8) (h : 24 + j.val < 48) :
    colB (iblk m c 3 t) (trp k) (ix4 0 0 r ⟨24 + j.val, h⟩) = tab (m ((c : Thread nD τ).loc main_arg2)) 1 (bOf t) (gOf t) (bck k) r j := by
  refine (ld_col _ _ (bck k) (off10_eq (trp k)) r _).trans ((blk3 m c t _ _).trans (Eq.trans ?_ (colA_at m c (bOf t) (gOf t) ⟨128 * ((bck k)).val + r.val, by omega⟩ 1 j)))
  exact congrArg _ (congrArg (ix4 _ _ _) (Fin.ext (by simp <;> omega)))

theorem colEB_eq (k : Fin 18) (r : Fin 128) (j : Fin 8) (h : 32 + j.val < 48) :
    colB (iblk m c 3 t) (trp k) (ix4 0 0 r ⟨32 + j.val, h⟩) = tab (m ((c : Thread nD τ).loc main_arg3)) 1 (bOf t) (gOf t) (bck k) r j := by
  refine (ld_col _ _ (bck k) (off10_eq (trp k)) r _).trans ((blk3 m c t _ _).trans (Eq.trans ?_ (colE_at m c (bOf t) (gOf t) ⟨128 * ((bck k)).val + r.val, by omega⟩ 1 j)))
  exact congrArg _ (congrArg (ix4 _ _ _) (Fin.ext (by simp <;> omega)))

theorem colDB_eq (k : Fin 18) (r : Fin 128) (j : Fin 8) (h : 40 + j.val < 48) :
    colB (iblk m c 3 t) (trp k) (ix4 0 0 r ⟨40 + j.val, h⟩) = tab (m ((c : Thread nD τ).loc main_arg4)) 1 (bOf t) (gOf t) (bck k) r j := by
  refine (ld_col _ _ (bck k) (off10_eq (trp k)) r _).trans ((blk3 m c t _ _).trans (Eq.trans ?_ (colD_at m c (bOf t) (gOf t) ⟨128 * ((bck k)).val + r.val, by omega⟩ 1 j)))
  exact congrArg _ (congrArg (ix4 _ _ _) (Fin.ext (by simp <;> omega)))

theorem spreadEB_eq (k : Fin 18) (r : Fin 128) (j : Fin 8) (p : Fin 64) (h : 64 * j.val + p.val < 1024) :
    ∑ i : Fin 48, colB (iblk m c 3 t) (trp k) (ix4 0 0 r i) * sB (iblk m c 6 t) (ix3 0 i ⟨64 * j.val + p.val, h⟩)
      = tab (m ((c : Thread nD τ).loc main_arg3)) 1 (bOf t) (gOf t) (bck k) r j := by
  refine (pick (fun i => colB (iblk m c 3 t) (trp k) (ix4 0 0 r i)) (fun i => sB (iblk m c 6 t) (ix3 0 i ⟨64 * j.val + p.val, h⟩)) (32 + j.val) (by omega) fun i => ?_).trans
    (colEB_eq m c t k r j _)
  refine (ld_ex _ _ 1 rfl i _).trans ((blk6 m c t _ i _).trans ((exB_at m c i _).trans ?_))
  have e : 32 + 8 * ((64 * j.val + p.val) / 512) + (64 * j.val + p.val) % 512 / 64 = 32 + j.val := by omega
  simp only [e]

theorem spreadDB_eq (k : Fin 18) (r : Fin 128) (j : Fin 8) (p : Fin 64) (h : 512 + (64 * j.val + p.val) < 1024) :
    ∑ i : Fin 48, colB (iblk m c 3 t) (trp k) (ix4 0 0 r i) * sB (iblk m c 6 t) (ix3 0 i ⟨512 + (64 * j.val + p.val), h⟩)
      = tab (m ((c : Thread nD τ).loc main_arg4)) 1 (bOf t) (gOf t) (bck k) r j := by
  refine (pick (fun i => colB (iblk m c 3 t) (trp k) (ix4 0 0 r i)) (fun i => sB (iblk m c 6 t) (ix3 0 i ⟨512 + (64 * j.val + p.val), h⟩)) (40 + j.val) (by omega) fun i => ?_).trans
    (colDB_eq m c t k r j _)
  refine (ld_ex _ _ 1 rfl i _).trans ((blk6 m c t _ i _).trans ((exB_at m c i _).trans ?_))
  have e : 32 + 8 * ((512 + (64 * j.val + p.val)) / 512) + (512 + (64 * j.val + p.val)) % 512 / 64 = 40 + j.val := by omega
  simp only [e]

/-- The next state of direction 1. -/
theorem newB_at (k : Fin 18) (st : FVec Ideal S128x512 .f32) (n : Fin 128) (j : Fin 8) (p : Fin 64) :
    newB (iblk m c 0 t) (iblk m c 1 t) (iblk m c 3 t) (iblk m c 5 t) (iblk m c 6 t) (trp k) st (ix2 n ⟨64 * j.val + p.val, by omega⟩)
      = st (ix2 n ⟨64 * j.val + p.val, by omega⟩) * els (m ((c : Thread nD τ).loc main_arg5)) 1 (bOf t) (gOf t) (bck k) j
        + ∑ r : Fin 128, bs (m ((c : Thread nD τ).loc main_arg0)) (bOf t) (gOf t) (bck k) r n
            * (xs (m ((c : Thread nD τ).loc main_arg0)) (bOf t) (gOf t) (bck k) r j p * tab (m ((c : Thread nD τ).loc main_arg4)) 1 (bOf t) (gOf t) (bck k) r j) := by
  refine (stateOf_at _ _ _ _ _ n ⟨64 * j.val + p.val, by omega⟩).trans ?_
  refine congrArg₂ (· + ·) (congrArg _ (eB_eq m c t k j p)) (Finset.sum_congr rfl fun r _ => congrArg₂ (· * ·) ?_ (congrArg₂ (· * ·) ?_ ?_))
  · exact (p37 _ _ _).trans (bB_eq m c t k r n)
  · exact (p36 _ _ _).trans (xB_eq m c t k r j p)
  · refine (dwB_at _ _ r _).trans (Eq.trans ?_ (spreadDB_eq m c t k r j p (by omega)))
    exact Finset.sum_congr rfl fun i _ => congrArg₂ (· * ·) (p39 _ _ _) rfl

/-- The output of direction 1 in its chunk. -/
theorem outB_at (k : Fin 18) (st : FVec Ideal S128x512 .f32) (l : Fin 128) (j : Fin 8) (p : Fin 64) :
    outB (iblk m c 0 t) (iblk m c 1 t) (iblk m c 2 t) (iblk m c 3 t) (iblk m c 4 t) (iblk m c 6 t) (trp k) st l ⟨64 * j.val + p.val, by omega⟩
      = (∑ n : Fin 128, cs (m ((c : Thread nD τ).loc main_arg0)) (bOf t) (gOf t) (bck k) l n * st (ix2 n ⟨64 * j.val + p.val, by omega⟩)) * tab (m ((c : Thread nD τ).loc main_arg3)) 1 (bOf t) (gOf t) (bck k) l j
        + ∑ r : Fin 128, ((∑ n : Fin 128, cs (m ((c : Thread nD τ).loc main_arg0)) (bOf t) (gOf t) (bck k) l n * bs (m ((c : Thread nD τ).loc main_arg0)) (bOf t) (gOf t) (bck k) r n)
            * Ideal.exp (if l ≤ r then tab (m ((c : Thread nD τ).loc main_arg2)) 1 (bOf t) (gOf t) (bck k) l j - tab (m ((c : Thread nD τ).loc main_arg2)) 1 (bOf t) (gOf t) (bck k) r j else (⊥ : EReal))
            * tab (m ((c : Thread nD τ).loc main_arg1)) 1 (bOf t) (gOf t) (bck k) r j) * xs (m ((c : Thread nD τ).loc main_arg0)) (bOf t) (gOf t) (bck k) r j p := by
  unfold outB
  refine congrArg₂ (· + ·) ?_ ?_
  · refine (interB_at _ _ _ _ l _).trans (congrArg₂ (· * ·) (Finset.sum_congr rfl fun n _ => congrArg₂ (· * ·) ((p38 _ _ _).trans (cB_eq m c t k l n)) rfl) ?_)
    refine Eq.trans ?_ (spreadEB_eq m c t k l j p (by omega))
    exact Finset.sum_congr rfl fun i _ => congrArg₂ (· * ·) (p39 _ _ _) rfl
  · refine (parts_at _ _ _ _ _ _ _ _ (by intro j; show 24 + j.val < 48; omega) l j p).trans (Finset.sum_congr rfl fun r _ => congrArg₂ (· * ·) ?_ ((p36 _ _ _).trans (xB_eq m c t k r j p)))
    unfold weight
    rw [le_at]
    refine congrArg₂ (· * ·) (congrArg₂ (· * ·) ?_ (congrArg Ideal.exp ?_)) ((p41 _ _ _).trans (tB_eq m c t k j r))
    · exact (cb_at _ _ l r).trans (Finset.sum_congr rfl fun n _ => congrArg₂ (· * ·) ((p38 _ _ _).trans (cB_eq m c t k l n)) ((p37 _ _ _).trans (bB_eq m c t k r n)))
    · have e1 := (p39 (colB (iblk m c 3 t) (trp k)) l ⟨24 + j.val, by omega⟩).trans (colAB_eq m c t k l j (by omega))
      have e2 := (p40 (aB (iblk m c 4 t) (trp k)) j r).trans (aB_eq m c t k j r)
      by_cases h : l ≤ r
      · rw [if_pos h, if_pos h]
        refine Eq.trans ?_ (congrArg₂ (· - ·) e1 e2)
        simp [Scalar.select]
      · rw [if_neg h, if_neg h]
        simp [Scalar.select]

end Cert.ScanIdeal.Chunks
-- ==== Proof.ScanValue.lean ====
/-
  What the scan kernel leaves in a block of its result: at each row and channel the sum of what the two directions put
  out there, each from its own state.
-/
module

public import proofs.«01_k».proof.Proof.ScanStep

@[expose] public section

set_option maxRecDepth 16384

noncomputable section

open Idealize.ShloMosaic Idealize.ShloMosaic.TcCoe Idealize.SL.Sem
open Idealize.ShloMosaic.Pipeline (Dat)

namespace Cert.ScanIdeal.Chunks

open Cert.ScanIdeal Cert.ScanIdeal.Gen Cert.ScanIdeal.Cell

/-- The state both directions start from. -/
def st0 : FVec Ideal S128x512 .f32 := k0_pay2

theorem st0_at (n : Fin 128) (q : Fin 512) : st0 (ix2 n q) = (0 : EReal) := by
  pointwise [st0, k0_pay2]

theorem pay1_at (y : S2304x512.Idx) : k0_pay1 (F := Ideal) y = (0 : EReal) := by
  obtain ⟨l, q, rfl⟩ : ∃ (l : Fin 2304) (q : Fin 512), y = ix2 l q := ⟨y 0, y 1, eq_ix2 y⟩
  pointwise [k0_pay1]

theorem pay9_at (v : Vec Ideal S2304x512 .f32) (l : Fin 2304) (q : Fin 512) : k0_pay9 v (ix3 0 l q) = v (ix2 l q) := by
  pointwise [k0_pay9]

section Block

variable (c : Dev nD) (i : grid0.Coords)
  (arg2 : Memref sig .tc .vmem S1x2304x512 .bf16) (harg2 : arg2.IsWhole)
  (arg3 : Memref sig .tc .vmem S1x2304x128 .bf16) (harg3 : arg3.IsWhole)
  (arg4 : Memref sig .tc .vmem S1x2304x128 .bf16) (harg4 : arg4.IsWhole)
  (arg5 : Memref sig .tc .vmem S1x1x2304x48 .f32) (harg5 : arg5.IsWhole)
  (arg6 : Memref sig .tc .vmem S1x1x2x2x18x8x128 .f32) (harg6 : arg6.IsWhole)
  (arg7 : Memref sig .tc .vmem S1x1x18x2x512 .f32) (harg7 : arg7.IsWhole)
  (arg8 : Memref sig .tc .vmem S2x48x1024 .bf16) (harg8 : arg8.IsWhole)
  (arg9 : Memref sig .tc .vmem S1x2304x512 .bf16) (harg9 : arg9.IsWhole)
  (arg10 : Memref sig .tc .vmem S128x512 .f32) (harg10 : arg10.IsWhole)
  (arg11 : Memref sig .tc .vmem S128x512 .f32) (harg11 : arg11.IsWhole)
  (arg12 : Memref sig .tc .vmem S2304x512 .f32) (harg12 : arg12.IsWhole)
  (x0 : Vec Ideal S1x2304x512 .bf16)
  (x1 : Vec Ideal S1x2304x128 .bf16)
  (x2 : Vec Ideal S1x2304x128 .bf16)
  (x3 : Vec Ideal S1x1x2304x48 .f32)
  (x4 : Vec Ideal S1x1x2x2x18x8x128 .f32)
  (x5 : Vec Ideal S1x1x18x2x512 .f32)
  (x6 : Vec Ideal S2x48x1024 .bf16)

/-- The block of the result at row `l` of chunk `a` and channel `q`. -/
theorem out_at (a : Fin 18) (l : Fin 128) (q : Fin 512) :
    out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 (ix3 0 ⟨128 * a.val + l.val, by omega⟩ q)
      = sumAt x0 x1 x2 x3 x4 x5 x6 st0 18 a l q := by
  unfold out0_A_7 kernelRun0_A
  dsimp only
  refine (congrFun (View.read_writes_full (s := S1x2304x512) VO0_7 _ _ _ _) _).trans ?_
  refine (pay9_at _ _ _).trans ?_
  unfold kernelRun0_A.sl.v20
  unfold View.readCov
  rw [View.writes_append]
  refine (congrFun (View.readAt_full (s := S2304x512) arg12.view _ _) _).trans ?_
  have h := (stores_read Variants.none c none i arg2 harg2 arg3 harg3 arg4 harg4 arg5 harg5 arg6 harg6 arg7 harg7 arg8 harg8 arg9 harg9 arg10 harg10 arg11 harg11 arg12 harg12
    (harg2.unread x0) (harg3.unread x1) (harg4.unread x2) (harg5.unread x3) (harg6.unread x4) (harg7.unread x5) (harg8.unread x6)
    (arg10.view.writes (Elt Ideal) arg10.view.junk kernelRun0_A.sl.HS0_1)
    (arg11.view.writes (Elt Ideal) arg11.view.junk kernelRun0_A.sl.HS1_1)
    (arg12.view.writes (Elt Ideal) arg12.view.junk kernelRun0_A.sl.HS2_1) st0
    (View.read_writes_full (s := S128x512) arg10.view _ _ _ _)
    (View.read_writes_full (s := S128x512) arg11.view _ _ _ _)
    (fun y => (congrFun (View.read_writes_full (s := S2304x512) arg12.view _ _ _ _) y).trans (pay1_at y)) 18 le_rfl).2.2 a l q
  rw [harg2.read_unread (Val := Elt Ideal) x0, harg3.read_unread (Val := Elt Ideal) x1, harg4.read_unread (Val := Elt Ideal) x2,
    harg5.read_unread (Val := Elt Ideal) x3, harg6.read_unread (Val := Elt Ideal) x4, harg7.read_unread (Val := Elt Ideal) x5,
    harg8.read_unread (Val := Elt Ideal) x6] at h
  have e : Scf.trips k0_t1_loop.lb k0_t1_loop.ub k0_t1_loop.st = 18 := trips_eq
  rw [e]
  exact h

end Block

end Cert.ScanIdeal.Chunks
-- ==== Proof.ScanRef.lean ====
/-
  The reference's scan step, entry by entry: what one chunk adds to the carried state and puts out.
-/
module

public import proofs.«01_k».proof.Proof.Gen.ScanRefIdeal.Step
public import proofs.«01_k».proof.Proof.ScanRefRun
public import Idealize.ShloMosaic.Lib.Pipeline.ValueKit
public import Idealize.ShloMosaic.Lib.DynamicIndex
public import Idealize.ShloMosaic.Lib.ValueIdxRank6
public import Idealize.ShloMosaic.Lib.WordCmp
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScanRefIdeal.Reading

open Cert.ScanRefIdeal Cert.ScanRefIdeal.Gen Cert.ScanRefIdeal.Step

variable (j : Fin 18) (s : State Ideal)

theorem b4_at (w : Fin 64) (l : Fin 128) (c : Fin 3072) :
    b4 j.val s (ix3 w l c) = s.main_v66_0 (ix4 j w l c) := by
  have hs := j.isLt
  unfold b4 b3
  rw [Host.dynamicSlice_eq_extractStridedSlice _ _ _ ![j.val, 0, 0, 0] _ (by refine ⟨rfl, fun a => ?_⟩; fin_cases a <;> simp <;> omega) (by intro a; fin_cases a <;> simp [constantI] <;> first | exact toInt_ofNat_of_lt (by omega) | rfl)]
  pointwise

theorem b35_at (w : Fin 64) (l : Fin 128) (g : Fin 4) (h : Fin 8) (p : Fin 64) :
    b35 j.val s (ix5 w l g h p) = s.main_v66_0 (ix4 j w l ⟨g.val * 512 + h.val * 64 + p.val, by omega⟩) := by
  rw [← b4_at]
  pointwise [b35, b34]

theorem b37_at (w : Fin 64) (l : Fin 128) (g : Fin 4) (n : Fin 128) :
    b37 j.val s (ix4 w l g n) = s.main_v66_0 (ix4 j w l ⟨2048 + (g.val * 128 + n.val), by omega⟩) := by
  rw [← b4_at]
  pointwise [b37, b36]

theorem b39_at (w : Fin 64) (l : Fin 128) (g : Fin 4) (n : Fin 128) :
    b39 j.val s (ix4 w l g n) = s.main_v66_0 (ix4 j w l ⟨2560 + (g.val * 128 + n.val), by omega⟩) := by
  rw [← b4_at]
  pointwise [b39, b38]

theorem b10_at (w : Fin 64) (l : Fin 128) (g : Fin 4) (h : Fin 8) :
    b10 j.val s (ix4 w l g h) = s.main_v66_1 (ix5 j w l g h) := by
  have hs := j.isLt
  unfold b10 b9
  rw [Host.dynamicSlice_eq_extractStridedSlice _ _ _ ![j.val, 0, 0, 0, 0] _ (by refine ⟨rfl, fun a => ?_⟩; fin_cases a <;> simp <;> omega) (by intro a; fin_cases a <;> simp [constantI] <;> first | exact toInt_ofNat_of_lt (by omega) | rfl)]
  pointwise

theorem b16_at (w : Fin 64) (l : Fin 128) (g : Fin 4) (h : Fin 8) :
    b16 j.val s (ix4 w l g h) = s.main_v66_2 (ix5 j w l g h) := by
  have hs := j.isLt
  unfold b16 b15
  rw [Host.dynamicSlice_eq_extractStridedSlice _ _ _ ![j.val, 0, 0, 0, 0] _ (by refine ⟨rfl, fun a => ?_⟩; fin_cases a <;> simp <;> omega) (by intro a; fin_cases a <;> simp [constantI] <;> first | exact toInt_ofNat_of_lt (by omega) | rfl)]
  pointwise

theorem b22_at (w : Fin 64) (l : Fin 128) (g : Fin 4) (h : Fin 8) :
    b22 j.val s (ix4 w l g h) = s.main_v66_3 (ix5 j w l g h) := by
  have hs := j.isLt
  unfold b22 b21
  rw [Host.dynamicSlice_eq_extractStridedSlice _ _ _ ![j.val, 0, 0, 0, 0] _ (by refine ⟨rfl, fun a => ?_⟩; fin_cases a <;> simp <;> omega) (by intro a; fin_cases a <;> simp [constantI] <;> first | exact toInt_ofNat_of_lt (by omega) | rfl)]
  pointwise

theorem b28_at (w : Fin 64) (l : Fin 128) (g : Fin 4) (h : Fin 8) :
    b28 j.val s (ix4 w l g h) = s.main_v66_4 (ix5 j w l g h) := by
  have hs := j.isLt
  unfold b28 b27
  rw [Host.dynamicSlice_eq_extractStridedSlice _ _ _ ![j.val, 0, 0, 0, 0] _ (by refine ⟨rfl, fun a => ?_⟩; fin_cases a <;> simp <;> omega) (by intro a; fin_cases a <;> simp [constantI] <;> first | exact toInt_ofNat_of_lt (by omega) | rfl)]
  pointwise

theorem b33_at (w : Fin 64) (g : Fin 4) (h : Fin 8) :
    b33 j.val s (ix3 w g h) = s.main_v66_5 (ix4 j w g h) := by
  have hs := j.isLt
  unfold b33 b32
  rw [Host.dynamicSlice_eq_extractStridedSlice _ _ _ ![j.val, 0, 0, 0] _ (by refine ⟨rfl, fun a => ?_⟩; fin_cases a <;> simp <;> omega) (by intro a; fin_cases a <;> simp [constantI] <;> first | exact toInt_ofNat_of_lt (by omega) | rfl)]
  pointwise

theorem b44_at (w : Fin 64) (l r : Fin 128) (g : Fin 4) (h : Fin 8) :
    b44 j.val s (ix5 w l r g h) = b16 j.val s (ix4 w l g h) - b16 j.val s (ix4 w r g h) := by
  pointwise [b44, b42, b43, b40, b41]

theorem mask_at (l r : Fin 128) : K_main_v63 (F := Ideal) (ix5 0 l r 0 0) = if r ≤ l then 1#1 else 0#1 := by
  have e : IntOp.cmpi .sge (BitVec.ofNat 32 l.val + 0#32) (BitVec.ofNat 32 r.val)
      = BitVec.ofBool (decide (r.val ≤ l.val)) := by
    rw [BitVec.add_zero]
    exact WordCmp.cmpi_sge_ofNat (by omega) (by omega)
  have hv : K_main_v63 (F := Ideal) (ix5 0 l r 0 0)
      = Scalar.select (IntOp.cmpi .sge (BitVec.ofNat 32 l.val + 0#32) (BitVec.ofNat 32 r.val)) (1#1) (0#1) := by
    pointwise [K_main_v63, K_main_v62, K_main_call12_v4, K_main_call12_v2, K_main_call12_v0, K_main_call12_v1, K_main_call12_c,
      K_main_call12_v3, K_main_call12_v5, K_main_call12_c_0, K_main_v61, K_main_c]
    try rfl
  rw [hv, e]
  by_cases h : r ≤ l
  · have : r.val ≤ l.val := h
    simp [h, this, Scalar.select]
  · have : ¬ r.val ≤ l.val := h
    simp [h, this, Scalar.select]

theorem b50_at (w : Fin 64) (l r : Fin 128) (g : Fin 4) (h : Fin 8) :
    b50 j.val s (ix5 w l r g h)
      = Ideal.exp (if r ≤ l then b16 j.val s (ix4 w l g h) - b16 j.val s (ix4 w r g h) else (⊥ : EReal)) := by
  have hv : b50 j.val s (ix5 w l r g h)
      = Ideal.exp (Scalar.select (K_main_v63 (F := Ideal) (ix5 0 l r 0 0)) (b44 j.val s (ix5 w l r g h)) (Ideal.ofBits .f32 4286578688#32)) := by
    pointwise [b50, b49, b47, b48, b46, b45]
  rw [hv, mask_at, b44_at, show Ideal.ofBits .f32 4286578688#32 = (⊥ : EReal) from by simp [Ideal.ofBits, Ideal.ieee]]
  by_cases hr : r ≤ l <;> simp [hr, Scalar.select]

theorem b51_at (w : Fin 64) (g : Fin 4) (r l : Fin 128) :
    b51 j.val s (ix4 w g r l) = ∑ n : Fin 128, b37 j.val s (ix4 w r g n) * b39 j.val s (ix4 w l g n) := by
  pointwise [b51]

theorem b58_at (w : Fin 64) (l r : Fin 128) (g : Fin 4) (h : Fin 8) :
    b58 j.val s (ix5 w l r g h) = b51 j.val s (ix4 w g r l) * b50 j.val s (ix5 w l r g h) := by
  pointwise [b58, b57, b56, b52]

theorem b55_at (w : Fin 64) (l : Fin 128) (g : Fin 4) (h : Fin 8) (p : Fin 64) :
    b55 j.val s (ix5 w l g h p) = b35 j.val s (ix5 w l g h p) * b10 j.val s (ix4 w l g h) := by
  pointwise [b55, b54, b53]

theorem b59_at (w : Fin 64) (g : Fin 4) (h : Fin 8) (p : Fin 64) (l : Fin 128) :
    b59 j.val s (ix5 w g h p l) = ∑ r : Fin 128, b55 j.val s (ix5 w r g h p) * b58 j.val s (ix5 w l r g h) := by
  pointwise [b59]

theorem b61_at (w : Fin 64) (g : Fin 4) (h : Fin 8) (p : Fin 64) (l : Fin 128) :
    b61 j.val s (ix5 w g h p l) = ∑ n : Fin 128, s.main_v66_8 (ix5 w g h p n) * b39 j.val s (ix4 w l g n) := by
  pointwise [b61]

theorem b71_at (w : Fin 64) (l : Fin 128) (g : Fin 4) (h : Fin 8) (p : Fin 64) :
    b71 j.val s (ix5 w l g h p) = b35 j.val s (ix5 w l g h p) * b28 j.val s (ix4 w l g h) := by
  pointwise [b71, b70, b69]

theorem b72_at (w : Fin 64) (g : Fin 4) (h : Fin 8) (p : Fin 64) (n : Fin 128) :
    b72 j.val s (ix5 w g h p n) = ∑ r : Fin 128, b71 j.val s (ix5 w r g h p) * b37 j.val s (ix4 w r g n) := by
  pointwise [b72]

theorem b73_at (w : Fin 64) (g : Fin 4) (h : Fin 8) (p : Fin 64) (n : Fin 128) :
    b73 j.val s (ix5 w g h p n)
      = s.main_v66_8 (ix5 w g h p n) * b33 j.val s (ix3 w g h) + b72 j.val s (ix5 w g h p n) := by
  pointwise [b73, b68, b67, b66]

theorem b74_at (w : Fin 64) (l : Fin 128) (g : Fin 4) (h : Fin 8) (p : Fin 64) :
    b74 j.val s (ix5 w l g h p)
      = b59 j.val s (ix5 w g h p l) + b61 j.val s (ix5 w g h p l) * b22 j.val s (ix4 w l g h) := by
  pointwise [b74, b60, b65, b62, b64, b63]

theorem b81_at (k : Fin 18) (w : Fin 64) (l : Fin 128) (g : Fin 4) (h : Fin 8) (p : Fin 64) :
    b81 j.val s (ix6 k w l g h p)
      = if k = j then b74 j.val s (ix5 w l g h p) else s.main_v66_9 (ix6 k w l g h p) := by
  have hs := j.isLt
  have hj : (BitVec.ofNat 32 j.val).toInt = (j.val : Int) := toInt_ofNat_of_lt (by omega)
  unfold b81
  rw [Host.dynamicUpdateSlice_eq_updateSlice _ _ _ _ ![j.val, 0, 0, 0, 0, 0]
    (by intro a; fin_cases a <;> simp [constantI, b76, b77, b78, b79, b80, hj] <;> omega)
    (by refine ⟨rfl, fun a => ?_⟩; fin_cases a <;> simp <;> omega)]
  by_cases hk : k = j
  · subst hk
    pointwise [b75]
    rw [dif_pos (by omega)]
  · have : k.val ≠ j.val := fun e => hk (Fin.ext e)
    pointwise [b75]
    rw [dif_neg (by omega), if_neg hk]

end Cert.ScanRefIdeal.Reading
-- ==== Proof.ScanRefData.lean ====
/-
  The arrays the reference of the scan starts its loop from, entry by entry: the first half of the batch axis holds the
  arguments chunk by chunk, the second half the other direction's, its context and its latents each turned around.
-/
module

public import proofs.«01_k».proof.Proof.ScanRef
public import proofs.«01_k».proof.Proof.ScanChunk

@[expose] public section

set_option maxRecDepth 16384

noncomputable section

open Idealize.ShloMosaic Idealize.ShloMosaic.TcCoe Idealize.SL.Sem
open Idealize.ShloMosaic.Pipeline (Dat)

namespace Cert.ScanRefIdeal.Reading

open Cert.ScanRefIdeal Cert.ScanRefIdeal.Gen Cert.ScanRefIdeal.Step
open Cert.ScanIdeal.Chunks (xs bs cs tab els)

variable (a0 : FVec Ideal S32x2304x3072 .bf16) (a1 a2 a3 a4 : FVec Ideal S32x2304x128 .f32) (a5 : FVec Ideal S32x18x1x128 .f32)

/-- The chunk the other direction meets at its `k`-th step. -/
def turn (k : Fin 18) : Fin 18 := ⟨(19 - k.val) % 18, by omega⟩

/-- A batch in the first half. -/
def fst (b : Fin 32) : Fin 64 := ⟨b.val, by omega⟩

/-- A batch in the second half. -/
def snd (b : Fin 32) : Fin 64 := ⟨32 + b.val, by omega⟩

/-- Exchanging the batch axis and the chunk axis, whatever the width. -/
theorem swap_rows {α : Type} {W : Nat} (x : (⟨4, ![64, 18, 128, W]⟩ : Shape).Idx → α)
    (h : (⟨4, ![64, 18, 128, W]⟩ : Shape).Transposes [1, 0, 2, 3] ⟨4, ![18, 64, 128, W]⟩) (w : Fin 64) (k : Fin 18) (l : Fin 128) (q : Fin W) :
    transpose ⟨4, ![18, 64, 128, W]⟩ [1, 0, 2, 3] x h (ix4 k w l q) = x (ix4 w k l q) := by
  refine transpose_apply _ _ _ _ _ fun b => ?_
  fin_cases b <;> rfl

/-- Splitting the rows into 18 chunks of 128, whatever the width. -/
theorem split_rows {α : Type} {W : Nat} (x : (⟨3, ![64, 2304, W]⟩ : Shape).Idx → α)
    (h : (⟨3, ![64, 2304, W]⟩ : Shape).ShapeCasts ⟨4, ![64, 18, 128, W]⟩) (w : Fin 64) (k : Fin 18) (l : Fin 128) (q : Fin W) :
    shapeCast ⟨4, ![64, 18, 128, W]⟩ x h (ix4 w k l q) = x (ix3 w ⟨128 * k.val + l.val, by omega⟩ q) := by
  refine shapeCast_apply _ _ _ _ ?_
  rw [rowMajor_val3 _ (2304 * W) W rfl rfl, rowMajor_val4 _ (18 * (128 * W)) (128 * W) W rfl rfl rfl]
  show w.val * (2304 * W) + (128 * k.val + l.val) * W + q.val = w.val * (18 * (128 * W)) + k.val * (128 * W) + l.val * W + q.val
  ring

/-- Joining 18 chunks of 128 rows and the last three axes, whatever their sizes. -/
theorem join_rows {α : Type} {G J P Q : Nat} (hQ : Q = G * (J * P)) (x : (⟨6, ![64, 18, 128, G, J, P]⟩ : Shape).Idx → α)
    (h : (⟨6, ![64, 18, 128, G, J, P]⟩ : Shape).ShapeCasts ⟨3, ![64, 2304, Q]⟩) (w : Fin 64) (k : Fin 18) (l : Fin 128)
    (g : Fin G) (j : Fin J) (p : Fin P) (r : Fin 2304) (q : Fin Q) (hr : r.val = 128 * k.val + l.val) (hq : q.val = g.val * (J * P) + j.val * P + p.val) :
    shapeCast ⟨3, ![64, 2304, Q]⟩ x h (ix3 w r q) = x (ix6 w k l g j p) := by
  refine shapeCast_apply _ _ _ _ ?_
  rw [rowMajor_val3 _ (2304 * Q) Q rfl rfl,
    rowMajor_val6 _ (18 * (128 * (G * (J * P)))) (128 * (G * (J * P))) (G * (J * P)) (J * P) P rfl rfl rfl rfl rfl]
  show w.val * (18 * (128 * (G * (J * P)))) + k.val * (128 * (G * (J * P))) + l.val * (G * (J * P)) + g.val * (J * P) + j.val * P + p.val
    = w.val * (2304 * Q) + r.val * Q + q.val
  rw [hr, hq, hQ]
  ring

theorem v2_at (b : Fin 32) (r : Fin 256) (q : Fin 3072) :
    A_main_v2 (F := Ideal) a0 a1 a2 a3 a4 a5 (ix3 b r q) = A_main_v0 (F := Ideal) a0 a1 a2 a3 a4 a5 (ix3 b ⟨255 - r.val, by omega⟩ q) := by
  pointwise [A_main_v2, A_main_v1]
  refine congrArg (A_main_v0 (F := Ideal) a0 a1 a2 a3 a4 a5) ?_
  congr 1
  all_goals
    apply Fin.ext
    simp
    try omega

theorem v4_at (b : Fin 32) (r : Fin 2048) (q : Fin 3072) :
    A_main_v4 (F := Ideal) a0 a1 a2 a3 a4 a5 (ix3 b r q) = A_main_v0 (F := Ideal) a0 a1 a2 a3 a4 a5 (ix3 b ⟨2303 - r.val, by omega⟩ q) := by
  pointwise [A_main_v4, A_main_v3]
  refine congrArg (A_main_v0 (F := Ideal) a0 a1 a2 a3 a4 a5) ?_
  congr 1
  all_goals
    apply Fin.ext
    simp
    try omega

theorem v5_lo (b : Fin 32) (r : Fin 2304) (h : r.val < 256) (q : Fin 3072) :
    A_main_v5 (F := Ideal) a0 a1 a2 a3 a4 a5 (ix3 b r q) = A_main_v0 (F := Ideal) a0 a1 a2 a3 a4 a5 (ix3 b ⟨255 - r.val, by omega⟩ q) := by
  pointwise [A_main_v5]
  rw [dif_pos h]
  exact v2_at a0 a1 a2 a3 a4 a5 b ⟨r.val, h⟩ q

theorem v5_hi (b : Fin 32) (r : Fin 2304) (h : ¬ r.val < 256) (q : Fin 3072) :
    A_main_v5 (F := Ideal) a0 a1 a2 a3 a4 a5 (ix3 b r q) = A_main_v0 (F := Ideal) a0 a1 a2 a3 a4 a5 (ix3 b ⟨2559 - r.val, by omega⟩ q) := by
  pointwise [A_main_v5]
  rw [dif_neg h]
  refine (v4_at a0 a1 a2 a3 a4 a5 b ⟨r.val - 256, by omega⟩ q).trans ?_
  refine congrArg (fun x => A_main_v0 (F := Ideal) a0 a1 a2 a3 a4 a5 (ix3 b x q)) (Fin.ext ?_)
  show 2303 - (r.val - 256) = 2559 - r.val
  omega

theorem v6_fst (b : Fin 32) (r : Fin 2304) (q : Fin 3072) :
    A_main_v6 (F := Ideal) a0 a1 a2 a3 a4 a5 (ix3 (fst b) r q) = A_main_v0 (F := Ideal) a0 a1 a2 a3 a4 a5 (ix3 b r q) := by
  unfold fst
  pointwise [A_main_v6]

theorem v6_snd (b : Fin 32) (r : Fin 2304) (q : Fin 3072) :
    A_main_v6 (F := Ideal) a0 a1 a2 a3 a4 a5 (ix3 (snd b) r q) = A_main_v5 (F := Ideal) a0 a1 a2 a3 a4 a5 (ix3 b r q) := by
  unfold snd
  pointwise [A_main_v6]

theorem v6_turn (k : Fin 18) (b : Fin 32) (l : Fin 128) (q : Fin 3072) :
    A_main_v6 (F := Ideal) a0 a1 a2 a3 a4 a5 (ix3 (snd b) ⟨128 * k.val + l.val, by omega⟩ q)
      = A_main_v0 (F := Ideal) a0 a1 a2 a3 a4 a5 (ix3 b ⟨128 * (turn k).val + (Fin.rev l).val, by omega⟩ q) := by
  rw [v6_snd]
  by_cases h : k.val < 2
  · refine (v5_lo a0 a1 a2 a3 a4 a5 b _ (by show 128 * k.val + l.val < 256; omega) q).trans ?_
    refine congrArg (fun x => A_main_v0 (F := Ideal) a0 a1 a2 a3 a4 a5 (ix3 b x q)) (Fin.ext ?_)
    simp only [turn, Fin.rev]
    omega
  · refine (v5_hi a0 a1 a2 a3 a4 a5 b _ (by show ¬ 128 * k.val + l.val < 256; omega) q).trans ?_
    refine congrArg (fun x => A_main_v0 (F := Ideal) a0 a1 a2 a3 a4 a5 (ix3 b x q)) (Fin.ext ?_)
    simp only [turn, Fin.rev]
    omega

theorem v12_at (b : Fin 32) (r : Fin 256) (q : Fin 32) :
    A_main_v12 (F := Ideal) a0 a1 a2 a3 a4 a5 (ix3 b r q) = A_main_v10 (F := Ideal) a0 a1 a2 a3 a4 a5 (ix3 b ⟨255 - r.val, by omega⟩ q) := by
  pointwise [A_main_v12, A_main_v11]
  refine congrArg (A_main_v10 (F := Ideal) a0 a1 a2 a3 a4 a5) ?_
  congr 1
  all_goals
    apply Fin.ext
    simp
    try omega

theorem v14_at (b : Fin 32) (r : Fin 2048) (q : Fin 32) :
    A_main_v14 (F := Ideal) a0 a1 a2 a3 a4 a5 (ix3 b r q) = A_main_v10 (F := Ideal) a0 a1 a2 a3 a4 a5 (ix3 b ⟨2303 - r.val, by omega⟩ q) := by
  pointwise [A_main_v14, A_main_v13]
  refine congrArg (A_main_v10 (F := Ideal) a0 a1 a2 a3 a4 a5) ?_
  congr 1
  all_goals
    apply Fin.ext
    simp
    try omega

theorem v15_lo (b : Fin 32) (r : Fin 2304) (h : r.val < 256) (q : Fin 32) :
    A_main_v15 (F := Ideal) a0 a1 a2 a3 a4 a5 (ix3 b r q) = A_main_v10 (F := Ideal) a0 a1 a2 a3 a4 a5 (ix3 b ⟨255 - r.val, by omega⟩ q) := by
  pointwise [A_main_v15]
  rw [dif_pos h]
  exact v12_at a0 a1 a2 a3 a4 a5 b ⟨r.val, h⟩ q

theorem v15_hi (b : Fin 32) (r : Fin 2304) (h : ¬ r.val < 256) (q : Fin 32) :
    A_main_v15 (F := Ideal) a0 a1 a2 a3 a4 a5 (ix3 b r q) = A_main_v10 (F := Ideal) a0 a1 a2 a3 a4 a5 (ix3 b ⟨2559 - r.val, by omega⟩ q) := by
  pointwise [A_main_v15]
  rw [dif_neg h]
  refine (v14_at a0 a1 a2 a3 a4 a5 b ⟨r.val - 256, by omega⟩ q).trans ?_
  refine congrArg (fun x => A_main_v10 (F := Ideal) a0 a1 a2 a3 a4 a5 (ix3 b x q)) (Fin.ext ?_)
  show 2303 - (r.val - 256) = 2559 - r.val
  omega

theorem v16_fst (b : Fin 32) (r : Fin 2304) (q : Fin 32) :
    A_main_v16 (F := Ideal) a0 a1 a2 a3 a4 a5 (ix3 (fst b) r q) = A_main_v9 (F := Ideal) a0 a1 a2 a3 a4 a5 (ix3 b r q) := by
  unfold fst
  pointwise [A_main_v16]

theorem v16_snd (b : Fin 32) (r : Fin 2304) (q : Fin 32) :
    A_main_v16 (F := Ideal) a0 a1 a2 a3 a4 a5 (ix3 (snd b) r q) = A_main_v15 (F := Ideal) a0 a1 a2 a3 a4 a5 (ix3 b r q) := by
  unfold snd
  pointwise [A_main_v16]

theorem v16_turn (k : Fin 18) (b : Fin 32) (l : Fin 128) (q : Fin 32) :
    A_main_v16 (F := Ideal) a0 a1 a2 a3 a4 a5 (ix3 (snd b) ⟨128 * k.val + l.val, by omega⟩ q)
      = A_main_v10 (F := Ideal) a0 a1 a2 a3 a4 a5 (ix3 b ⟨128 * (turn k).val + (Fin.rev l).val, by omega⟩ q) := by
  rw [v16_snd]
  by_cases h : k.val < 2
  · refine (v15_lo a0 a1 a2 a3 a4 a5 b _ (by show 128 * k.val + l.val < 256; omega) q).trans ?_
    refine congrArg (fun x => A_main_v10 (F := Ideal) a0 a1 a2 a3 a4 a5 (ix3 b x q)) (Fin.ext ?_)
    simp only [turn, Fin.rev]
    omega
  · refine (v15_hi a0 a1 a2 a3 a4 a5 b _ (by show ¬ 128 * k.val + l.val < 256; omega) q).trans ?_
    refine congrArg (fun x => A_main_v10 (F := Ideal) a0 a1 a2 a3 a4 a5 (ix3 b x q)) (Fin.ext ?_)
    simp only [turn, Fin.rev]
    omega

theorem v8_at (k : Fin 18) (w : Fin 64) (l : Fin 128) (q : Fin 3072) :
    A_main_v8 (F := Ideal) a0 a1 a2 a3 a4 a5 (ix4 k w l q) = A_main_v6 (F := Ideal) a0 a1 a2 a3 a4 a5 (ix3 w ⟨128 * k.val + l.val, by omega⟩ q) := by
  unfold A_main_v8
  refine (swap_rows _ _ w k l q).trans ?_
  unfold A_main_v7
  exact split_rows _ _ w k l q

theorem v0_at (b : Fin 32) (r : Fin 2304) (q : Fin 3072) : A_main_v0 (F := Ideal) a0 a1 a2 a3 a4 a5 (ix3 b r q) = a0 (ix3 b r q) := rfl

/-- In the first half the rows are the argument's. -/
theorem v8_fst (k : Fin 18) (b : Fin 32) (l : Fin 128) (q : Fin 3072) :
    A_main_v8 (F := Ideal) a0 a1 a2 a3 a4 a5 (ix4 k (fst b) l q) = a0 (ix3 b ⟨128 * k.val + l.val, by omega⟩ q) := by
  rw [v8_at, v6_fst, v0_at]

/-- In the second half they are the other direction's. -/
theorem v8_snd (k : Fin 18) (b : Fin 32) (l : Fin 128) (q : Fin 3072) :
    A_main_v8 (F := Ideal) a0 a1 a2 a3 a4 a5 (ix4 k (snd b) l q) = a0 (ix3 b ⟨128 * (turn k).val + (Fin.rev l).val, by omega⟩ q) := by
  rw [v8_at, v6_turn, v0_at]

theorem v18_at (k : Fin 18) (w : Fin 64) (l : Fin 128) (g : Fin 4) (j : Fin 8) :
    A_main_v18 (F := Ideal) a0 a1 a2 a3 a4 a5 (ix5 k w l g j) = A_main_v16 (F := Ideal) a0 a1 a2 a3 a4 a5 (ix3 w ⟨128 * k.val + l.val, by omega⟩ ⟨8 * g.val + j.val, by omega⟩) := by
  pointwise [A_main_v18, A_main_v17]
  refine congrArg (A_main_v16 (F := Ideal) a0 a1 a2 a3 a4 a5) ?_
  congr 1
  all_goals
    apply Fin.ext
    simp only []
    omega

theorem v18_fst (k : Fin 18) (b : Fin 32) (l : Fin 128) (g : Fin 4) (j : Fin 8) :
    A_main_v18 (F := Ideal) a0 a1 a2 a3 a4 a5 (ix5 k (fst b) l g j) = tab a1 0 b g k l j := by
  rw [v18_at, v16_fst]
  unfold tab
  pointwise [A_main_v9]
  all_goals
    refine congrArg a1 ?_
    try
      congr 1
      all_goals
        apply Fin.ext
        simp

theorem v18_snd (k : Fin 18) (b : Fin 32) (l : Fin 128) (g : Fin 4) (j : Fin 8) :
    A_main_v18 (F := Ideal) a0 a1 a2 a3 a4 a5 (ix5 k (snd b) l g j) = tab a1 1 b g (turn k) (Fin.rev l) j := by
  rw [v18_at, v16_turn]
  unfold tab
  pointwise [A_main_v10]
  refine congrArg a1 ?_
  congr 1
  all_goals
    apply Fin.ext
    simp
    try omega

theorem v28_eq : A_main_v28 (F := Ideal) a0 a1 a2 a3 a4 a5 = A_main_v18 (F := Ideal) a0 a2 a2 a3 a4 a5 := rfl

theorem v28_fst (k : Fin 18) (b : Fin 32) (l : Fin 128) (g : Fin 4) (j : Fin 8) :
    A_main_v28 (F := Ideal) a0 a1 a2 a3 a4 a5 (ix5 k (fst b) l g j) = tab a2 0 b g k l j := by
  rw [v28_eq, v18_fst]

theorem v28_snd (k : Fin 18) (b : Fin 32) (l : Fin 128) (g : Fin 4) (j : Fin 8) :
    A_main_v28 (F := Ideal) a0 a1 a2 a3 a4 a5 (ix5 k (snd b) l g j) = tab a2 1 b g (turn k) (Fin.rev l) j := by
  rw [v28_eq, v18_snd]

theorem v38_eq : A_main_v38 (F := Ideal) a0 a1 a2 a3 a4 a5 = A_main_v18 (F := Ideal) a0 a3 a2 a3 a4 a5 := rfl

theorem v38_fst (k : Fin 18) (b : Fin 32) (l : Fin 128) (g : Fin 4) (j : Fin 8) :
    A_main_v38 (F := Ideal) a0 a1 a2 a3 a4 a5 (ix5 k (fst b) l g j) = tab a3 0 b g k l j := by
  rw [v38_eq, v18_fst]

theorem v38_snd (k : Fin 18) (b : Fin 32) (l : Fin 128) (g : Fin 4) (j : Fin 8) :
    A_main_v38 (F := Ideal) a0 a1 a2 a3 a4 a5 (ix5 k (snd b) l g j) = tab a3 1 b g (turn k) (Fin.rev l) j := by
  rw [v38_eq, v18_snd]

theorem v48_eq : A_main_v48 (F := Ideal) a0 a1 a2 a3 a4 a5 = A_main_v18 (F := Ideal) a0 a4 a2 a3 a4 a5 := rfl

theorem v48_fst (k : Fin 18) (b : Fin 32) (l : Fin 128) (g : Fin 4) (j : Fin 8) :
    A_main_v48 (F := Ideal) a0 a1 a2 a3 a4 a5 (ix5 k (fst b) l g j) = tab a4 0 b g k l j := by
  rw [v48_eq, v18_fst]

theorem v48_snd (k : Fin 18) (b : Fin 32) (l : Fin 128) (g : Fin 4) (j : Fin 8) :
    A_main_v48 (F := Ideal) a0 a1 a2 a3 a4 a5 (ix5 k (snd b) l g j) = tab a4 1 b g (turn k) (Fin.rev l) j := by
  rw [v48_eq, v18_snd]

theorem v51_at (b : Fin 32) (k : Fin 18) (q : Fin 32) :
    A_main_v51 (F := Ideal) a0 a1 a2 a3 a4 a5 (ix3 b k q) = a5 (ix4 b k 0 ⟨32 + q.val, by omega⟩) := by
  pointwise [A_main_v51, A_main_v49]
  all_goals
    refine congrArg a5 ?_
    congr 1
    all_goals
      apply Fin.ext
      simp
      try omega

theorem v50_at (b : Fin 32) (k : Fin 18) (q : Fin 32) :
    A_main_v50 (F := Ideal) a0 a1 a2 a3 a4 a5 (ix3 b k q) = a5 (ix4 b k 0 ⟨q.val, by omega⟩) := by
  pointwise [A_main_v50, A_main_v49]
  all_goals
    refine congrArg a5 ?_
    congr 1
    all_goals
      apply Fin.ext
      simp
      try omega

theorem v53_at (b : Fin 32) (k : Fin 2) (q : Fin 32) :
    A_main_v53 (F := Ideal) a0 a1 a2 a3 a4 a5 (ix3 b k q) = A_main_v51 (F := Ideal) a0 a1 a2 a3 a4 a5 (ix3 b ⟨1 - k.val, by omega⟩ q) := by
  pointwise [A_main_v53, A_main_v52]
  refine congrArg (A_main_v51 (F := Ideal) a0 a1 a2 a3 a4 a5) ?_
  congr 1
  all_goals
    apply Fin.ext
    simp
    try omega

theorem v55_at (b : Fin 32) (k : Fin 16) (q : Fin 32) :
    A_main_v55 (F := Ideal) a0 a1 a2 a3 a4 a5 (ix3 b k q) = A_main_v51 (F := Ideal) a0 a1 a2 a3 a4 a5 (ix3 b ⟨17 - k.val, by omega⟩ q) := by
  pointwise [A_main_v55, A_main_v54]
  refine congrArg (A_main_v51 (F := Ideal) a0 a1 a2 a3 a4 a5) ?_
  congr 1
  all_goals
    apply Fin.ext
    simp
    try omega

theorem v56_at (b : Fin 32) (k : Fin 18) (q : Fin 32) :
    A_main_v56 (F := Ideal) a0 a1 a2 a3 a4 a5 (ix3 b k q) = A_main_v51 (F := Ideal) a0 a1 a2 a3 a4 a5 (ix3 b (turn k) q) := by
  pointwise [A_main_v56]
  by_cases h : k.val < 2
  · rw [dif_pos h]
    refine (v53_at a0 a1 a2 a3 a4 a5 b ⟨k.val, h⟩ q).trans ?_
    refine congrArg (fun x => A_main_v51 (F := Ideal) a0 a1 a2 a3 a4 a5 (ix3 b x q)) (Fin.ext ?_)
    simp only [turn]
    omega
  · rw [dif_neg h]
    refine (v55_at a0 a1 a2 a3 a4 a5 b ⟨k.val - 2, by omega⟩ q).trans ?_
    refine congrArg (fun x => A_main_v51 (F := Ideal) a0 a1 a2 a3 a4 a5 (ix3 b x q)) (Fin.ext ?_)
    simp only [turn]
    omega

theorem v57_fst (b : Fin 32) (k : Fin 18) (q : Fin 32) :
    A_main_v57 (F := Ideal) a0 a1 a2 a3 a4 a5 (ix3 (fst b) k q) = A_main_v50 (F := Ideal) a0 a1 a2 a3 a4 a5 (ix3 b k q) := by
  unfold fst
  pointwise [A_main_v57]

theorem v57_snd (b : Fin 32) (k : Fin 18) (q : Fin 32) :
    A_main_v57 (F := Ideal) a0 a1 a2 a3 a4 a5 (ix3 (snd b) k q) = A_main_v56 (F := Ideal) a0 a1 a2 a3 a4 a5 (ix3 b k q) := by
  unfold snd
  pointwise [A_main_v57]

theorem v60_at (k : Fin 18) (w : Fin 64) (g : Fin 4) (j : Fin 8) :
    A_main_v60 (F := Ideal) a0 a1 a2 a3 a4 a5 (ix4 k w g j) = A_main_v57 (F := Ideal) a0 a1 a2 a3 a4 a5 (ix3 w k ⟨8 * g.val + j.val, by omega⟩) := by
  pointwise [A_main_v60, A_main_v59, A_main_v58]
  refine congrArg (A_main_v57 (F := Ideal) a0 a1 a2 a3 a4 a5) ?_
  congr 1
  all_goals
    apply Fin.ext
    simp
    try omega

theorem v60_fst (k : Fin 18) (b : Fin 32) (g : Fin 4) (j : Fin 8) :
    A_main_v60 (F := Ideal) a0 a1 a2 a3 a4 a5 (ix4 k (fst b) g j) = els a5 0 b g k j := by
  rw [v60_at, v57_fst, v50_at]
  unfold els
  refine congrArg a5 ?_
  congr 1
  all_goals
    apply Fin.ext
    simp

theorem v60_snd (k : Fin 18) (b : Fin 32) (g : Fin 4) (j : Fin 8) :
    A_main_v60 (F := Ideal) a0 a1 a2 a3 a4 a5 (ix4 k (snd b) g j) = els a5 1 b g (turn k) j := by
  rw [v60_at, v57_snd, v56_at, v51_at]
  unfold els
  refine congrArg a5 ?_
  congr 1
  all_goals
    apply Fin.ext
    simp
    try omega

end Cert.ScanRefIdeal.Reading
-- ==== Proof.ScanRefOut.lean ====
/-
  The reference's result of the state its loop ends in: the sum of the two halves of the batch axis, the second half's
  context and latents turned back.
-/
module

public import proofs.«01_k».proof.Proof.ScanRefData

@[expose] public section

set_option maxRecDepth 16384

noncomputable section

open Idealize.ShloMosaic Idealize.ShloMosaic.TcCoe Idealize.SL.Sem
open Idealize.ShloMosaic.Pipeline (Dat)

namespace Cert.ScanRefIdeal.Reading

open Cert.ScanRefIdeal Cert.ScanRefIdeal.Gen Cert.ScanRefIdeal.Step

/-- Exchanging the chunk axis and the batch axis of the outputs, whatever the widths. -/
theorem swap_outs {α : Type} {G J P : Nat} (x : (⟨6, ![18, 64, 128, G, J, P]⟩ : Shape).Idx → α)
    (h : (⟨6, ![18, 64, 128, G, J, P]⟩ : Shape).Transposes [1, 0, 2, 3, 4, 5] ⟨6, ![64, 18, 128, G, J, P]⟩)
    (w : Fin 64) (k : Fin 18) (l : Fin 128) (g : Fin G) (j : Fin J) (p : Fin P) :
    transpose ⟨6, ![64, 18, 128, G, J, P]⟩ [1, 0, 2, 3, 4, 5] x h (ix6 w k l g j p) = x (ix6 k w l g j p) := by
  refine transpose_apply _ _ _ _ _ fun b => ?_
  fin_cases b <;> rfl

/-- The outputs as rows and channels. -/
def joined (s : State Ideal) : FVec Ideal S64x2304x2048 .f32 :=
  shapeCast _ (transpose S64x18x128x4x8x64 [1, 0, 2, 3, 4, 5] (s.main_v66_9) transposes_S18x64x128x4x8x64_S64x18x128x4x8x64_1_0_2_3_4_5) shapeCasts_S64x18x128x4x8x64_S64x2304x2048

theorem joined_at (s : State Ideal) (w : Fin 64) (k : Fin 18) (l : Fin 128) (g : Fin 4) (j : Fin 8) (p : Fin 64) (r : Fin 2304) (q : Fin 2048)
    (hr : r.val = 128 * k.val + l.val) (hq : q.val = 512 * g.val + (64 * j.val + p.val)) :
    joined s (ix3 w r q) = s.main_v66_9 (ix6 k w l g j p) := by
  unfold joined
  refine (join_rows (by norm_num) _ _ w k l g j p r q hr (by omega)).trans ?_
  exact swap_outs _ _ w k l g j p

/-- The rows of the second half, turned back. -/
def turned (Y : FVec Ideal S64x2304x2048 .f32) : FVec Ideal S32x2304x2048 .f32 :=
  concatenate S32x2304x2048 1 [⟨S32x256x2048, (Host.reverse [1] (extractStridedSlice S32x256x2048 ![0, 0, 0] (extractStridedSlice S32x2304x2048 ![32, 0, 0] Y slices_S64x2304x2048_S32x2304x2048_32_0_0) slices_S32x2304x2048_S32x256x2048_0_0_0))⟩, ⟨S32x2048x2048, (Host.reverse [1] (extractStridedSlice S32x2048x2048 ![0, 256, 0] (extractStridedSlice S32x2304x2048 ![32, 0, 0] Y slices_S64x2304x2048_S32x2304x2048_32_0_0) slices_S32x2304x2048_S32x2048x2048_0_256_0))⟩] concatenates_S32x256x2048_S32x2048x2048_S32x2304x2048_d1

theorem turned_lo (Y : FVec Ideal S64x2304x2048 .f32) (b : Fin 32) (r : Fin 2304) (h : r.val < 256) (q : Fin 2048) :
    turned Y (ix3 b r q) = Y (ix3 (snd b) ⟨255 - r.val, by omega⟩ q) := by
  unfold snd
  pointwise [turned]
  rw [dif_pos h]
  refine congrArg Y ?_
  congr 1
  all_goals
    apply Fin.ext
    simp
    try omega

theorem turned_hi (Y : FVec Ideal S64x2304x2048 .f32) (b : Fin 32) (r : Fin 2304) (h : ¬ r.val < 256) (q : Fin 2048) :
    turned Y (ix3 b r q) = Y (ix3 (snd b) ⟨2559 - r.val, by omega⟩ q) := by
  unfold snd
  pointwise [turned]
  rw [dif_neg h]
  refine congrArg Y ?_
  congr 1
  all_goals
    apply Fin.ext
    simp
    try omega

theorem turned_at (Y : FVec Ideal S64x2304x2048 .f32) (b : Fin 32) (a : Fin 18) (l : Fin 128) (q : Fin 2048) :
    turned Y (ix3 b ⟨128 * a.val + l.val, by omega⟩ q) = Y (ix3 (snd b) ⟨128 * (turn a).val + (Fin.rev l).val, by omega⟩ q) := by
  by_cases h : a.val < 2
  · refine (turned_lo Y b _ (by show 128 * a.val + l.val < 256; omega) q).trans ?_
    refine congrArg (fun x => Y (ix3 (snd b) x q)) (Fin.ext ?_)
    simp only [turn, Fin.rev]
    omega
  · refine (turned_hi Y b _ (by show ¬ 128 * a.val + l.val < 256; omega) q).trans ?_
    refine congrArg (fun x => Y (ix3 (snd b) x q)) (Fin.ext ?_)
    simp only [turn, Fin.rev]
    omega

/-- The sum of the two halves. -/
def summed (Y : FVec Ideal S64x2304x2048 .f32) : FVec Ideal S32x2304x2048 .bf16 :=
  truncf .bf16 (addf (extractStridedSlice S32x2304x2048 ![0, 0, 0] Y slices_S64x2304x2048_S32x2304x2048_0_0_0) (turned Y)) bitsLt_bf16_f32

theorem summed_at (Y : FVec Ideal S64x2304x2048 .f32) (b : Fin 32) (r : Fin 2304) (q : Fin 2048) :
    summed Y (ix3 b r q) = Y (ix3 (fst b) r q) + turned Y (ix3 b r q) := by
  unfold fst
  pointwise [summed]

/-- The result at row `l` of chunk `a`, head `j` of group `g`, channel `p`. -/
theorem R_at (s : State Ideal) (b : Fin 32) (a : Fin 18) (l : Fin 128) (g : Fin 4) (j : Fin 8) (p : Fin 64) :
    R_main_v77 s (ix3 b ⟨128 * a.val + l.val, by omega⟩ ⟨512 * g.val + (64 * j.val + p.val), by omega⟩)
      = (s.main_v66_9 (ix6 a (fst b) l g j p) : EReal) + s.main_v66_9 (ix6 (turn a) (snd b) (Fin.rev l) g j p) := by
  have e : R_main_v77 s = summed (joined s) := rfl
  rw [e, summed_at, turned_at]
  exact congrArg₂ (· + ·) (joined_at s _ a l g j p _ _ rfl rfl) (joined_at s _ (turn a) (Fin.rev l) g j p _ _ rfl rfl)

end Cert.ScanRefIdeal.Reading
-- ==== Proof.ScanRefIter.lean ====
/-
  The reference's iteration, entry by entry in the arguments: the state of a direction after each chunk, and its output there.
-/
module

public import proofs.«01_k».proof.Proof.ScanRefOut

@[expose] public section

set_option maxRecDepth 16384

noncomputable section

open Idealize.ShloMosaic Idealize.ShloMosaic.TcCoe Idealize.SL.Sem
open Idealize.ShloMosaic.Pipeline (Dat)

namespace Cert.ScanRefIdeal.Reading

open Cert.ScanRefIdeal Cert.ScanRefIdeal.Gen Cert.ScanRefIdeal.Step

open Cert.ScanIdeal.Chunks (xs bs cs tab els)

variable (a0 : FVec Ideal S32x2304x3072 .bf16) (a1 a2 a3 a4 : FVec Ideal S32x2304x128 .f32) (a5 : FVec Ideal S32x18x1x128 .f32)

/-- The loop's state after `n` trips. -/
def iter : ℕ → State Ideal
  | 0 => init a0 a1 a2 a3 a4 a5
  | n + 1 => step n (iter n)

/-- The six inputs stay as they were. -/
theorem iter_inputs (n : ℕ) : (iter a0 a1 a2 a3 a4 a5 n).main_v66_0 = A_main_v8 a0 a1 a2 a3 a4 a5
    ∧ (iter a0 a1 a2 a3 a4 a5 n).main_v66_1 = A_main_v18 a0 a1 a2 a3 a4 a5
    ∧ (iter a0 a1 a2 a3 a4 a5 n).main_v66_2 = A_main_v28 a0 a1 a2 a3 a4 a5
    ∧ (iter a0 a1 a2 a3 a4 a5 n).main_v66_3 = A_main_v38 a0 a1 a2 a3 a4 a5
    ∧ (iter a0 a1 a2 a3 a4 a5 n).main_v66_4 = A_main_v48 a0 a1 a2 a3 a4 a5
    ∧ (iter a0 a1 a2 a3 a4 a5 n).main_v66_5 = A_main_v60 a0 a1 a2 a3 a4 a5 := by
  induction n with
  | zero => exact ⟨rfl, rfl, rfl, rfl, rfl, rfl⟩
  | succ n ih => exact ih

/-- What a trip reads at batch `w`: batch `b`, direction `d`, chunk `K`, its rows in the order `σ`. -/
structure Reads (s : State Ideal) (k : Fin 18) (w : Fin 64) (b : Fin 32) (d : Fin 2) (K : Fin 18) (σ : Fin 128 → Fin 128) : Prop where
  x : ∀ (l : Fin 128) (g : Fin 4) (h : Fin 8) (p : Fin 64), (b35 k.val s (ix5 w l g h p) : EReal) = xs a0 b g K (σ l) h p
  B : ∀ (l : Fin 128) (g : Fin 4) (n : Fin 128), (b37 k.val s (ix4 w l g n) : EReal) = bs a0 b g K (σ l) n
  C : ∀ (l : Fin 128) (g : Fin 4) (n : Fin 128), (b39 k.val s (ix4 w l g n) : EReal) = cs a0 b g K (σ l) n
  dt : ∀ (l : Fin 128) (g : Fin 4) (h : Fin 8), (b10 k.val s (ix4 w l g h) : EReal) = tab a1 d b g K (σ l) h
  a : ∀ (l : Fin 128) (g : Fin 4) (h : Fin 8), (b16 k.val s (ix4 w l g h) : EReal) = tab a2 d b g K (σ l) h
  ea : ∀ (l : Fin 128) (g : Fin 4) (h : Fin 8), (b22 k.val s (ix4 w l g h) : EReal) = tab a3 d b g K (σ l) h
  dw : ∀ (l : Fin 128) (g : Fin 4) (h : Fin 8), (b28 k.val s (ix4 w l g h) : EReal) = tab a4 d b g K (σ l) h
  el : ∀ (g : Fin 4) (h : Fin 8), (b33 k.val s (ix3 w g h) : EReal) = els a5 d b g K h

theorem reads_fst (k : Fin 18) (b : Fin 32) :
    Reads a0 a1 a2 a3 a4 a5 (iter a0 a1 a2 a3 a4 a5 k.val) k (fst b) b 0 k id where
  x := by
    intro l g h p
    rw [b35_at, (iter_inputs a0 a1 a2 a3 a4 a5 k.val).1, v8_fst]
    unfold xs
    refine congrArg (fun x => a0 (ix3 b _ x)) (Fin.ext ?_)
    simp only []
    omega
  B := by
    intro l g n
    rw [b37_at, (iter_inputs a0 a1 a2 a3 a4 a5 k.val).1, v8_fst]
    unfold bs
    refine congrArg (fun x => a0 (ix3 b _ x)) (Fin.ext ?_)
    simp only []
    omega
  C := by
    intro l g n
    rw [b39_at, (iter_inputs a0 a1 a2 a3 a4 a5 k.val).1, v8_fst]
    unfold cs
    refine congrArg (fun x => a0 (ix3 b _ x)) (Fin.ext ?_)
    simp only []
    omega
  dt := by
    intro l g h
    rw [b10_at, (iter_inputs a0 a1 a2 a3 a4 a5 k.val).2.1, v18_fst]
    rfl
  a := by
    intro l g h
    rw [b16_at, (iter_inputs a0 a1 a2 a3 a4 a5 k.val).2.2.1, v28_fst]
    rfl
  ea := by
    intro l g h
    rw [b22_at, (iter_inputs a0 a1 a2 a3 a4 a5 k.val).2.2.2.1, v38_fst]
    rfl
  dw := by
    intro l g h
    rw [b28_at, (iter_inputs a0 a1 a2 a3 a4 a5 k.val).2.2.2.2.1, v48_fst]
    rfl
  el := by
    intro g h
    rw [b33_at, (iter_inputs a0 a1 a2 a3 a4 a5 k.val).2.2.2.2.2, v60_fst]

theorem reads_snd (k : Fin 18) (b : Fin 32) :
    Reads a0 a1 a2 a3 a4 a5 (iter a0 a1 a2 a3 a4 a5 k.val) k (snd b) b 1 (turn k) Fin.rev where
  x := by
    intro l g h p
    rw [b35_at, (iter_inputs a0 a1 a2 a3 a4 a5 k.val).1, v8_snd]
    unfold xs
    refine congrArg (fun x => a0 (ix3 b _ x)) (Fin.ext ?_)
    simp only []
    omega
  B := by
    intro l g n
    rw [b37_at, (iter_inputs a0 a1 a2 a3 a4 a5 k.val).1, v8_snd]
    unfold bs
    refine congrArg (fun x => a0 (ix3 b _ x)) (Fin.ext ?_)
    simp only []
    omega
  C := by
    intro l g n
    rw [b39_at, (iter_inputs a0 a1 a2 a3 a4 a5 k.val).1, v8_snd]
    unfold cs
    refine congrArg (fun x => a0 (ix3 b _ x)) (Fin.ext ?_)
    simp only []
    omega
  dt := by
    intro l g h
    rw [b10_at, (iter_inputs a0 a1 a2 a3 a4 a5 k.val).2.1, v18_snd]
  a := by
    intro l g h
    rw [b16_at, (iter_inputs a0 a1 a2 a3 a4 a5 k.val).2.2.1, v28_snd]
  ea := by
    intro l g h
    rw [b22_at, (iter_inputs a0 a1 a2 a3 a4 a5 k.val).2.2.2.1, v38_snd]
  dw := by
    intro l g h
    rw [b28_at, (iter_inputs a0 a1 a2 a3 a4 a5 k.val).2.2.2.2.1, v48_snd]
  el := by
    intro g h
    rw [b33_at, (iter_inputs a0 a1 a2 a3 a4 a5 k.val).2.2.2.2.2, v60_snd]

section Trip

variable {s : State Ideal} {k : Fin 18} {w : Fin 64} {b : Fin 32} {d : Fin 2} {K : Fin 18} {σ : Fin 128 → Fin 128}
  (R : Reads a0 a1 a2 a3 a4 a5 s k w b d K σ) (hσ : Function.Bijective σ)
include R hσ

/-- The next state. -/
theorem next_at (g : Fin 4) (h : Fin 8) (p : Fin 64) (n : Fin 128) :
    ((step k.val s).main_v66_8 (ix5 w g h p n) : EReal)
      = s.main_v66_8 (ix5 w g h p n) * els a5 d b g K h
        + ∑ r : Fin 128, bs a0 b g K r n * (xs a0 b g K r h p * tab a4 d b g K r h) := by
  refine (b73_at k s w g h p n).trans ?_
  rw [b72_at, R.el]
  refine congrArg₂ (· + ·) rfl ?_
  refine Eq.trans ?_ (hσ.sum_comp (fun r => bs a0 b g K r n * (xs a0 b g K r h p * tab a4 d b g K r h)))
  refine Finset.sum_congr rfl fun r _ => ?_
  rw [b71_at, R.x, R.dw, R.B, mul_comm]

/-- The output in the chunk, for a mask `M` that says which rows come before which. -/
theorem out_at (M : Fin 128 → Fin 128 → Prop) [∀ l r, Decidable (M l r)] (hM : ∀ l r, r ≤ l ↔ M (σ l) (σ r))
    (l : Fin 128) (g : Fin 4) (h : Fin 8) (p : Fin 64) :
    (b74 k.val s (ix5 w l g h p) : EReal)
      = (∑ n : Fin 128, cs a0 b g K (σ l) n * s.main_v66_8 (ix5 w g h p n)) * tab a3 d b g K (σ l) h
        + ∑ r : Fin 128, ((∑ n : Fin 128, cs a0 b g K (σ l) n * bs a0 b g K r n)
            * Ideal.exp (if M (σ l) r then tab a2 d b g K (σ l) h - tab a2 d b g K r h else (⊥ : EReal))
            * tab a1 d b g K r h) * xs a0 b g K r h p := by
  rw [b74_at, b59_at, b61_at, add_comm, R.ea]
  refine congrArg₂ (· + ·) (congrArg₂ (· * ·) (Finset.sum_congr rfl fun n _ => ?_) rfl) ?_
  · rw [R.C, mul_comm]
  · refine Eq.trans ?_ (hσ.sum_comp (fun r => ((∑ n : Fin 128, cs a0 b g K (σ l) n * bs a0 b g K r n)
            * Ideal.exp (if M (σ l) r then tab a2 d b g K (σ l) h - tab a2 d b g K r h else (⊥ : EReal))
            * tab a1 d b g K r h) * xs a0 b g K r h p))
    refine Finset.sum_congr rfl fun r _ => ?_
    rw [b55_at, b58_at, b50_at, b51_at, R.x, R.dt, R.a, R.a, if_congr (hM l r) rfl rfl]
    have e : (∑ n : Fin 128, (b37 k.val s (ix4 w r g n) : EReal) * b39 k.val s (ix4 w l g n))
        = ∑ n : Fin 128, cs a0 b g K (σ l) n * bs a0 b g K (σ r) n :=
      Finset.sum_congr rfl fun n _ => by rw [R.B, R.C, mul_comm]
    rw [e]
    ac_rfl

end Trip

/-- The outputs kept: after the trips past chunk `k` its output is there. -/
theorem iter_outs (n : ℕ) (hn : n ≤ 18) (k : Fin 18) (hk : k.val < n) (w : Fin 64) (l : Fin 128) (g : Fin 4) (h : Fin 8) (p : Fin 64) :
    (iter a0 a1 a2 a3 a4 a5 n).main_v66_9 (ix6 k w l g h p) = b74 k.val (iter a0 a1 a2 a3 a4 a5 k.val) (ix5 w l g h p) := by
  induction n with
  | zero => omega
  | succ n ih =>
    refine (b81_at ⟨n, by omega⟩ (iter a0 a1 a2 a3 a4 a5 n) k w l g h p).trans ?_
    by_cases e : k.val = n
    · subst e
      rw [if_pos rfl]
    · rw [if_neg (fun e' => e (congrArg Fin.val e'))]
      exact ih (by omega) (by omega)

/-- Both directions start from the zero state. -/
theorem iter_zero (w : Fin 64) (g : Fin 4) (h : Fin 8) (p : Fin 64) (n : Fin 128) :
    (iter a0 a1 a2 a3 a4 a5 0).main_v66_8 (ix5 w g h p n) = (0 : EReal) := by
  show K_main_v64 (F := Ideal) (ix5 w g h p n) = (0 : EReal)
  pointwise [K_main_v64, K_main_cst]

end Cert.ScanRefIdeal.Reading
-- ==== Proof.ScanFinal.lean ====
/-
  The scan kernel's result is its reference's.
-/
module

public import proofs.«01_k».proof.Proof.ScanValue
public import proofs.«01_k».proof.Proof.ScanRefIter

@[expose] public section

set_option maxRecDepth 16384

noncomputable section

open Idealize.ShloMosaic Idealize.ShloMosaic.TcCoe Idealize.SL.Sem
open Idealize.ShloMosaic.Pipeline (Dat)

namespace Cert.ScanIdeal.Chunks

open Cert.ScanIdeal Cert.ScanIdeal.Gen Cert.ScanIdeal.Cell

variable (m : (ℓ : Loc nD τ sig) → Buf (Elt Ideal) ℓ) (c : Dev nD) (t : Fin cfg0.N)

/-- The reference's loop on the kernel's arguments. -/
def it : ℕ → Cert.ScanRefIdeal.Step.State Ideal :=
  Cert.ScanRefIdeal.Reading.iter (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The state of direction 0 before its chunk `k` is the reference's. -/
theorem stateF_at (k : ℕ) (hk : k ≤ 18) (n : Fin 128) (j : Fin 8) (p : Fin 64) :
    (stF (iblk m c 0 t) (iblk m c 1 t) (iblk m c 3 t) (iblk m c 5 t) (iblk m c 6 t) st0 k (ix2 n ⟨64 * j.val + p.val, by omega⟩) : EReal)
      = (it m c k).main_v66_8 (ix5 (Cert.ScanRefIdeal.Reading.fst (bOf t)) (gOf t) j p n) := by
  induction k generalizing n j p with
  | zero => exact (st0_at n _).trans (Cert.ScanRefIdeal.Reading.iter_zero _ _ _ _ _ _ _ _ _ _ _).symm
  | succ k ih =>
    have hlt : k < 18 := by omega
    have e := stF_succ (iblk m c 0 t) (iblk m c 1 t) (iblk m c 3 t) (iblk m c 5 t) (iblk m c 6 t) st0 (trp ⟨k, hlt⟩)
    refine (congrFun e _).trans ?_
    refine (newF_at m c t ⟨k, hlt⟩ _ n j p).trans ?_
    refine Eq.trans ?_ (Cert.ScanRefIdeal.Reading.next_at _ _ _ _ _ _ (Cert.ScanRefIdeal.Reading.reads_fst _ _ _ _ _ _ ⟨k, hlt⟩ (bOf t)) Function.bijective_id (gOf t) j p n).symm
    exact congrArg₂ (· + ·) (congrArg₂ (· * ·) (ih (by omega) n j p) rfl) rfl

/-- The output of direction 0 at its chunk `k` is the reference's. -/
theorem outputF_at (k : Fin 18) (l : Fin 128) (j : Fin 8) (p : Fin 64) :
    (outF (iblk m c 0 t) (iblk m c 1 t) (iblk m c 2 t) (iblk m c 3 t) (iblk m c 4 t) (iblk m c 6 t) (trp k)
        (stF (iblk m c 0 t) (iblk m c 1 t) (iblk m c 3 t) (iblk m c 5 t) (iblk m c 6 t) st0 k.val) l ⟨64 * j.val + p.val, by omega⟩ : EReal)
      = (it m c 18).main_v66_9 (ix6 k (Cert.ScanRefIdeal.Reading.fst (bOf t)) l (gOf t) j p) := by
  refine (outF_at m c t k _ l j p).trans ?_
  refine Eq.trans ?_ (Cert.ScanRefIdeal.Reading.iter_outs _ _ _ _ _ _ 18 le_rfl k k.isLt _ _ _ _ _).symm
  refine Eq.trans ?_ (Cert.ScanRefIdeal.Reading.out_at _ _ _ _ _ _ (Cert.ScanRefIdeal.Reading.reads_fst _ _ _ _ _ _ k (bOf t)) Function.bijective_id
    (fun l r => r ≤ l) (fun l r => Iff.rfl) _ (gOf t) j p).symm
  refine congrArg₂ (· + ·) (congrArg₂ (· * ·) (Finset.sum_congr rfl fun n _ => ?_) rfl) rfl
  exact congrArg₂ (· * ·) rfl (stateF_at m c t k.val (by omega) n j p)

/-- The state of direction 1 before its chunk `k` is the reference's. -/
theorem stateB_at (k : ℕ) (hk : k ≤ 18) (n : Fin 128) (j : Fin 8) (p : Fin 64) :
    (stB (iblk m c 0 t) (iblk m c 1 t) (iblk m c 3 t) (iblk m c 5 t) (iblk m c 6 t) st0 k (ix2 n ⟨64 * j.val + p.val, by omega⟩) : EReal)
      = (it m c k).main_v66_8 (ix5 (Cert.ScanRefIdeal.Reading.snd (bOf t)) (gOf t) j p n) := by
  induction k generalizing n j p with
  | zero => exact (st0_at n _).trans (Cert.ScanRefIdeal.Reading.iter_zero _ _ _ _ _ _ _ _ _ _ _).symm
  | succ k ih =>
    have hlt : k < 18 := by omega
    have e := stB_succ (iblk m c 0 t) (iblk m c 1 t) (iblk m c 3 t) (iblk m c 5 t) (iblk m c 6 t) st0 (trp ⟨k, hlt⟩)
    refine (congrFun e _).trans ?_
    refine (newB_at m c t ⟨k, hlt⟩ _ n j p).trans ?_
    refine Eq.trans ?_ (Cert.ScanRefIdeal.Reading.next_at _ _ _ _ _ _ (Cert.ScanRefIdeal.Reading.reads_snd _ _ _ _ _ _ ⟨k, hlt⟩ (bOf t)) Fin.rev_bijective (gOf t) j p n).symm
    exact congrArg₂ (· + ·) (congrArg₂ (· * ·) (ih (by omega) n j p) rfl) rfl

/-- The output of direction 1 at its chunk `k` is the reference's. -/
theorem outputB_at (k : Fin 18) (l : Fin 128) (j : Fin 8) (p : Fin 64) :
    (outB (iblk m c 0 t) (iblk m c 1 t) (iblk m c 2 t) (iblk m c 3 t) (iblk m c 4 t) (iblk m c 6 t) (trp k)
        (stB (iblk m c 0 t) (iblk m c 1 t) (iblk m c 3 t) (iblk m c 5 t) (iblk m c 6 t) st0 k.val) l ⟨64 * j.val + p.val, by omega⟩ : EReal)
      = (it m c 18).main_v66_9 (ix6 k (Cert.ScanRefIdeal.Reading.snd (bOf t)) (Fin.rev l) (gOf t) j p) := by
  refine (outB_at m c t k _ l j p).trans ?_
  refine Eq.trans ?_ (Cert.ScanRefIdeal.Reading.iter_outs _ _ _ _ _ _ 18 le_rfl k k.isLt _ _ _ _ _).symm
  refine Eq.trans ?_ (Cert.ScanRefIdeal.Reading.out_at _ _ _ _ _ _ (Cert.ScanRefIdeal.Reading.reads_snd _ _ _ _ _ _ k (bOf t)) Fin.rev_bijective
    (fun l r => l ≤ r) (fun l r => (Fin.rev_le_rev).symm) _ (gOf t) j p).symm
  rw [Fin.rev_rev]
  refine congrArg₂ (· + ·) (congrArg₂ (· * ·) (Finset.sum_congr rfl fun n _ => ?_) rfl) rfl
  exact congrArg₂ (· * ·) rfl (stateB_at m c t k.val (by omega) n j p)

/-- The kernel's block at a grid point. -/
theorem block_at (a : Fin 18) (l : Fin 128) (j : Fin 8) (p : Fin 64) :
    outsAt0 m c t (ix3 0 ⟨128 * a.val + l.val, by omega⟩ ⟨64 * j.val + p.val, by omega⟩)
      = ((it m c 18).main_v66_9 (ix6 a (Cert.ScanRefIdeal.Reading.fst (bOf t)) l (gOf t) j p) : EReal)
        + (it m c 18).main_v66_9 (ix6 (Cert.ScanRefIdeal.Reading.turn a) (Cert.ScanRefIdeal.Reading.snd (bOf t)) (Fin.rev l) (gOf t) j p) := by
  unfold outsAt0
  refine (out_at c (grid0.coords t) _ _ _ _ _ _ _ _ _ _ _ _ _ _ _ _ _ _ _ _ _ _ _ _ _ _ _ _ _ a l ⟨64 * j.val + p.val, by omega⟩).trans ?_
  unfold sumAt
  rw [if_pos a.isLt, if_pos (bck a).isLt]
  exact congrArg₂ (· + ·) (outputF_at m c t a l j p) (outputB_at m c t (bck a) l j p)

/-- The result array. -/
theorem final : (dats m 0 c).arrAt 7 (cfgs 0).N = Cert.ScanRefIdeal.Step.R_main_v77 (it m c 18) := by
  refine (dats m 0 c).arrAt_eq_of_covers 7 _ (by decide +kernel) fun t hf y => ?_
  blk_simp
  rw [after0_7]
  obtain ⟨i, d, rfl⟩ : ∃ (i : Fin 2304) (d : Fin 512), y = ix3 0 i d := ⟨y 1, y 2, by rw [← Fin.fin_one_eq_zero (y 0)]; exact eq_ix3 y⟩
  obtain ⟨a, l, rfl⟩ : ∃ (a : Fin 18) (l : Fin 128), i = ⟨128 * a.val + l.val, by omega⟩ :=
    ⟨⟨i.val / 128, by omega⟩, ⟨i.val % 128, by omega⟩, Fin.ext (by simp only []; omega)⟩
  obtain ⟨j, p, rfl⟩ : ∃ (j : Fin 8) (p : Fin 64), d = ⟨64 * j.val + p.val, by omega⟩ :=
    ⟨⟨d.val / 64, by omega⟩, ⟨d.val % 64, by omega⟩, Fin.ext (by simp only []; omega)⟩
  have hr : (win0_7.blk t).view.emb (ix3 0 ⟨128 * a.val + l.val, by omega⟩ ⟨64 * j.val + p.val, by omega⟩)
      = ix3 (bOf t) ⟨128 * a.val + l.val, by omega⟩ ⟨512 * (gOf t).val + (64 * j.val + p.val), by have := (gOf t).isLt; omega⟩ := by
    unfold bOf gOf
    blk_ext [idx t]
  rw [hr]
  exact (block_at m c t a l j p).trans (Cert.ScanRefIdeal.Reading.R_at _ (bOf t) a l (gOf t) j p).symm

/-- The program runs to its end with the reference's result of its arguments. -/
theorem result (ρ : Dev nD → PrngReg) : θ_run (defs (F := Ideal)) (onTc (τ := τ) (main (F := Ideal))) ⟨m, fun _ => 0, ρ⟩ (fun r => ∀ c : Dev nD,
      r.2.mem ((c.tc : Thread nD τ).loc main_v86) = Cert.ScanRefIdeal.Step.R_main_v77 (it m c 18)) :=
  (θ_run defs _ _).mono (fun _ h c => ((h c).1 7).trans (final m c)) (run_main m ρ)

/-- The program runs to its end with the reference's result of its arguments, which it leaves as they were. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v86) = Cert.ScanRefIdeal.Step.R_main_v77 (it m c 18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c, h.2 c⟩) (θ_run_and (result m ρ) (unchanged m ρ))

end Cert.ScanIdeal.Chunks
-- ==== Proof.NormValue.lean ====
/-
  The final normalisation read back: its result array is the reference's normalised latent rows.
-/
module

public import proofs.«01_k».proof.Proof.Gen.NormIdeal.Frame
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Reading

open Cert.NormIdeal Cert.NormIdeal.Gen

/-- The reference's result over its two arguments. -/
def result (h : FVec Ideal Cert.NormRefIdeal.S73728x1024 .f32) (g : FVec Ideal Cert.NormRefIdeal.S1024 .f32) :
    FVec Ideal Cert.NormRefIdeal.S32x2048x1024 .f32 :=
  let x : FVec Ideal Cert.NormRefIdeal.S32x2048x1024 .f32 := extractStridedSlice Cert.NormRefIdeal.S32x2048x1024 ![0, 256, 0] (shapeCast _ h Cert.NormRefIdeal.Gen.shapeCasts_S73728x1024_S32x2304x1024) Cert.NormRefIdeal.Gen.slices_S32x2304x1024_S32x2048x1024_0_256_0
  mulf (mulf x (broadcastInDim Cert.NormRefIdeal.S32x2048x1024 ![0, 1, 2] Cert.NormRefIdeal.Gen.bcast_S32x2048x1_S32x2048x1024_0_1_2 (Host.rsqrt (addf (Host.divf (broadcastInDim Cert.NormRefIdeal.S32x2048x1 ![0, 1] Cert.NormRefIdeal.Gen.bcast_S32x2048_S32x2048x1_0_1 (Host.reduceAdd (mulf x x) (constant Cert.NormRefIdeal.S_ .f32 0x00000000#32) Cert.NormRefIdeal.Gen.reducesTo_S32x2048x1024_S32x2048_d2 Cert.NormRefIdeal.Gen.h_S_)) (broadcastInDim Cert.NormRefIdeal.S32x2048x1 ![] Cert.NormRefIdeal.Gen.bcast_S_S32x2048x1 (constant Cert.NormRefIdeal.S_ .f32 0x44800000#32))) (broadcastInDim Cert.NormRefIdeal.S32x2048x1 ![] Cert.NormRefIdeal.Gen.bcast_S_S32x2048x1 (constant Cert.NormRefIdeal.S_ .f32 0x358637BD#32)))))) (broadcastInDim Cert.NormRefIdeal.S32x2048x1024 ![0, 1, 2] Cert.NormRefIdeal.Gen.bcast_S1x1x1024_S32x2048x1024_0_1_2 (broadcastInDim Cert.NormRefIdeal.S1x1x1024 ![2] Cert.NormRefIdeal.Gen.bcast_S1024_S1x1x1024_2 g))

/-- The mean of squares of `n` numbers, regularised, to the power minus one half. -/
def scale (x : Fin 1024 → EReal) : EReal :=
  Ideal.rsqrt (Ideal.div (∑ k : Fin 1024, x k * x k) (Ideal.ofBits .f32 0x44800000#32) + Ideal.ofBits .f32 0x358637BD#32)

/-- The reference's result at an index. -/
theorem result_at (h : FVec Ideal Cert.NormRefIdeal.S73728x1024 .f32) (g : FVec Ideal Cert.NormRefIdeal.S1024 .f32)
    (b : Fin 32) (l : Fin 2048) (d : Fin 1024) : result h g (ix3 b l d)
      = h (ix2 ⟨b.val * 2304 + (256 + l.val), by omega⟩ d) * scale (fun k => h (ix2 ⟨b.val * 2304 + (256 + l.val), by omega⟩ k)) * g (ix1 d) := by
  pointwise [result, scale]

/-- The block a grid point writes, at an index. -/
theorem pay_at (h : FVec Ideal S1x256x1024 .f32) (g : FVec Ideal S1x1024 .f32) (i : Fin 256) (d : Fin 1024) :
    k0_pay1 h g (ix3 0 i d) = h (ix3 0 i d) * scale (fun k => h (ix3 0 i k)) * g (ix2 0 d) := by
  pointwise [k0_pay1, scale]

/-- The windows' block indices at a grid point. -/
theorem idx : ∀ t : Fin cfg0.N, win0_0.index t = ![t.val / 8, t.val % 8 + 1, 0] ∧ win0_1.index t = ![0, 0]
    ∧ win0_2.index t = ![t.val / 8, t.val % 8, 0] ∧ t.val < 256 :=
  (by decide +kernel : ∀ t : Fin grid0.N, _)

variable (m : (ℓ : Loc nD τ sig) → Buf (Elt Ideal) ℓ)

/-- The result array after the run is the reference's term over the arguments. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, d, rfl⟩ : ∃ (i : Fin 256) (d : Fin 1024), y = ix3 0 i d :=
    ⟨y 1, y 2, by rw [← Fin.fin_one_eq_zero (y 0)]; exact eq_ix3 y⟩
  have hN := (idx t).2.2.2
  have hr : (win0_2.blk t).view.emb (ix3 0 i d)
      = ix3 (⟨t.val / 8, by omega⟩ : Fin 32) (⟨t.val % 8 * 256 + i.val, by omega⟩ : Fin 2048) d := by
    blk_ext [idx t]
  rw [hr, result_at]
  refine (pay_at _ _ _ _).trans ?_
  have hx : ∀ k : Fin 1024, iblk m c 0 t (ix3 0 i k)
      = m ((c : Thread nD τ).loc main_arg0) (ix2 (⟨t.val / 8 * 2304 + (256 + (t.val % 8 * 256 + i.val)), by omega⟩ : Fin 73728) k) := by
    intro k
    blk_point [iblk, V, idx t]
  refine Ideal.mul_congr (Ideal.mul_congr (hx d) (congrArg scale (funext hx))) ?_
  blk_point [iblk, V, idx t]

end Cert.NormIdeal.Reading

end
-- ==== Proof.ExpertsRef.lean ====
/-
  The reference of the experts call, read at an index: a row's sum over the sixteen experts of the row's combine weight
  times the expert's gated product, scaled by the row's modulation and added to the residual stream.
-/
module

public import proofs.«01_k».proof.Proof.Gen.ExpertsRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo

namespace Cert.ExpertsRefIdeal.Reading

open Cert.ExpertsRefIdeal Cert.ExpertsRefIdeal.Gen Cert.ExpertsRefIdeal.Value

/-- Expert `e`'s matrix is a slice of the stacked gate (or up) weights. -/
theorem inUp (e : Fin 16) : S16x1024x512.Slices ![e.val, 0, 0] S1x1024x512 := by revert e; decide
/-- Expert `e`'s matrix is a slice of the stacked down weights. -/
theorem inDown (e : Fin 16) : S16x512x1024.Slices ![e.val, 0, 0] S1x512x1024 := by revert e; decide
/-- Expert `e`'s column is a slice of the combine weights. -/
theorem inComb (e : Fin 16) : S73728x16.Slices ![0, e.val] S73728x1 := by revert e; decide

/-- The gate product of expert `e`. -/
def gate (u : FVec Ideal S73728x1024 .f32) (w : FVec Ideal S16x1024x512 .f32) (e : Fin 16) : FVec Ideal S73728x512 .f32 :=
  Host.dotGeneral dot_S73728x1024_S1024x512_S73728x512_1_0_0_1_n_n none u (shapeCast _ (extractStridedSlice S1x1024x512 ![e.val, 0, 0] w (inUp e)) shapeCasts_S1x1024x512_S1024x512)

/-- What expert `e` adds: its combine weight times `(silu (u Wg) * (u Wu)) Wd`. -/
def contrib (u : FVec Ideal S73728x1024 .f32) (cb : FVec Ideal S73728x16 .f32) (wg wu : FVec Ideal S16x1024x512 .f32)
    (wd : FVec Ideal S16x512x1024 .f32) (e : Fin 16) : FVec Ideal S73728x1024 .f32 :=
  mulf (broadcastInDim S73728x1024 ![0, 1] bcast_S73728x1_S73728x1024_0_1 (extractStridedSlice S73728x1 ![0, e.val] cb (inComb e)))
    (Host.dotGeneral dot_S73728x512_S512x1024_S73728x1024_1_0_0_1_n_n none
      (mulf (mulf (gate u wg e) (Host.divf (broadcastInDim S73728x512 ![] bcast_S_S73728x512 (constant S_ .f32 0x3F800000#32))
        (addf (broadcastInDim S73728x512 ![] bcast_S_S73728x512 (constant S_ .f32 0x3F800000#32)) (Host.exp (Host.negf (gate u wg e))))))
        (gate u wu e))
      (shapeCast _ (extractStridedSlice S1x512x1024 ![e.val, 0, 0] wd (inDown e)) shapeCasts_S1x512x1024_S512x1024))

/-- The gate product at row `r`, column `k`. -/
theorem gate_at (u : FVec Ideal S73728x1024 .f32) (w : FVec Ideal S16x1024x512 .f32) (e : Fin 16) (r : Fin 73728) (k : Fin 512) :
    gate u w e (ix2 r k) = ∑ l : Fin 1024, u (ix2 r l) * w (ix3 e l k) := by
  pointwise [gate]

/-- What expert `e` adds at row `r`, column `d`. -/
theorem contrib_at (u : FVec Ideal S73728x1024 .f32) (cb : FVec Ideal S73728x16 .f32) (wg wu : FVec Ideal S16x1024x512 .f32)
    (wd : FVec Ideal S16x512x1024 .f32) (e : Fin 16) (r : Fin 73728) (d : Fin 1024) :
    contrib u cb wg wu wd e (ix2 r d) = cb (ix2 r e) * ∑ k : Fin 512,
      gate u wg e (ix2 r k) * Ideal.div 1 (1 + Ideal.exp (-gate u wg e (ix2 r k))) * gate u wu e (ix2 r k) * wd (ix3 e k d) := by
  pointwise [contrib]

/-- The sixteen contributions added first to last onto zero. -/
def total (u : FVec Ideal S73728x1024 .f32) (cb : FVec Ideal S73728x16 .f32) (wg wu : FVec Ideal S16x1024x512 .f32)
    (wd : FVec Ideal S16x512x1024 .f32) : FVec Ideal S73728x1024 .f32 :=
  addf (addf (addf (addf (addf (addf (addf (addf (addf (addf (addf (addf (addf (addf (addf (addf
    (broadcastInDim S73728x1024 ![] bcast_S_S73728x1024 (constant S_ .f32 0x00000000#32))
    (contrib u cb wg wu wd 0)) (contrib u cb wg wu wd 1)) (contrib u cb wg wu wd 2)) (contrib u cb wg wu wd 3))
    (contrib u cb wg wu wd 4)) (contrib u cb wg wu wd 5)) (contrib u cb wg wu wd 6)) (contrib u cb wg wu wd 7))
    (contrib u cb wg wu wd 8)) (contrib u cb wg wu wd 9)) (contrib u cb wg wu wd 10)) (contrib u cb wg wu wd 11))
    (contrib u cb wg wu wd 12)) (contrib u cb wg wu wd 13)) (contrib u cb wg wu wd 14)) (contrib u cb wg wu wd 15)

/-- The contributions' total at an index is their sum. -/
theorem total_at (u : FVec Ideal S73728x1024 .f32) (cb : FVec Ideal S73728x16 .f32) (wg wu : FVec Ideal S16x1024x512 .f32)
    (wd : FVec Ideal S16x512x1024 .f32) (r : Fin 73728) (d : Fin 1024) :
    total u cb wg wu wd (ix2 r d) = ∑ e : Fin 16, contrib u cb wg wu wd e (ix2 r d) := by
  pointwise [total]
  simp only [Fin.sum_univ_castSucc, Finset.univ_eq_empty, Finset.sum_empty, zero_add]
  rfl

/-- The reference's result over the total of the contributions. -/
def result (f h : FVec Ideal S73728x1024 .f32) (mods : FVec Ideal S32x2x6x1024 .f32) : FVec Ideal S73728x1024 .f32 :=
  shapeCast _ (concatenate S32x2304x1024 1 [⟨S32x256x1024, (addf (extractStridedSlice S32x256x1024 ![0, 0, 0] (shapeCast _ h shapeCasts_S73728x1024_S32x2304x1024) slices_S32x2304x1024_S32x256x1024_0_0_0) (mulf (broadcastInDim S32x256x1024 ![0, 1, 2] bcast_S32x1x1024_S32x256x1024_0_1_2 (shapeCast _ (extractStridedSlice S32x1x1x1024 ![0, 0, 5, 0] mods slices_S32x2x6x1024_S32x1x1x1024_0_0_5_0) shapeCasts_S32x1x1x1024_S32x1x1024)) (extractStridedSlice S32x256x1024 ![0, 0, 0] (shapeCast _ f shapeCasts_S73728x1024_S32x2304x1024) slices_S32x2304x1024_S32x256x1024_0_0_0)))⟩, ⟨S32x2048x1024, (addf (extractStridedSlice S32x2048x1024 ![0, 256, 0] (shapeCast _ h shapeCasts_S73728x1024_S32x2304x1024) slices_S32x2304x1024_S32x2048x1024_0_256_0) (mulf (broadcastInDim S32x2048x1024 ![0, 1, 2] bcast_S32x1x1024_S32x2048x1024_0_1_2 (shapeCast _ (extractStridedSlice S32x1x1x1024 ![0, 1, 5, 0] mods slices_S32x2x6x1024_S32x1x1x1024_0_1_5_0) shapeCasts_S32x1x1x1024_S32x1x1024)) (extractStridedSlice S32x2048x1024 ![0, 256, 0] (shapeCast _ f shapeCasts_S73728x1024_S32x2304x1024) slices_S32x2304x1024_S32x2048x1024_0_256_0)))⟩] concatenates_S32x256x1024_S32x2048x1024_S32x2304x1024_d1) shapeCasts_S32x2304x1024_S73728x1024

/-- The reference's result at row `r`, column `d`. -/
theorem result_at (f h : FVec Ideal S73728x1024 .f32) (mods : FVec Ideal S32x2x6x1024 .f32) (r : Fin 73728) (d : Fin 1024) :
    result f h mods (ix2 r d) = h (ix2 r d)
      + mods (ix4 (⟨r.val / 2304, by omega⟩ : Fin 32) (⟨min (r.val % 2304 / 256) 1, by omega⟩ : Fin 2) (5 : Fin 6) d) * f (ix2 r d) := by
  pointwise [result]
  by_cases hr : r.val % 2304 < 256
  · rw [dif_pos hr]
    have e : (⟨min (r.val % 2304 / 256) 1, by omega⟩ : Fin 2) = 0 := Fin.ext (by show min (r.val % 2304 / 256) 1 = 0; omega)
    rw [e]
  · rw [dif_neg hr]
    have e : (⟨min (r.val % 2304 / 256) 1, by omega⟩ : Fin 2) = 1 := Fin.ext (by show min (r.val % 2304 / 256) 1 = 1; omega)
    have e' : (⟨r.val / 2304 * 2304 + (256 + (r.val % 2304 - 256)), by omega⟩ : Fin 73728) = r := Fin.ext (by show r.val / 2304 * 2304 + (256 + (r.val % 2304 - 256)) = r.val; omega)
    rw [e, e']

variable (m : (ℓ : Loc nD τ sig) → Buf (Elt Ideal) ℓ)

/-- The reference's run: its result is `result` over `total`, and its arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v260)
        = result (total (extf .f32 (m ((c.tc : Thread nD τ).loc main_arg0)) bitsLt_bf16_f32)
            (transpose S73728x16 [1, 0] (m ((c.tc : Thread nD τ).loc main_arg1)) transposes_S16x73728_S73728x16_1_0)
            (m ((c.tc : Thread nD τ).loc main_arg4)) (m ((c.tc : Thread nD τ).loc main_arg5)) (m ((c.tc : Thread nD τ).loc main_arg6)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2⟩) (Value.run m ρ)

end Cert.ExpertsRefIdeal.Reading

end
-- ==== Proof.ExpertsIndex.lean ====
/-
  The block indices of the experts call's windows: point `t` is expert `t % 16` on the row block `t / 16`.
-/
module

public import proofs.«01_k».proof.Proof.Gen.ExpertsIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ExpertsIdeal.Reading

open Cert.ExpertsIdeal Cert.ExpertsIdeal.Gen

/-- The windows' block indices at a grid point. -/
theorem idx : ∀ t : Fin cfg0.N, win0_0.index t = ![t.val / 16, 0] ∧ win0_1.index t = ![t.val % 16, t.val / 16, 0]
    ∧ win0_2.index t = ![t.val / 16, 0] ∧ win0_3.index t = ![t.val / 16 / 9, min (t.val / 16 % 9) 1, 0, 0]
    ∧ win0_4.index t = ![t.val % 16, 0, 0] ∧ win0_5.index t = ![t.val % 16, 0, 0] ∧ win0_6.index t = ![t.val % 16, 0, 0]
    ∧ win0_7.index t = ![t.val / 16, 0] ∧ t.val < 4608 :=
  (by decide +kernel : ∀ t : Fin grid0.N, _)

end Cert.ExpertsIdeal.Reading

end
-- ==== Proof.ExpertsValue.lean ====
/-
  The experts call read back: what its result array holds after the run is the reference's term. Sixteen grid points
  per block of 256 rows add one expert each into the carried scratch block; the last of them writes the block back.
-/
module

public import proofs.«01_k».proof.Proof.Gen.ExpertsIdeal.Frame
public import proofs.«01_k».proof.Proof.ExpertsRef
public import proofs.«01_k».proof.Proof.ExpertsIndex
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ExpertsIdeal.Reading

open Cert.ExpertsIdeal Cert.ExpertsIdeal.Gen

/-- The block of zeros the first point of a run stores. -/
theorem zero_at (i : Fin 256) (d : Fin 1024) : k0_pay1 (F := Ideal) (ix2 i d) = 0 := by
  pointwise [k0_pay1]

/-- What a point's expert adds, over the point's blocks: the combine weight times the gated product. -/
def expert (u : FVec Ideal S256x1024 .bf16) (wg wu : FVec Ideal S1x1024x512 .bf16)
    (cb : FVec Ideal S1x256x1 .f32) (wd : FVec Ideal S1x512x1024 .bf16) (i : Fin 256) (d : Fin 1024) : EReal :=
  cb (ix3 0 i 0) * ∑ k : Fin 512,
      (∑ l : Fin 1024, u (ix2 i l) * wg (ix3 0 l k)) * Ideal.div 1 (1 + Ideal.exp (-∑ l : Fin 1024, u (ix2 i l) * wg (ix3 0 l k)))
        * (∑ l : Fin 1024, u (ix2 i l) * wu (ix3 0 l k)) * wd (ix3 0 k d)

/-- A point's scratch block: what it held plus the point's expert. -/
theorem step_at (u : FVec Ideal S256x1024 .bf16) (wg wu : FVec Ideal S1x1024x512 .bf16) (acc : FVec Ideal S256x1024 .f32)
    (cb : FVec Ideal S1x256x1 .f32) (wd : FVec Ideal S1x512x1024 .bf16) (i : Fin 256) (d : Fin 1024) :
    k0_pay2 (F := Ideal) u wg wu acc cb wd (ix2 i d) = acc (ix2 i d) + expert u wg wu cb wd i d := by
  pointwise [k0_pay2, expert]
  rfl

/-- The residual plus the modulation row times a total, over the blocks. -/
def residual (h : FVec Ideal S256x1024 .f32) (g : FVec Ideal S1x1x6x1024 .f32) (a : EReal) (i : Fin 256) (d : Fin 1024) : EReal :=
  h (ix2 i d) + g (ix4 0 0 5 d) * a

/-- The block the last point of a run writes back: the residual plus the modulated total. -/
theorem out_at (h : FVec Ideal S256x1024 .f32) (g : FVec Ideal S1x1x1x1024 .f32) (acc : FVec Ideal S256x1024 .f32)
    (i : Fin 256) (d : Fin 1024) :
    k0_pay3 (F := Ideal) h g acc (ix2 i d) = h (ix2 i d) + g (ix4 0 0 0 d) * acc (ix2 i d) := by
  pointwise [k0_pay3]

variable (m : (ℓ : Loc nD τ sig) → Buf (Elt Ideal) ℓ)

/-- The point's expert, at an index of the block: what one point adds. -/
def part (c : Dev nD) (t : Fin cfg0.N) (j : S256x1024.Idx) : EReal :=
  expert (iblk m c 0 t) (iblk m c 4 t) (iblk m c 5 t) (iblk m c 1 t) (iblk m c 6 t) (j 0) (j 1)

/-- The scratch block read back is what was left in it. -/
theorem stored (h : (Memref.whole cc0_scratch0).IsWhole) (x : FVec Ideal S256x1024 .f32) :
    (View.whole cc0_scratch0).read (Elt Ideal) (h.unread (Val := Elt Ideal) x) = x :=
  h.read_unread (Val := Elt Ideal) x

/-- What the scratch block holds after the point that ends a run: the sum of the run's sixteen parts. -/
theorem scratch_eq (c : Dev nD) (t : Fin cfg0.N) (ht : t.val % 16 = 15) (j : S256x1024.Idx) :
    (outsAt0 m c t.val t.isLt).2 j
      = ∑ s : Fin 16, part m c ⟨16 * (t.val / 16) + s.val, Pipeline.run_point_lt_of_flush t ht s⟩ j := by
  have e := Pipeline.eq_sum_fin_of_reset_step_apply_of_flush (M := EReal) (fun n h => (outsAt0 m c n h).2) 16 (fun _ => 0) (part m c)
    (fun t h j => by
      rw [outsAt0_A m c t h (by omega)]
      frame_out
      idx_vars j
      refine (step_at _ _ _ _ _ _ _ _).trans ?_
      rw [zero_at]; rfl)
    (fun t h j => by
      by_cases h15 : t.val % 16 = 15
      · rw [outsAt0_C m c t h h15]
        frame_out
        idx_vars j
        rw [stored]
        exact step_at _ _ _ _ _ _ _ _
      · rw [outsAt0_B m c t h h15]
        frame_out
        idx_vars j
        rw [stored]
        exact step_at _ _ _ _ _ _ _ _) t ht j
  exact e.trans (zero_add _)

/-- The block written back by the point that ends a run, over the scratch block it leaves. -/
theorem out_eq (c : Dev nD) (t : Fin cfg0.N) (ht : t.val % 16 = 15) (i : Fin 256) (d : Fin 1024) :
    (outsAt0 m c t.val t.isLt).1 (ix2 i d)
      = residual (iblk m c 2 t) (iblk m c 3 t) ((outsAt0 m c t.val t.isLt).2 (ix2 i d)) i d := by
  rw [outsAt0_C m c t (by omega) ht]
  frame_out
  refine (out_at _ _ _ _ _).trans ?_
  pointwise [residual]

/-- The result array after the run is the reference's term over the arguments. -/
theorem final (c : Dev nD) : (dats m 0 c).arrAt 7 (cfgs 0).N
    = Cert.ExpertsRefIdeal.Reading.result (Cert.ExpertsRefIdeal.Reading.total
        (extf .f32 (show FVec Ideal S73728x1024 .bf16 from m ((c : Thread nD τ).loc main_arg0)) Cert.ExpertsRefIdeal.Gen.bitsLt_bf16_f32)
        (transpose Cert.ExpertsRefIdeal.S73728x16 [1, 0] (show FVec Ideal S16x73728 .f32 from m ((c : Thread nD τ).loc main_arg1)) Cert.ExpertsRefIdeal.Gen.transposes_S16x73728_S73728x16_1_0)
        (m ((c : Thread nD τ).loc main_arg4)) (m ((c : Thread nD τ).loc main_arg5)) (m ((c : Thread nD τ).loc main_arg6)))
        (m ((c : Thread nD τ).loc main_arg2)) (m ((c : Thread nD τ).loc main_arg3)) := by
  refine (dats m 0 c).arrAt_eq_of_covers 7 _ (by decide +kernel) fun t hf y => ?_
  have ht := (flush0_7 t).mp hf
  blk_simp
  rw [after0_7]
  obtain ⟨i, d, rfl⟩ : ∃ (i : Fin 256) (d : Fin 1024), y = ix2 i d := ⟨y 0, y 1, eq_ix2 y⟩
  rw [out_eq m c t ht i d, scratch_eq m c t ht]
  have hN := (idx t).2.2.2.2.2.2.2.2
  have hr : (win0_7.blk t).view.emb (ix2 i d) = ix2 (⟨t.val / 16 * 256 + i.val, by omega⟩ : Fin 73728) d := by
    blk_ext [idx t]
  rw [hr]
  refine Eq.trans ?_ (Cert.ExpertsRefIdeal.Reading.result_at _ _ _ _ _).symm
  rw [Cert.ExpertsRefIdeal.Reading.total_at]
  unfold residual
  refine Ideal.add_congr ?_ (Ideal.mul_congr ?_ (Fin.sum_fin_congr fun s => ?_))
  · blk_point [iblk, V, idx t]
  · blk_point [iblk, V, idx t]
  · rw [Cert.ExpertsRefIdeal.Reading.contrib_at]
    simp only [Cert.ExpertsRefIdeal.Reading.gate_at]
    unfold part expert
    pointwise
    blk_point [iblk, V, idx ⟨_, Pipeline.run_point_lt_of_flush t ht s⟩]

end Cert.ExpertsIdeal.Reading

end
-- ==== Proof.InProjRef.lean ====
/-
  The reference of the input projection, read at an index: the modulated normalised row times the projection's
  columns, and the two directions' step sizes as a softplus.
-/
module

public import proofs.«01_k».proof.Proof.Gen.InProjRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo

namespace Cert.InProjRefIdeal.Reading

open Cert.InProjRefIdeal Cert.InProjRefIdeal.Gen Cert.InProjRefIdeal.Value

/-- The context rows, normalised and modulated. -/
def ctx (h : FVec Ideal S73728x1024 .f32) (mods : FVec Ideal S32x2x6x1024 .f32) (gain : FVec Ideal S1024 .f32) : FVec Ideal S32x256x1024 .f32 :=
  addf (mulf (mulf (mulf (extractStridedSlice S32x256x1024 ![0, 0, 0] (shapeCast _ h shapeCasts_S73728x1024_S32x2304x1024) slices_S32x2304x1024_S32x256x1024_0_0_0) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (extractStridedSlice S32x256x1024 ![0, 0, 0] (shapeCast _ h shapeCasts_S73728x1024_S32x2304x1024) slices_S32x2304x1024_S32x256x1024_0_0_0) (extractStridedSlice S32x256x1024 ![0, 0, 0] (shapeCast _ h shapeCasts_S73728x1024_S32x2304x1024) slices_S32x2304x1024_S32x256x1024_0_0_0)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 gain))) (broadcastInDim S32x256x1024 ![0, 1, 2] bcast_S32x1x1024_S32x256x1024_0_1_2 (addf (broadcastInDim S32x1x1024 ![] bcast_S_S32x1x1024 (constant S_ .f32 0x3F800000#32)) (shapeCast _ (extractStridedSlice S32x1x1x1024 ![0, 0, 1, 0] mods slices_S32x2x6x1024_S32x1x1x1024_0_0_1_0) shapeCasts_S32x1x1x1024_S32x1x1024)))) (broadcastInDim S32x256x1024 ![0, 1, 2] bcast_S32x1x1024_S32x256x1024_0_1_2 (shapeCast _ (extractStridedSlice S32x1x1x1024 ![0, 0, 0, 0] mods slices_S32x2x6x1024_S32x1x1x1024_0_0_0_0) shapeCasts_S32x1x1x1024_S32x1x1024))

/-- The latent rows, normalised and modulated. -/
def lat (h : FVec Ideal S73728x1024 .f32) (mods : FVec Ideal S32x2x6x1024 .f32) (gain : FVec Ideal S1024 .f32) : FVec Ideal S32x2048x1024 .f32 :=
  addf (mulf (mulf (mulf (extractStridedSlice S32x2048x1024 ![0, 256, 0] (shapeCast _ h shapeCasts_S73728x1024_S32x2304x1024) slices_S32x2304x1024_S32x2048x1024_0_256_0) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (extractStridedSlice S32x2048x1024 ![0, 256, 0] (shapeCast _ h shapeCasts_S73728x1024_S32x2304x1024) slices_S32x2304x1024_S32x2048x1024_0_256_0) (extractStridedSlice S32x2048x1024 ![0, 256, 0] (shapeCast _ h shapeCasts_S73728x1024_S32x2304x1024) slices_S32x2304x1024_S32x2048x1024_0_256_0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 gain))) (broadcastInDim S32x2048x1024 ![0, 1, 2] bcast_S32x1x1024_S32x2048x1024_0_1_2 (addf (broadcastInDim S32x1x1024 ![] bcast_S_S32x1x1024 (constant S_ .f32 0x3F800000#32)) (shapeCast _ (extractStridedSlice S32x1x1x1024 ![0, 1, 1, 0] mods slices_S32x2x6x1024_S32x1x1x1024_0_1_1_0) shapeCasts_S32x1x1x1024_S32x1x1024)))) (broadcastInDim S32x2048x1024 ![0, 1, 2] bcast_S32x1x1024_S32x2048x1024_0_1_2 (shapeCast _ (extractStridedSlice S32x1x1x1024 ![0, 1, 0, 0] mods slices_S32x2x6x1024_S32x1x1x1024_0_1_0_0) shapeCasts_S32x1x1x1024_S32x1x1024))

/-- The projection's input: the context rows and after them the latent rows. -/
def input (h : FVec Ideal S73728x1024 .f32) (mods : FVec Ideal S32x2x6x1024 .f32) (gain : FVec Ideal S1024 .f32) : FVec Ideal S32x2304x1024 .f32 :=
  concatenate S32x2304x1024 1 [⟨S32x256x1024, (ctx h mods gain)⟩, ⟨S32x2048x1024, (lat h mods gain)⟩] concatenates_S32x256x1024_S32x2048x1024_S32x2304x1024_d1

/-- The projection. -/
def proj (u : FVec Ideal S32x2304x1024 .f32) (w : FVec Ideal S1024x10304 .f32) : FVec Ideal S32x2304x10304 .f32 :=
  Host.dotGeneral dot_S32x2304x1024_S1024x10304_S32x2304x10304_2_0_01_1_n_n none u w

/-- The projection's columns but those of the step sizes. -/
def kept (y : FVec Ideal S32x2304x10304 .f32) : FVec Ideal S32x2304x10240 .f32 :=
  concatenate S32x2304x10240 2 [⟨S32x2304x5120, (extractStridedSlice S32x2304x5120 ![0, 0, 0] y slices_S32x2304x10304_S32x2304x5120_0_0_0)⟩, ⟨S32x2304x5120, (extractStridedSlice S32x2304x5120 ![0, 0, 5184] y slices_S32x2304x10304_S32x2304x5120_0_0_5184)⟩] concatenates_S32x2304x5120_S32x2304x5120_S32x2304x10240_d2

/-- Those columns as one array of rows, rounded. -/
def rest (y : FVec Ideal S32x2304x10304 .f32) : FVec Ideal S73728x10240 .bf16 :=
  truncf .bf16 (shapeCast _ (kept y) shapeCasts_S32x2304x10240_S73728x10240) bitsLt_bf16_f32

/-- The step sizes' columns plus their bias. -/
def biased (y : FVec Ideal S32x2304x10304 .f32) (b : FVec Ideal S2x32 .f32) : FVec Ideal S32x2304x2x32 .f32 :=
  addf (shapeCast _ (extractStridedSlice S32x2304x64 ![0, 0, 5120] y slices_S32x2304x10304_S32x2304x64_0_0_5120) shapeCasts_S32x2304x64_S32x2304x2x32) (broadcastInDim S32x2304x2x32 ![0, 1, 2, 3] bcast_S1x1x2x32_S32x2304x2x32_0_1_2_3 (broadcastInDim S1x1x2x32 ![2, 3] bcast_S2x32_S1x1x2x32_2_3 b))

/-- The softplus of an array, as rows of 64. -/
def soft (x : FVec Ideal S32x2304x2x32 .f32) : FVec Ideal S73728x64 .f32 :=
  shapeCast _ (select (cmpf .une (subf x (broadcastInDim S32x2304x2x32 ![] bcast_S_S32x2304x2x32 (constant S_ .f32 0x00000000#32))) (subf x (broadcastInDim S32x2304x2x32 ![] bcast_S_S32x2304x2x32 (constant S_ .f32 0x00000000#32)))) (addf x (broadcastInDim S32x2304x2x32 ![] bcast_S_S32x2304x2x32 (constant S_ .f32 0x00000000#32))) (addf (maximumf x (broadcastInDim S32x2304x2x32 ![] bcast_S_S32x2304x2x32 (constant S_ .f32 0x00000000#32))) (Host.log1p (Host.exp (Host.negf (Host.absf (subf x (broadcastInDim S32x2304x2x32 ![] bcast_S_S32x2304x2x32 (constant S_ .f32 0x00000000#32))))))))) shapeCasts_S32x2304x2x32_S73728x64

/-- The first result's term. -/
theorem res0 (m : (ℓ : Loc nD τ sig) → Buf (Elt Ideal) ℓ) (c : Dev nD) : res_main_v61 (F := Ideal) m c
    = rest (proj (input (m ((c.tc : Thread nD τ).loc main_arg0)) (m ((c.tc : Thread nD τ).loc main_arg1)) (m ((c.tc : Thread nD τ).loc main_arg2))) (m ((c.tc : Thread nD τ).loc main_arg3))) := rfl

/-- The second result's term. -/
theorem res1 (m : (ℓ : Loc nD τ sig) → Buf (Elt Ideal) ℓ) (c : Dev nD) : res_main_v62 (F := Ideal) m c
    = soft (biased (proj (input (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4))) := rfl

/-- A row `x` normalised, scaled by the gain `g` and by one plus `s`, shifted by `t`, at column `d`. -/
def entry (x : Fin 1024 → EReal) (g s t : EReal) (d : Fin 1024) : EReal :=
  x d * Ideal.rsqrt (Ideal.div (∑ k : Fin 1024, x k * x k) (Ideal.ofBits .f32 0x44800000#32) + Ideal.ofBits .f32 0x358637BD#32) * g * (1 + s) + t

/-- A context row's entry. -/
theorem ctx_at (h : FVec Ideal S73728x1024 .f32) (mods : FVec Ideal S32x2x6x1024 .f32) (gain : FVec Ideal S1024 .f32)
    (b : Fin 32) (s : Fin 256) (d : Fin 1024) : ctx h mods gain (ix3 b s d)
      = entry (fun k => h (ix2 (⟨b.val * 2304 + s.val, by omega⟩ : Fin 73728) k)) (gain (ix1 d)) (mods (ix4 b 0 1 d)) (mods (ix4 b 0 0 d)) d := by
  pointwise [ctx, entry]

/-- A latent row's entry. -/
theorem lat_at (h : FVec Ideal S73728x1024 .f32) (mods : FVec Ideal S32x2x6x1024 .f32) (gain : FVec Ideal S1024 .f32)
    (b : Fin 32) (s : Fin 2048) (d : Fin 1024) : lat h mods gain (ix3 b s d)
      = entry (fun k => h (ix2 (⟨b.val * 2304 + (256 + s.val), by omega⟩ : Fin 73728) k)) (gain (ix1 d)) (mods (ix4 b 1 1 d)) (mods (ix4 b 1 0 d)) d := by
  pointwise [lat, entry]

/-- The projection's entry. -/
theorem proj_at (u : FVec Ideal S32x2304x1024 .f32) (w : FVec Ideal S1024x10304 .f32) (b : Fin 32) (s : Fin 2304) (q : Fin 10304) :
    proj u w (ix3 b s q) = ∑ k : Fin 1024, u (ix3 b s k) * w (ix2 k q) := by
  pointwise [proj]

/-- The bias is added to the columns from 5120 on. -/
theorem biased_at (y : FVec Ideal S32x2304x10304 .f32) (b : FVec Ideal S2x32 .f32) (i : Fin 32) (s : Fin 2304) (j : Fin 2) (n : Fin 32) :
    biased y b (ix4 i s j n) = y (ix3 i s (⟨5120 + (j.val * 32 + n.val), by omega⟩ : Fin 10304)) + b (ix2 j n) := by
  pointwise [biased]

/-- A row of the projection's input: its modulation is the context's on a sample's first 256 rows, the latents' after them. -/
theorem input_at (h : FVec Ideal S73728x1024 .f32) (mods : FVec Ideal S32x2x6x1024 .f32) (gain : FVec Ideal S1024 .f32)
    (b : Fin 32) (s : Fin 2304) (d : Fin 1024) : input h mods gain (ix3 b s d)
      = entry (fun k => h (ix2 (⟨b.val * 2304 + s.val, by omega⟩ : Fin 73728) k)) (gain (ix1 d))
          (mods (ix4 b (⟨min (s.val / 256) 1, by omega⟩ : Fin 2) 1 d)) (mods (ix4 b (⟨min (s.val / 256) 1, by omega⟩ : Fin 2) 0 d)) d := by
  by_cases hs : s.val < 256
  · have e : (⟨min (s.val / 256) 1, by omega⟩ : Fin 2) = 0 := Fin.ext (by show min (s.val / 256) 1 = 0; omega)
    rw [e]
    refine Eq.trans ?_ (ctx_at h mods gain b ⟨s.val, hs⟩ d)
    pointwise [input]
    rw [dif_pos hs]
  · have e : (⟨min (s.val / 256) 1, by omega⟩ : Fin 2) = 1 := Fin.ext (by show min (s.val / 256) 1 = 1; omega)
    rw [e]
    have e' : (⟨b.val * 2304 + s.val, by omega⟩ : Fin 73728) = ⟨b.val * 2304 + (256 + (s.val - 256)), by omega⟩ := Fin.ext (by show b.val * 2304 + s.val = b.val * 2304 + (256 + (s.val - 256)); omega)
    rw [e']
    refine Eq.trans ?_ (lat_at h mods gain b ⟨s.val - 256, by omega⟩ d)
    pointwise [input]
    rw [dif_neg hs]

/-- Joining the samples' rows, whatever the width. -/
theorem join_samples {α : Type} {W : Nat} (x : (⟨3, ![32, 2304, W]⟩ : Shape).Idx → α)
    (h : (⟨3, ![32, 2304, W]⟩ : Shape).ShapeCasts ⟨2, ![73728, W]⟩) (b : Fin 32) (s : Fin 2304) (r : Fin 73728) (q : Fin W)
    (hr : r.val = 2304 * b.val + s.val) : shapeCast ⟨2, ![73728, W]⟩ x h (ix2 r q) = x (ix3 b s q) := by
  refine shapeCast_apply _ _ _ _ ?_
  rw [rowMajor_val3 _ (2304 * W) W rfl rfl, rowMajor_val2 _ W rfl]
  show b.val * (2304 * W) + s.val * W + q.val = r.val * W + q.val
  rw [hr]
  ring

/-- Joining the samples' rows and the last two axes, whatever their sizes. -/
theorem join_pairs {α : Type} {J W Q : Nat} (hQ : Q = J * W) (x : (⟨4, ![32, 2304, J, W]⟩ : Shape).Idx → α)
    (h : (⟨4, ![32, 2304, J, W]⟩ : Shape).ShapeCasts ⟨2, ![73728, Q]⟩) (b : Fin 32) (s : Fin 2304) (j : Fin J) (n : Fin W)
    (r : Fin 73728) (q : Fin Q) (hr : r.val = 2304 * b.val + s.val) (hq : q.val = j.val * W + n.val) :
    shapeCast ⟨2, ![73728, Q]⟩ x h (ix2 r q) = x (ix4 b s j n) := by
  refine shapeCast_apply _ _ _ _ ?_
  rw [rowMajor_val4 _ (2304 * (J * W)) (J * W) W rfl rfl rfl, rowMajor_val2 _ Q rfl]
  show b.val * (2304 * (J * W)) + s.val * (J * W) + j.val * W + n.val = r.val * Q + q.val
  rw [hr, hq, hQ]
  ring

/-- The projection's column that result column `q` holds: the step sizes' 64 columns are passed over. -/
def column (q : Fin 10240) : Fin 10304 := ⟨if q.val < 5120 then q.val else q.val + 64, by split <;> omega⟩

/-- The first result's entry. -/
theorem rest_at (y : FVec Ideal S32x2304x10304 .f32) (b : Fin 32) (s : Fin 2304) (r : Fin 73728) (q : Fin 10240)
    (hr : r.val = 2304 * b.val + s.val) : rest y (ix2 r q) = y (ix3 b s (column q)) := by
  refine Eq.trans (join_samples (kept y) shapeCasts_S32x2304x10240_S73728x10240 b s r q hr) ?_
  by_cases hq : q.val < 5120
  · have e : column q = ⟨q.val, by omega⟩ := Fin.ext (if_pos hq)
    rw [e]
    pointwise [kept]
    rw [dif_pos hq]
  · have e : column q = ⟨q.val + 64, by omega⟩ := Fin.ext (if_neg hq)
    rw [e]
    pointwise [kept]
    rw [dif_neg hq]
    exact congrArg (fun z => y (ix3 b s z)) (Fin.ext (by show 5184 + (q.val - 5120) = q.val + 64; omega))

/-- The softplus of a number. -/
def softplus (x : EReal) : EReal := max x 0 + Ideal.log (1 + Ideal.exp (-max x (-x)))

/-- The second result's entry. -/
theorem soft_at (x : FVec Ideal S32x2304x2x32 .f32) (b : Fin 32) (s : Fin 2304) (j : Fin 2) (n : Fin 32) (r : Fin 73728) (q : Fin 64)
    (hr : r.val = 2304 * b.val + s.val) (hq : q.val = j.val * 32 + n.val) : soft x (ix2 r q) = softplus (x (ix4 b s j n)) := by
  refine (join_pairs rfl _ _ b s j n r q hr hq).trans ?_
  pointwise [softplus]
  rw [if_neg (fun h => h rfl)]
  rfl

/-- The reference's run: its two results over the projection, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = rest (proj (input (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v62) = soft (biased (proj (input (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res0 m c), (h c).2.1.trans (res1 m c), (h c).2.2⟩) (Value.run m ρ)

end Cert.InProjRefIdeal.Reading

end
-- ==== Proof.InProjBlock.lean ====
/-
  The input projection's kernel, one grid point: what the body leaves in its two result blocks, at an index, over the
  blocks it reads.
-/
module

public import proofs.«01_k».proof.Proof.Gen.InProjIdeal.Frame
public import proofs.«01_k».proof.Proof.InProjRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Reading

open Cert.InProjIdeal Cert.InProjIdeal.Gen
open Cert.InProjRefIdeal.Reading (entry softplus)

/-- The modulated normalised row. -/
theorem row_at (h : FVec Ideal S256x1024 .f32) (g : FVec Ideal S1x1024 .f32) (t s : FVec Ideal S1x1x1x1024 .f32)
    (i : Fin 256) (d : Fin 1024) : k0_pay4 (F := Ideal) h g t s (ix2 i d)
      = entry (fun k => h (ix2 i k)) (g (ix2 0 d)) (s (ix4 0 0 0 d)) (t (ix4 0 0 0 d)) d := by
  pointwise [k0_pay4, entry]

/-- A product of the block of rows with a slab of 512 columns. -/
theorem slab_at (u : FVec Ideal S256x1024 .bf16) (w : FVec Ideal S1024x512 .bf16) (i : Fin 256) (j : Fin 512) :
    k0_pay2 (F := Ideal) u w (ix2 i j) = ∑ k : Fin 1024, u (ix2 i k) * w (ix2 k j) := by
  pointwise [k0_pay2]

/-- The step sizes' block. -/
theorem step_at (u : FVec Ideal S256x1024 .bf16) (w : FVec Ideal S1024x128 .bf16) (b : FVec Ideal S1x128 .f32) (i : Fin 256) (j : Fin 128) :
    k0_pay3 (F := Ideal) u w b (ix2 i j) = softplus ((∑ k : Fin 1024, u (ix2 i k) * w (ix2 k j)) + b (ix2 0 j)) := by
  pointwise [k0_pay3, softplus]
  exact congrArg (fun z => max _ _ + Ideal.log (1 + Ideal.exp z)) ((sub_eq_add_neg _ _).trans (zero_add _))

/-- The whole block of products. -/
def wide (u : FVec Ideal S256x1024 .bf16) (w : FVec Ideal S1024x10240 .bf16) : FVec Ideal S256x10240 .bf16 :=
  fun y => ∑ k : Fin 1024, u (ix2 (y 0) k) * w (ix2 k (y 1))

/-- A store of 512 columns is the block of products at those columns. -/
theorem piece (o : Nat) (hw : ∀ a, ![0, o] a + S1024x512.size a ≤ S1024x10240.size a)
    (hp : ∀ a, ![0, o] a + S256x512.size a ≤ S256x10240.size a) (u : FVec Ideal S256x1024 .bf16) (w : FVec Ideal S1024x10240 .bf16)
    (x : S256x512.Idx) :
    k0_pay2 (F := Ideal) u (View.ld w (Rect.unit (s := S1024x10240) ![0, o] S1024x512.size hw)) x
      = wide u w ((Rect.unit (s := S256x10240) ![0, o] S256x512.size hp).emb x) := by
  obtain ⟨i, j, rfl⟩ : ∃ (i : Fin 256) (j : Fin 512), x = ix2 i j := ⟨x 0, x 1, eq_ix2 x⟩
  refine (slab_at _ _ _ _).trans ?_
  unfold wide
  refine Finset.sum_congr rfl fun k _ => ?_
  refine congrArg₂ (· * ·) (congrArg u ?_) (congrArg w ?_)
  · funext a
    refine Fin.ext ?_
    fin_cases a
    · show i.val = 0 + 1 * i.val
      omega
    · rfl
  · funext a
    refine Fin.ext ?_
    fin_cases a
    · show 0 + 1 * k.val = k.val
      omega
    · rfl

/-- The wide result's block. -/
theorem out6 (x0 : FVec Ideal S256x1024 .f32) (x1 : FVec Ideal S1x1x6x1024 .f32) (x2 : FVec Ideal S1x1024 .f32) (x3 : FVec Ideal S1024x10240 .bf16)
    (x4 : FVec Ideal S1024x128 .bf16) (x5 : FVec Ideal S1x128 .f32) (y : S256x10240.Idx) :
    out0_6 (F := Ideal) x0 x1 x2 x3 x4 x5 y = wide (k0_pay25 (F := Ideal) x0 x1 x2 x3 x4 x5) x3 y := by
  unfold out0_6
  refine (congrFun (congrArg View.canon (List.append_nil _).symm) y).trans
    (View.canon_append_of_piecesOf (Val := Elt Ideal) (wide (k0_pay25 (F := Ideal) x0 x1 x2 x3 x4 x5) x3) [] _ ?_ y
      (cover0_6 (F := Ideal) _ _ _ _ _ _ _ _ _ _ _ _ _ _ _ _ _ _ _ _ y))
  exact ⟨piece 9728 inb_S1024x10240_S1024x512_0_9728 inb_S256x10240_S256x512_0_9728 _ _,
    piece 9216 inb_S1024x10240_S1024x512_0_9216 inb_S256x10240_S256x512_0_9216 _ _,
    piece 8704 inb_S1024x10240_S1024x512_0_8704 inb_S256x10240_S256x512_0_8704 _ _,
    piece 8192 inb_S1024x10240_S1024x512_0_8192 inb_S256x10240_S256x512_0_8192 _ _,
    piece 7680 inb_S1024x10240_S1024x512_0_7680 inb_S256x10240_S256x512_0_7680 _ _,
    piece 7168 inb_S1024x10240_S1024x512_0_7168 inb_S256x10240_S256x512_0_7168 _ _,
    piece 6656 inb_S1024x10240_S1024x512_0_6656 inb_S256x10240_S256x512_0_6656 _ _,
    piece 6144 inb_S1024x10240_S1024x512_0_6144 inb_S256x10240_S256x512_0_6144 _ _,
    piece 5632 inb_S1024x10240_S1024x512_0_5632 inb_S256x10240_S256x512_0_5632 _ _,
    piece 5120 inb_S1024x10240_S1024x512_0_5120 inb_S256x10240_S256x512_0_5120 _ _,
    piece 4608 inb_S1024x10240_S1024x512_0_4608 inb_S256x10240_S256x512_0_4608 _ _,
    piece 4096 inb_S1024x10240_S1024x512_0_4096 inb_S256x10240_S256x512_0_4096 _ _,
    piece 3584 inb_S1024x10240_S1024x512_0_3584 inb_S256x10240_S256x512_0_3584 _ _,
    piece 3072 inb_S1024x10240_S1024x512_0_3072 inb_S256x10240_S256x512_0_3072 _ _,
    piece 2560 inb_S1024x10240_S1024x512_0_2560 inb_S256x10240_S256x512_0_2560 _ _,
    piece 2048 inb_S1024x10240_S1024x512_0_2048 inb_S256x10240_S256x512_0_2048 _ _,
    piece 1536 inb_S1024x10240_S1024x512_0_1536 inb_S256x10240_S256x512_0_1536 _ _,
    piece 1024 inb_S1024x10240_S1024x512_0_1024 inb_S256x10240_S256x512_0_1024 _ _,
    piece 512 inb_S1024x10240_S1024x512_0_512 inb_S256x10240_S256x512_0_512 _ _,
    piece 0 inb_S1024x10240_S1024x512_0_0 inb_S256x10240_S256x512_0_0 _ _, trivial⟩

end Cert.InProjIdeal.Reading

end
-- ==== Proof.InProjHost.lean ====
/-
  What the input projection's host lines hand the kernel: the weight's columns without the step sizes', the step sizes'
  columns, their bias and the gain as rows.
-/
module

public import proofs.«01_k».proof.Proof.Gen.InProjIdeal.Frame
public import proofs.«01_k».proof.Proof.InProjRef
public import Idealize.ShloMosaic.Lib.Pipeline.ValueKit
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Reading

open Cert.InProjIdeal Cert.InProjIdeal.Gen
open Cert.InProjRefIdeal.Reading (column)

variable (m : (ℓ : Loc nD τ sig) → Buf (Elt Ideal) ℓ)

/-- The wide weight is the projection's weight at the kept columns. -/
theorem wide_weight (c : Dev nD) (k : Fin 1024) (q : Fin 10240) :
    (V m c main_v3 : FVec Ideal S1024x10240 .bf16) (ix2 k q)
      = (m ((c : Thread nD τ).loc main_arg3) : FVec Ideal S1024x10304 .f32) (ix2 k (column q)) := by
  unfold V
  after_reads_at
  by_cases hq : q.val < 5120
  · have e : column q = ⟨q.val, by omega⟩ := Fin.ext (if_pos hq)
    rw [e]
    repeat (first | rw [dif_pos (by omega)] | rw [dif_neg (by omega)])
    try after_reads_at
  · have e : column q = ⟨q.val + 64, by omega⟩ := Fin.ext (if_neg hq)
    rw [e]
    repeat (first | rw [dif_pos (by omega)] | rw [dif_neg (by omega)])
    try after_reads_at
    refine congrArg (m (c, Proc.tc.devRef main_arg3)) (congrArg (ix2 k) (Fin.ext ?_))
    show 5184 + (q.val - 5120) = q.val + 64
    omega

/-- The step sizes' weight, on its first 64 columns. -/
theorem step_weight (c : Dev nD) (k : Fin 1024) (q : Fin 128) (hq : q.val < 64) :
    (V m c main_v6 : FVec Ideal S1024x128 .bf16) (ix2 k q)
      = (m ((c : Thread nD τ).loc main_arg3) : FVec Ideal S1024x10304 .f32) (ix2 k (⟨5120 + q.val, by omega⟩ : Fin 10304)) := by
  unfold V
  after_reads_at
  repeat (first | rw [dif_pos (by omega)] | rw [dif_neg (by omega)])
  try after_reads_at

/-- The step sizes' bias, on its first 64 columns. -/
theorem step_bias (c : Dev nD) (q : Fin 128) (hq : q.val < 64) (j : Fin 2) (n : Fin 32) (hn : q.val = j.val * 32 + n.val) :
    (V m c main_v8 : FVec Ideal S1x128 .f32) (ix2 0 q)
      = (m ((c : Thread nD τ).loc main_arg4) : FVec Ideal S2x32 .f32) (ix2 j n) := by
  unfold V
  after_reads_at
  repeat (first | rw [dif_pos (by omega)] | rw [dif_neg (by omega)])
  try after_reads_at
  refine congrArg (m (c, Proc.tc.devRef main_arg4)) (congrArg₂ ix2 (Fin.ext ?_) (Fin.ext ?_))
  · show q.val / 32 = j.val
    omega
  · show q.val % 32 = n.val
    omega

/-- The gain as a row. -/
theorem gain_row (c : Dev nD) (d : Fin 1024) :
    (V m c main_v9 : FVec Ideal S1x1024 .f32) (ix2 0 d) = (m ((c : Thread nD τ).loc main_arg2) : FVec Ideal S1024 .f32) (ix1 d) := by
  unfold V
  after_reads_at

end Cert.InProjIdeal.Reading

end
-- ==== Proof.InProjValue.lean ====
/-
  The input projection read back: its two result arrays after the run are the reference's terms over the arguments.
-/
module

public import proofs.«01_k».proof.Proof.InProjBlock
public import proofs.«01_k».proof.Proof.InProjHost

@[expose] public section

set_option maxRecDepth 16384

noncomputable section

open Idealize.ShloMosaic Idealize.ShloMosaic.TcCoe Idealize.SL.Sem
open Idealize.ShloMosaic.Pipeline (Dat)

namespace Cert.InProjIdeal.Reading

open Cert.InProjIdeal Cert.InProjIdeal.Gen
open Cert.InProjRefIdeal.Reading (entry softplus column)

/-- The windows' block indices at a grid point. -/
theorem idx : ∀ t : Fin cfg0.N, win0_0.index t = ![t.val, 0] ∧ win0_1.index t = ![t.val / 9, min (t.val % 9) 1, 0, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0] ∧ t.val < 288 :=
  (by decide +kernel : ∀ t : Fin grid0.N, _)

variable (m : (ℓ : Loc nD τ sig) → Buf (Elt Ideal) ℓ)

/-- The reference's modulated rows over the kernel's arguments. -/
abbrev input (c : Dev nD) : FVec Ideal Cert.InProjRefIdeal.S32x2304x1024 .f32 :=
  Cert.InProjRefIdeal.Reading.input (m ((c : Thread nD τ).loc main_arg0)) (m ((c : Thread nD τ).loc main_arg1)) (m ((c : Thread nD τ).loc main_arg2))

/-- The gain's block is the gain's row. -/
theorem gain_block (c : Dev nD) (t : Fin cfg0.N) (d : Fin 1024) :
    (View.ld (iblk m c 2 t) r0_1 : FVec Ideal S1x1024 .f32) (ix2 0 d) = (V m c main_v9 : FVec Ideal S1x1024 .f32) (ix2 0 d) := by
  have he : (win0_2.blk t).view.emb (r0_1.emb (ix2 (0 : Fin 1) d)) = ix2 (0 : Fin 1) d := by
    blk_ext [idx t]
  exact congrArg (V m c main_v9 : FVec Ideal S1x1024 .f32) he

/-- A grid point's block of rows is the reference's rows. -/
theorem rows (c : Dev nD) (t : Fin cfg0.N) (i : Fin 256) (d : Fin 1024) (b : Fin 32) (s : Fin 2304) (hb : b.val = t.val / 9)
    (hs : s.val = t.val % 9 * 256 + i.val) :
    k0_pay25 (F := Ideal) (iblk m c 0 t) (iblk m c 1 t) (iblk m c 2 t) (iblk m c 3 t) (iblk m c 4 t) (iblk m c 5 t) (ix2 i d)
      = input m c (ix3 b s d) := by
  have hN := (idx t).2.2.2.2.2.2.2.2
  unfold k0_pay25
  refine (row_at _ _ _ _ _ _).trans (Eq.trans ?_ (Cert.InProjRefIdeal.Reading.input_at _ _ _ b s d).symm)
  have e : (⟨b.val * 2304 + s.val, by omega⟩ : Fin 73728) = ⟨t.val * 256 + i.val, by omega⟩ :=
    Fin.ext (by show b.val * 2304 + s.val = t.val * 256 + i.val; omega)
  have eb : b = ⟨t.val / 9, by omega⟩ := Fin.ext hb
  have es : (⟨min (s.val / 256) 1, by omega⟩ : Fin 2) = ⟨min (t.val % 9) 1, by omega⟩ :=
    Fin.ext (by show min (s.val / 256) 1 = min (t.val % 9) 1; omega)
  rw [e, eb, es]
  have h0 : (fun k : Fin 1024 => (View.ld (iblk m c 0 t) r0_0 : FVec Ideal S256x1024 .f32) (ix2 i k))
      = fun k => (m ((c : Thread nD τ).loc main_arg0) : FVec Ideal S73728x1024 .f32) (ix2 (⟨t.val * 256 + i.val, by omega⟩ : Fin 73728) k) :=
    funext fun k => by blk_point [iblk, V, idx t]
  have h2 : (View.ld (iblk m c 2 t) r0_1 : FVec Ideal S1x1024 .f32) (ix2 0 d) = (m ((c : Thread nD τ).loc main_arg2) : FVec Ideal S1024 .f32) (ix1 d) :=
    Eq.trans (gain_block m c t d) (gain_row m c d)
  have h3 : (View.ld (iblk m c 1 t) r0_3 : FVec Ideal S1x1x1x1024 .f32) (ix4 0 0 0 d)
      = (m ((c : Thread nD τ).loc main_arg1) : FVec Ideal S32x2x6x1024 .f32) (ix4 (⟨t.val / 9, by omega⟩ : Fin 32) (⟨min (t.val % 9) 1, by omega⟩ : Fin 2) 1 d) := by
    blk_point [iblk, V, idx t]
  have h4 : (View.ld (iblk m c 1 t) r0_2 : FVec Ideal S1x1x1x1024 .f32) (ix4 0 0 0 d)
      = (m ((c : Thread nD τ).loc main_arg1) : FVec Ideal S32x2x6x1024 .f32) (ix4 (⟨t.val / 9, by omega⟩ : Fin 32) (⟨min (t.val % 9) 1, by omega⟩ : Fin 2) 0 d) := by
    blk_point [iblk, V, idx t]
  exact congr (congr (congr (congr (congrArg entry h0) h2) h3) h4) rfl

/-- The wide result after the run. -/
theorem final6 (c : Dev nD) : (dats m 0 c).arrAt 6 (cfgs 0).N
    = Cert.InProjRefIdeal.Reading.rest (Cert.InProjRefIdeal.Reading.proj (input m c) (m ((c : Thread nD τ).loc main_arg3))) := by
  refine (dats m 0 c).arrAt_eq_of_covers 6 _ (by decide +kernel) fun t hf y => ?_
  blk_simp
  rw [after0_6]
  obtain ⟨i, q, rfl⟩ : ∃ (i : Fin 256) (q : Fin 10240), y = ix2 i q := ⟨y 0, y 1, eq_ix2 y⟩
  have hN := (idx t).2.2.2.2.2.2.2.2
  have hr : (win0_6.blk t).view.emb (ix2 i q) = ix2 (⟨t.val * 256 + i.val, by omega⟩ : Fin 73728) q := by
    blk_ext [idx t]
  rw [hr]
  refine (out6 _ _ _ _ _ _ _).trans ?_
  refine Eq.trans ?_ (Cert.InProjRefIdeal.Reading.rest_at _ (⟨t.val / 9, by omega⟩ : Fin 32) (⟨t.val % 9 * 256 + i.val, by omega⟩ : Fin 2304) _ q
    (by show t.val * 256 + i.val = 2304 * (t.val / 9) + (t.val % 9 * 256 + i.val); omega)).symm
  refine Eq.trans ?_ (Cert.InProjRefIdeal.Reading.proj_at _ _ _ _ _).symm
  unfold wide
  refine Finset.sum_congr rfl fun k _ => Ideal.mul_congr (rows m c t i k _ _ rfl rfl) (Eq.trans ?_ (wide_weight m c k q))
  blk_point [iblk, idx t]

/-- The step sizes' array, all 128 columns of it, over what the host lines hand the kernel. -/
def steps (c : Dev nD) : FVec Ideal S73728x128 .f32 := fun y =>
  softplus ((∑ k : Fin 1024, input m c (ix3 (⟨(y 0).val / 2304, by have h : (y 0).val < 73728 := (y 0).isLt; omega⟩ : Fin 32) (⟨(y 0).val % 2304, by omega⟩ : Fin 2304) k)
      * (V m c main_v6 : FVec Ideal S1024x128 .bf16) (ix2 k (y 1))) + (V m c main_v8 : FVec Ideal S1x128 .f32) (ix2 0 (y 1)))

/-- The step sizes' array after the run. -/
theorem final7 (c : Dev nD) : (dats m 0 c).arrAt 7 (cfgs 0).N = steps m c := by
  refine (dats m 0 c).arrAt_eq_of_covers 7 _ (by decide +kernel) fun t hf y => ?_
  blk_simp
  rw [after0_7]
  obtain ⟨i, q, rfl⟩ : ∃ (i : Fin 256) (q : Fin 128), y = ix2 i q := ⟨y 0, y 1, eq_ix2 y⟩
  have hN := (idx t).2.2.2.2.2.2.2.2
  have hr : (win0_7.blk t).view.emb (ix2 i q) = ix2 (⟨t.val * 256 + i.val, by omega⟩ : Fin 73728) q := by
    blk_ext [idx t]
  rw [hr]
  unfold out0_7
  frame_out
  refine (step_at _ _ _ _ _).trans ?_
  unfold steps
  refine congrArg softplus (Ideal.add_congr (Finset.sum_congr rfl fun k _ => Ideal.mul_congr ?_ ?_) ?_)
  · exact rows m c t i k _ _ (by show (t.val * 256 + i.val) / 2304 = t.val / 9; omega) (by show (t.val * 256 + i.val) % 2304 = t.val % 9 * 256 + i.val; omega)
  · blk_point [iblk, idx t]
  · blk_point [iblk, idx t]

/-- The step sizes' first 64 columns are the reference's second result. -/
theorem steps_eq (c : Dev nD) : extractStridedSlice S73728x64 ![0, 0] (steps m c) slices_S73728x128_S73728x64_0_0
    = Cert.InProjRefIdeal.Reading.soft (Cert.InProjRefIdeal.Reading.biased
        (Cert.InProjRefIdeal.Reading.proj (input m c) (m ((c : Thread nD τ).loc main_arg3))) (m ((c : Thread nD τ).loc main_arg4))) := by
  funext y
  obtain ⟨r, q, rfl⟩ : ∃ (r : Fin 73728) (q : Fin 64), y = ix2 r q := ⟨y 0, y 1, eq_ix2 y⟩
  refine Eq.trans ?_ (Cert.InProjRefIdeal.Reading.soft_at _ (⟨r.val / 2304, by omega⟩ : Fin 32) (⟨r.val % 2304, by omega⟩ : Fin 2304)
    (⟨q.val / 32, by omega⟩ : Fin 2) (⟨q.val % 32, by omega⟩ : Fin 32) r q
    (by show r.val = 2304 * (r.val / 2304) + r.val % 2304; omega) (by show q.val = q.val / 32 * 32 + q.val % 32; omega)).symm
  rw [Cert.InProjRefIdeal.Reading.biased_at, Cert.InProjRefIdeal.Reading.proj_at]
  have hs : extractStridedSlice S73728x64 ![0, 0] (steps m c) slices_S73728x128_S73728x64_0_0 (ix2 r q)
      = steps m c (ix2 r (⟨q.val, by omega⟩ : Fin 128)) := by pointwise
  refine hs.trans ?_
  unfold steps
  refine congrArg softplus (Ideal.add_congr (Finset.sum_congr rfl fun k _ => Ideal.mul_congr rfl ?_) ?_)
  · refine (step_weight m c k ⟨q.val, by omega⟩ q.isLt).trans (congrArg _ (congrArg (ix2 k) (Fin.ext ?_)))
    show 5120 + q.val = 5120 + (q.val / 32 * 32 + q.val % 32)
    omega
  · exact step_bias m c ⟨q.val, by omega⟩ q.isLt _ _ (by show q.val = q.val / 32 * 32 + q.val % 32; omega)

/-- The host line after the call takes the first 64 columns. -/
theorem tail_eq (c : Dev nD) : Pipeline.afterTail₀ cfgs (dats m) 0 (V0 m) [hostOps1] c main_v11
    = extractStridedSlice S73728x64 ![0, 0] ((dats m 0 c).arrAt 7 (cfgs 0).N : FVec Ideal S73728x128 .f32) slices_S73728x128_S73728x64_0_0 := by
  have e : Pipeline.withArrays spec0 c (V0 m c) (fun w => (dats m 0 c).arrAt w (cfgs 0).N) (Proc.devRef .tc main_v10_1)
      = (dats m 0 c).arrAt 7 (cfgs 0).N := Pipeline.withArrays_arr spec0 launch0.win.arr_inj c (V0 m c) _ 7
  unfold Pipeline.afterTail₀
  refine Eq.trans ?_ (congrArg (fun x : FVec Ideal S73728x128 .f32 => extractStridedSlice S73728x64 ![0, 0] x slices_S73728x128_S73728x64_0_0) e)
  simp only [hostOps1, List.flatten_cons, List.flatten_nil, List.append_nil]
  after_results_simp

/-- What the host line after the call leaves is the reference's second result. -/
theorem second (c : Dev nD) : Pipeline.afterTail₀ cfgs (dats m) 0 (V0 m) [hostOps1] c main_v11
    = Cert.InProjRefIdeal.Reading.soft (Cert.InProjRefIdeal.Reading.biased
        (Cert.InProjRefIdeal.Reading.proj (input m c) (m ((c : Thread nD τ).loc main_arg3))) (m ((c : Thread nD τ).loc main_arg4))) := by
  refine (tail_eq m c).trans ?_
  rw [final7]
  exact steps_eq m c

/-- The program's two results. -/
theorem result (ρ : Dev nD → PrngReg) : θ_run (defs (F := Ideal)) (onTc (τ := τ) (main (F := Ideal))) ⟨m, fun _ => 0, ρ⟩ (fun r => ∀ c : Dev nD,
      r.2.mem ((c.tc : Thread nD τ).loc main_v10_0) = Cert.InProjRefIdeal.Reading.rest (Cert.InProjRefIdeal.Reading.proj (input m c) (m ((c : Thread nD τ).loc main_arg3)))
      ∧ r.2.mem ((c.tc : Thread nD τ).loc main_v11) = Cert.InProjRefIdeal.Reading.soft (Cert.InProjRefIdeal.Reading.biased
          (Cert.InProjRefIdeal.Reading.proj (input m c) (m ((c : Thread nD τ).loc main_arg3))) (m ((c : Thread nD τ).loc main_arg4)))) := by
  refine (θ_run defs _ _).mono (fun r h c => ⟨?_, ?_⟩) (run_main m ρ)
  · exact ((h c).1 6).trans (final6 m c)
  · exact ((h c).2 main_v11 (Pipeline.mem_restRefs_of main_v11 (by decide) (by decide))).trans (second m c)

/-- The program runs to its end with the reference's results of its arguments, which it leaves as they were. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v10_0) = Cert.InProjRefIdeal.Reading.rest (Cert.InProjRefIdeal.Reading.proj (input m c) (m ((c : Thread nD τ).loc main_arg3)))
      ∧ r.2.mem ((c.tc : Thread nD τ).loc main_v11) = Cert.InProjRefIdeal.Reading.soft (Cert.InProjRefIdeal.Reading.biased
          (Cert.InProjRefIdeal.Reading.proj (input m c) (m ((c : Thread nD τ).loc main_arg3))) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1, (h.1 c).2, h.2 c⟩) (θ_run_and (result m ρ) (unchanged m ρ))

end Cert.InProjIdeal.Reading

end
-- ==== Proof.MixOutRef.lean ====
/-
  The reference of the mixer's output in stages: each stage's array named, and read at an index.
-/
module

public import proofs.«01_k».proof.Proof.Gen.MixOutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixOutRefIdeal.Reading

open Cert.MixOutRefIdeal Cert.MixOutRefIdeal.Gen

/-- The projections in single precision. -/
def wide (p : FVec Ideal S73728x10240 .bf16) : FVec Ideal S73728x10240 .f32 :=
  extf .f32 p bitsLt_bf16_f32

/-- The scan with its skip term, gated. -/
def gated (dsk : FVec Ideal S32 .f32) (y : FVec Ideal S73728x2048 .bf16) (x : FVec Ideal S73728x3072 .bf16) (P : FVec Ideal S73728x10240 .f32) : FVec Ideal S73728x2048 .f32 :=
  mulf (addf (extf .f32 y bitsLt_bf16_f32) (shapeCast _ (mulf (shapeCast _ (extf .f32 (extractStridedSlice S73728x2048 ![0, 0] x slices_S73728x3072_S73728x2048_0_0) bitsLt_bf16_f32) shapeCasts_S73728x2048_S73728x32x64) (broadcastInDim S73728x32x64 ![0, 1, 2] bcast_S1x32x1_S73728x32x64_0_1_2 (broadcastInDim S1x32x1 ![1, 2] bcast_S32x1_S1x32x1_1_2 (broadcastInDim S32x1 ![0] bcast_S32_S32x1_0 dsk)))) shapeCasts_S73728x32x64_S73728x2048)) (mulf (extractStridedSlice S73728x2048 ![0, 0] P slices_S73728x10240_S73728x2048_0_0) (Host.divf (broadcastInDim S73728x2048 ![] bcast_S_S73728x2048 (constant S_ .f32 0x3F800000#32)) (addf (broadcastInDim S73728x2048 ![] bcast_S_S73728x2048 (constant S_ .f32 0x3F800000#32)) (Host.exp (Host.negf (extractStridedSlice S73728x2048 ![0, 0] P slices_S73728x10240_S73728x2048_0_0))))))

/-- The gated scan normalised, times the gain. -/
def normed (gain : FVec Ideal S2048 .f32) (a : FVec Ideal S73728x2048 .f32) : FVec Ideal S73728x2048 .f32 :=
  mulf (mulf a (broadcastInDim S73728x2048 ![0, 1] bcast_S73728x1_S73728x2048_0_1 (Host.rsqrt (addf (Host.divf (broadcastInDim S73728x1 ![0] bcast_S73728_S73728x1_0 (Host.reduceAdd (mulf a a) (constant S_ .f32 0x00000000#32) reducesTo_S73728x2048_S73728_d1 h_S_)) (broadcastInDim S73728x1 ![] bcast_S_S73728x1 (constant S_ .f32 0x45000000#32))) (broadcastInDim S73728x1 ![] bcast_S_S73728x1 (constant S_ .f32 0x358637BD#32)))))) (broadcastInDim S73728x2048 ![0, 1] bcast_S1x2048_S73728x2048_0_1 (broadcastInDim S1x2048 ![1] bcast_S2048_S1x2048_1 gain))

/-- The normalised scan projected. -/
def ssd (a : FVec Ideal S73728x2048 .f32) (w : FVec Ideal S2048x1024 .bf16) : FVec Ideal S73728x1024 .f32 :=
  Host.dotGeneral dot_S73728x2048_S2048x1024_S73728x1024_1_0_0_1_n_n none a w

/-- The two gates of the short convolution multiplied. -/
def inner (P : FVec Ideal S73728x10240 .f32) : FVec Ideal S73728x1024 .f32 :=
  mulf (extractStridedSlice S73728x1024 ![0, 6144] P slices_S73728x10240_S73728x1024_0_6144) (extractStridedSlice S73728x1024 ![0, 7168] P slices_S73728x10240_S73728x1024_0_7168)

/-- The same by samples. -/
def rows (V : FVec Ideal S73728x1024 .f32) : FVec Ideal S32x2304x1024 .f32 :=
  shapeCast _ V shapeCasts_S73728x1024_S32x2304x1024

/-- The convolution over the context rows. -/
def convC (scw : FVec Ideal S3x1024 .f32) (W : FVec Ideal S32x2304x1024 .f32) : FVec Ideal S32x256x1024 .f32 :=
  addf (addf (mulf (broadcastInDim S32x256x1024 ![0, 1, 2] bcast_S1x1x1024_S32x256x1024_0_1_2 (broadcastInDim S1x1x1024 ![2] bcast_S1024_S1x1x1024_2 (shapeCast _ (extractStridedSlice S1x1024 ![0, 0] scw slices_S3x1024_S1x1024_0_0) shapeCasts_S1x1024_S1024))) (extractStridedSlice S32x256x1024 ![0, 0, 0] (pad S32x258x1024 ![0, 1, 0] ![0, 1, 0] ![0, 0, 0] (extractStridedSlice S32x256x1024 ![0, 0, 0] W slices_S32x2304x1024_S32x256x1024_0_0_0) (sitofp .f32 (constantI S_ 32 0#32)) pads_S32x256x1024_S32x258x1024_000_110_000 h_S_) slices_S32x258x1024_S32x256x1024_0_0_0)) (mulf (broadcastInDim S32x256x1024 ![0, 1, 2] bcast_S1x1x1024_S32x256x1024_0_1_2 (broadcastInDim S1x1x1024 ![2] bcast_S1024_S1x1x1024_2 (shapeCast _ (extractStridedSlice S1x1024 ![1, 0] scw slices_S3x1024_S1x1024_1_0) shapeCasts_S1x1024_S1024))) (extractStridedSlice S32x256x1024 ![0, 1, 0] (pad S32x258x1024 ![0, 1, 0] ![0, 1, 0] ![0, 0, 0] (extractStridedSlice S32x256x1024 ![0, 0, 0] W slices_S32x2304x1024_S32x256x1024_0_0_0) (sitofp .f32 (constantI S_ 32 0#32)) pads_S32x256x1024_S32x258x1024_000_110_000 h_S_) slices_S32x258x1024_S32x256x1024_0_1_0))) (mulf (broadcastInDim S32x256x1024 ![0, 1, 2] bcast_S1x1x1024_S32x256x1024_0_1_2 (broadcastInDim S1x1x1024 ![2] bcast_S1024_S1x1x1024_2 (shapeCast _ (extractStridedSlice S1x1024 ![2, 0] scw slices_S3x1024_S1x1024_2_0) shapeCasts_S1x1024_S1024))) (extractStridedSlice S32x256x1024 ![0, 2, 0] (pad S32x258x1024 ![0, 1, 0] ![0, 1, 0] ![0, 0, 0] (extractStridedSlice S32x256x1024 ![0, 0, 0] W slices_S32x2304x1024_S32x256x1024_0_0_0) (sitofp .f32 (constantI S_ 32 0#32)) pads_S32x256x1024_S32x258x1024_000_110_000 h_S_) slices_S32x258x1024_S32x256x1024_0_2_0))

/-- The convolution over the latent rows, sixty-four at a time. -/
def convL (scw : FVec Ideal S3x1024 .f32) (W : FVec Ideal S32x2304x1024 .f32) : FVec Ideal S32x2048x1024 .f32 :=
  shapeCast _ (addf (addf (mulf (broadcastInDim S1024x64x1024 ![0, 1, 2] bcast_S1x1x1024_S1024x64x1024_0_1_2 (broadcastInDim S1x1x1024 ![2] bcast_S1024_S1x1x1024_2 (shapeCast _ (extractStridedSlice S1x1024 ![0, 0] scw slices_S3x1024_S1x1024_0_0) shapeCasts_S1x1024_S1024))) (extractStridedSlice S1024x64x1024 ![0, 0, 0] (pad S1024x66x1024 ![0, 1, 0] ![0, 1, 0] ![0, 0, 0] (shapeCast _ (extractStridedSlice S32x2048x1024 ![0, 256, 0] W slices_S32x2304x1024_S32x2048x1024_0_256_0) shapeCasts_S32x2048x1024_S1024x64x1024) (sitofp .f32 (constantI S_ 32 0#32)) pads_S1024x64x1024_S1024x66x1024_000_110_000 h_S_) slices_S1024x66x1024_S1024x64x1024_0_0_0)) (mulf (broadcastInDim S1024x64x1024 ![0, 1, 2] bcast_S1x1x1024_S1024x64x1024_0_1_2 (broadcastInDim S1x1x1024 ![2] bcast_S1024_S1x1x1024_2 (shapeCast _ (extractStridedSlice S1x1024 ![1, 0] scw slices_S3x1024_S1x1024_1_0) shapeCasts_S1x1024_S1024))) (extractStridedSlice S1024x64x1024 ![0, 1, 0] (pad S1024x66x1024 ![0, 1, 0] ![0, 1, 0] ![0, 0, 0] (shapeCast _ (extractStridedSlice S32x2048x1024 ![0, 256, 0] W slices_S32x2304x1024_S32x2048x1024_0_256_0) shapeCasts_S32x2048x1024_S1024x64x1024) (sitofp .f32 (constantI S_ 32 0#32)) pads_S1024x64x1024_S1024x66x1024_000_110_000 h_S_) slices_S1024x66x1024_S1024x64x1024_0_1_0))) (mulf (broadcastInDim S1024x64x1024 ![0, 1, 2] bcast_S1x1x1024_S1024x64x1024_0_1_2 (broadcastInDim S1x1x1024 ![2] bcast_S1024_S1x1x1024_2 (shapeCast _ (extractStridedSlice S1x1024 ![2, 0] scw slices_S3x1024_S1x1024_2_0) shapeCasts_S1x1024_S1024))) (extractStridedSlice S1024x64x1024 ![0, 2, 0] (pad S1024x66x1024 ![0, 1, 0] ![0, 1, 0] ![0, 0, 0] (shapeCast _ (extractStridedSlice S32x2048x1024 ![0, 256, 0] W slices_S32x2304x1024_S32x2048x1024_0_256_0) shapeCasts_S32x2048x1024_S1024x64x1024) (sitofp .f32 (constantI S_ 32 0#32)) pads_S1024x64x1024_S1024x66x1024_000_110_000 h_S_) slices_S1024x66x1024_S1024x64x1024_0_2_0))) shapeCasts_S1024x64x1024_S32x2048x1024

/-- The two convolutions by samples, flattened. -/
def conv (A : FVec Ideal S32x256x1024 .f32) (B : FVec Ideal S32x2048x1024 .f32) : FVec Ideal S73728x1024 .f32 :=
  shapeCast _ (concatenate S32x2304x1024 1 [⟨S32x256x1024, A⟩, ⟨S32x2048x1024, B⟩] concatenates_S32x256x1024_S32x2048x1024_S32x2304x1024_d1) shapeCasts_S32x2304x1024_S73728x1024

/-- The gated convolution projected. -/
def short (P : FVec Ideal S73728x10240 .f32) (C : FVec Ideal S73728x1024 .f32) (wsc : FVec Ideal S1024x1024 .bf16) : FVec Ideal S73728x1024 .f32 :=
  Host.dotGeneral dot_S73728x1024_S1024x1024_S73728x1024_1_0_0_1_n_n none (mulf (extractStridedSlice S73728x1024 ![0, 5120] P slices_S73728x10240_S73728x1024_0_5120) C) wsc

/-- The two branches gated, added and projected. -/
def merged (P : FVec Ideal S73728x10240 .f32) (S Q : FVec Ideal S73728x1024 .f32) (wo : FVec Ideal S1024x1024 .bf16) : FVec Ideal S73728x1024 .f32 :=
  Host.dotGeneral dot_S73728x1024_S1024x1024_S73728x1024_1_0_0_1_n_n none (addf (mulf (Host.divf (broadcastInDim S73728x1024 ![] bcast_S_S73728x1024 (constant S_ .f32 0x3F800000#32)) (addf (broadcastInDim S73728x1024 ![] bcast_S_S73728x1024 (constant S_ .f32 0x3F800000#32)) (Host.exp (Host.negf (extractStridedSlice S73728x1024 ![0, 8192] P slices_S73728x10240_S73728x1024_0_8192))))) S) (mulf (Host.divf (broadcastInDim S73728x1024 ![] bcast_S_S73728x1024 (constant S_ .f32 0x3F800000#32)) (addf (broadcastInDim S73728x1024 ![] bcast_S_S73728x1024 (constant S_ .f32 0x3F800000#32)) (Host.exp (Host.negf (extractStridedSlice S73728x1024 ![0, 9216] P slices_S73728x10240_S73728x1024_0_9216))))) Q)) wo

/-- The residual sum. -/
def added (h O : FVec Ideal S73728x1024 .f32) (mods : FVec Ideal S32x2x6x1024 .f32) : FVec Ideal S73728x1024 .f32 :=
  shapeCast _ (concatenate S32x2304x1024 1 [⟨S32x256x1024, (addf (extractStridedSlice S32x256x1024 ![0, 0, 0] (shapeCast _ h shapeCasts_S73728x1024_S32x2304x1024) slices_S32x2304x1024_S32x256x1024_0_0_0) (mulf (broadcastInDim S32x256x1024 ![0, 1, 2] bcast_S32x1x1024_S32x256x1024_0_1_2 (shapeCast _ (extractStridedSlice S32x1x1x1024 ![0, 0, 2, 0] mods slices_S32x2x6x1024_S32x1x1x1024_0_0_2_0) shapeCasts_S32x1x1x1024_S32x1x1024)) (extractStridedSlice S32x256x1024 ![0, 0, 0] (shapeCast _ O shapeCasts_S73728x1024_S32x2304x1024) slices_S32x2304x1024_S32x256x1024_0_0_0)))⟩, ⟨S32x2048x1024, (addf (extractStridedSlice S32x2048x1024 ![0, 256, 0] (shapeCast _ h shapeCasts_S73728x1024_S32x2304x1024) slices_S32x2304x1024_S32x2048x1024_0_256_0) (mulf (broadcastInDim S32x2048x1024 ![0, 1, 2] bcast_S32x1x1024_S32x2048x1024_0_1_2 (shapeCast _ (extractStridedSlice S32x1x1x1024 ![0, 1, 2, 0] mods slices_S32x2x6x1024_S32x1x1x1024_0_1_2_0) shapeCasts_S32x1x1x1024_S32x1x1024)) (extractStridedSlice S32x2048x1024 ![0, 256, 0] (shapeCast _ O shapeCasts_S73728x1024_S32x2304x1024) slices_S32x2304x1024_S32x2048x1024_0_256_0)))⟩] concatenates_S32x256x1024_S32x2048x1024_S32x2304x1024_d1) shapeCasts_S32x2304x1024_S73728x1024

/-- The reference's result over its arguments, the scan and its inputs flattened. -/
def result (h : FVec Ideal S73728x1024 .f32) (y : FVec Ideal S73728x2048 .bf16) (x : FVec Ideal S73728x3072 .bf16) (p : FVec Ideal S73728x10240 .bf16) (mods : FVec Ideal S32x2x6x1024 .f32) (dsk : FVec Ideal S32 .f32) (gain : FVec Ideal S2048 .f32) (wssd : FVec Ideal S2048x1024 .bf16) (scw : FVec Ideal S3x1024 .f32) (wsc wo : FVec Ideal S1024x1024 .bf16) : FVec Ideal S73728x1024 .f32 :=
  added h (merged (wide p) (ssd (normed gain (gated dsk y x (wide p))) wssd)
    (short (wide p) (conv (convC scw (rows (inner (wide p)))) (convL scw (rows (inner (wide p))))) wsc) wo) mods

/-- The skip term's product, the gate included. -/
def gatedAt (y x d z : EReal) : EReal := (y + x * d) * (z * Ideal.logistic z)

/-- A row divided by its root mean square, times the gain. -/
def normAt (a g : Fin 2048 → EReal) (k : Fin 2048) : EReal :=
  a k * Ideal.rsqrt (Ideal.div (∑ j : Fin 2048, a j * a j) (Ideal.ofBits .f32 0x45000000#32) + Ideal.ofBits .f32 0x358637BD#32) * g k

theorem gated_at (dsk : FVec Ideal S32 .f32) (y : FVec Ideal S73728x2048 .bf16) (x : FVec Ideal S73728x3072 .bf16) (P : FVec Ideal S73728x10240 .f32)
    (r : Fin 73728) (k : Fin 2048) : gated dsk y x P (ix2 r k)
      = gatedAt (y (ix2 r k)) (x (ix2 r ⟨k.val, by omega⟩)) (dsk (ix1 ⟨k.val / 64, by omega⟩)) (P (ix2 r ⟨k.val, by omega⟩)) := by
  pointwise [gated, gatedAt, Ideal.logistic]

theorem normed_at (gain : FVec Ideal S2048 .f32) (a : FVec Ideal S73728x2048 .f32) (r : Fin 73728) (k : Fin 2048) :
    normed gain a (ix2 r k) = normAt (fun j => a (ix2 r j)) (fun j => gain (ix1 j)) k := by
  pointwise [normed, normAt]

theorem ssd_at (a : FVec Ideal S73728x2048 .f32) (w : FVec Ideal S2048x1024 .bf16) (r : Fin 73728) (d : Fin 1024) :
    ssd a w (ix2 r d) = ∑ k : Fin 2048, a (ix2 r k) * w (ix2 k d) := by
  pointwise [ssd]

theorem inner_at (P : FVec Ideal S73728x10240 .f32) (r : Fin 73728) (d : Fin 1024) :
    inner P (ix2 r d) = P (ix2 r ⟨6144 + d.val, by omega⟩) * P (ix2 r ⟨7168 + d.val, by omega⟩) := by
  pointwise [inner]

theorem short_at (P : FVec Ideal S73728x10240 .f32) (C : FVec Ideal S73728x1024 .f32) (w : FVec Ideal S1024x1024 .bf16) (r : Fin 73728) (d : Fin 1024) :
    short P C w (ix2 r d) = ∑ k : Fin 1024, (P (ix2 r ⟨5120 + k.val, by omega⟩) * C (ix2 r k)) * w (ix2 k d) := by
  pointwise [short]

theorem merged_at (P : FVec Ideal S73728x10240 .f32) (S Q : FVec Ideal S73728x1024 .f32) (w : FVec Ideal S1024x1024 .bf16) (r : Fin 73728) (d : Fin 1024) :
    merged P S Q w (ix2 r d) = ∑ k : Fin 1024, (Ideal.logistic (P (ix2 r ⟨8192 + k.val, by omega⟩)) * S (ix2 r k)
      + Ideal.logistic (P (ix2 r ⟨9216 + k.val, by omega⟩)) * Q (ix2 r k)) * w (ix2 k d) := by
  pointwise [merged, Ideal.logistic]

/-- Three taps weighted and added. -/
def tap (w0 w1 w2 l m r : EReal) : EReal := w0 * l + w1 * m + w2 * r

/-- The padding's value. -/
theorem zero_word : (FloatOps.sitofp .f32 (0#32 : BitVec 32) : Ideal .f32) = (0 : EReal) := by
  show (((0#32 : BitVec 32).toInt : ℝ) : EReal) = 0
  simp

/-- A choice written with the condition or with its negation. -/
theorem choice {p q : Prop} [Decidable p] [Decidable q] {x : p → EReal} {y : ¬ q → EReal} {z w : EReal} (h : p ↔ ¬ q) (hz : z = w)
    (hxy : ∀ (a : p) (b : ¬ q), x a = y b) : (if a : p then x a else z) = if b : q then w else y b := by
  by_cases hp : p
  · rw [dif_pos hp, dif_neg (h.1 hp)]
    exact hxy _ _
  · rw [dif_neg hp, dif_pos (not_not.1 fun hq => hp (h.2 hq))]
    exact hz

theorem convC_at (scw : FVec Ideal S3x1024 .f32) (W : FVec Ideal S32x2304x1024 .f32) (b : Fin 32) (s : Fin 256) (d : Fin 1024) :
    convC scw W (ix3 b s d) = tap (scw (ix2 0 d)) (scw (ix2 1 d)) (scw (ix2 2 d))
      (if h : s.val = 0 then 0 else W (ix3 b ⟨s.val - 1, by omega⟩ d)) (W (ix3 b ⟨s.val, by omega⟩ d))
      (if h : s.val = 255 then 0 else W (ix3 b ⟨s.val + 1, by omega⟩ d)) := by
  pointwise [convC, tap]
  refine Ideal.add_congr (Ideal.add_congr (Ideal.mul_congr rfl ?_) rfl) (Ideal.mul_congr rfl ?_)
  · exact choice (by omega) zero_word fun _ _ => rfl
  · exact choice (by omega) zero_word fun _ _ => congrArg W (congrArg (fun z => ix3 b z d) (Fin.ext (by show 2 + s.val - 1 = s.val + 1; omega)))

theorem convL_at (scw : FVec Ideal S3x1024 .f32) (W : FVec Ideal S32x2304x1024 .f32) (b : Fin 32) (l : Fin 2048) (d : Fin 1024) :
    convL scw W (ix3 b l d) = tap (scw (ix2 0 d)) (scw (ix2 1 d)) (scw (ix2 2 d))
      (if h : l.val % 64 = 0 then 0 else W (ix3 b ⟨256 + (l.val - 1), by omega⟩ d)) (W (ix3 b ⟨256 + l.val, by omega⟩ d))
      (if h : l.val % 64 = 63 then 0 else W (ix3 b ⟨256 + (l.val + 1), by omega⟩ d)) := by
  pointwise [convL, tap]
  refine Ideal.add_congr (Ideal.add_congr (Ideal.mul_congr rfl ?_) (Ideal.mul_congr rfl ?_)) (Ideal.mul_congr rfl ?_)
  · exact choice (by omega) zero_word fun _ _ => congrArg W (congrArg (fun z => ix3 b z d) (Fin.ext (by
      show 256 + ((b.val * 32 + l.val / 64) % 32 * 64 + (l.val % 64 - 1)) = 256 + (l.val - 1); omega)))
  · exact dif_pos (by omega)
  · exact choice (by omega) zero_word fun _ _ => congrArg W (congrArg (fun z => ix3 b z d) (Fin.ext (by
      show 256 + ((b.val * 32 + l.val / 64) % 32 * 64 + (2 + l.val % 64 - 1)) = 256 + (l.val + 1); omega)))

theorem rows_at (V : FVec Ideal S73728x1024 .f32) (b : Fin 32) (s : Fin 2304) (d : Fin 1024) (r : Fin 73728) (hr : r.val = b.val * 2304 + s.val) :
    rows V (ix3 b s d) = V (ix2 r d) := by
  have e : r = ⟨b.val * 2304 + s.val, by omega⟩ := Fin.ext hr
  rw [e]
  pointwise [rows]

/-- A choice of nothing at an edge, under two statements of the edge. -/
theorem edge {p q : Prop} [Decidable p] [Decidable q] {x : ¬ p → EReal} {y : EReal} (h : p ↔ q) (e : ∀ a : ¬ p, x a = y) :
    (if a : p then 0 else x a) = if q then 0 else y := by
  by_cases hp : p
  · rw [dif_pos hp, if_pos (h.1 hp)]
  · rw [dif_neg hp, if_neg fun hq => hp (h.2 hq)]
    exact e hp

theorem tap_congr {w0 w1 w2 l m r l' m' r' : EReal} (hl : l = l') (hm : m = m') (hr : r = r') : tap w0 w1 w2 l m r = tap w0 w1 w2 l' m' r' := by
  rw [hl, hm, hr]

/-- The first position of a run of rows: the context's, or a latent chunk's. -/
abbrev first (s : Nat) : Prop := s = 0 ∨ 256 ≤ s ∧ s % 64 = 0

/-- The last position of a run of rows. -/
abbrev last (s : Nat) : Prop := s = 255 ∨ 256 ≤ s ∧ s % 64 = 63

theorem conv_ctx (A : FVec Ideal S32x256x1024 .f32) (B : FVec Ideal S32x2048x1024 .f32) (r : Fin 73728) (d : Fin 1024) (hs : r.val % 2304 < 256) :
    conv A B (ix2 r d) = A (ix3 (⟨r.val / 2304, by omega⟩ : Fin 32) (⟨r.val % 2304, hs⟩ : Fin 256) d) := by
  pointwise [conv]
  rw [dif_pos hs]

theorem conv_lat (A : FVec Ideal S32x256x1024 .f32) (B : FVec Ideal S32x2048x1024 .f32) (r : Fin 73728) (d : Fin 1024) (hs : ¬ r.val % 2304 < 256) :
    conv A B (ix2 r d) = B (ix3 (⟨r.val / 2304, by omega⟩ : Fin 32) (⟨r.val % 2304 - 256, by omega⟩ : Fin 2048) d) := by
  pointwise [conv]
  rw [dif_neg hs]

/-- The flattened convolution's entry: the row before and the row after count inside the run of rows only. -/
theorem conv_at (scw : FVec Ideal S3x1024 .f32) (V : FVec Ideal S73728x1024 .f32) (r : Fin 73728) (d : Fin 1024) :
    conv (convC scw (rows V)) (convL scw (rows V)) (ix2 r d) = tap (scw (ix2 0 d)) (scw (ix2 1 d)) (scw (ix2 2 d))
      (if first (r.val % 2304) then 0 else V (ix2 (⟨r.val - 1, by omega⟩ : Fin 73728) d)) (V (ix2 r d))
      (if last (r.val % 2304) then 0 else V (ix2 (⟨(r.val + 1) % 73728, by omega⟩ : Fin 73728) d)) := by
  by_cases hs : r.val % 2304 < 256
  · rw [conv_ctx _ _ _ _ hs, convC_at]
    refine tap_congr (edge ?_ fun h => rows_at V _ _ _ _ ?_) (rows_at V _ _ _ _ ?_) (edge ?_ fun h => rows_at V _ _ _ _ ?_)
    · show r.val % 2304 = 0 ↔ first (r.val % 2304); unfold first; omega
    · show r.val - 1 = r.val / 2304 * 2304 + (r.val % 2304 - 1); change ¬ r.val % 2304 = 0 at h; omega
    · show r.val = r.val / 2304 * 2304 + r.val % 2304; omega
    · show r.val % 2304 = 255 ↔ last (r.val % 2304); unfold last; omega
    · show (r.val + 1) % 73728 = r.val / 2304 * 2304 + (r.val % 2304 + 1); omega
  · rw [conv_lat _ _ _ _ hs, convL_at]
    refine tap_congr (edge ?_ fun h => rows_at V _ _ _ _ ?_) (rows_at V _ _ _ _ ?_) (edge ?_ fun h => rows_at V _ _ _ _ ?_)
    · show (r.val % 2304 - 256) % 64 = 0 ↔ first (r.val % 2304); unfold first; omega
    · show r.val - 1 = r.val / 2304 * 2304 + (256 + (r.val % 2304 - 256 - 1)); change ¬ (r.val % 2304 - 256) % 64 = 0 at h; omega
    · show r.val = r.val / 2304 * 2304 + (256 + (r.val % 2304 - 256)); omega
    · show (r.val % 2304 - 256) % 64 = 63 ↔ last (r.val % 2304); unfold last; omega
    · show (r.val + 1) % 73728 = r.val / 2304 * 2304 + (256 + (r.val % 2304 - 256 + 1)); change ¬ (r.val % 2304 - 256) % 64 = 63 at h; omega

/-- The residual sum's entry: the modulation is the context's on a sample's first 256 rows, the latents' after them. -/
theorem added_at (h O : FVec Ideal S73728x1024 .f32) (mods : FVec Ideal S32x2x6x1024 .f32) (r : Fin 73728) (d : Fin 1024) :
    added h O mods (ix2 r d) = h (ix2 r d) + mods (ix4 (⟨r.val / 2304, by omega⟩ : Fin 32) (⟨min (r.val % 2304 / 256) 1, by omega⟩ : Fin 2) 2 d) * O (ix2 r d) := by
  have er : r.val / 2304 * 2304 + r.val % 2304 = r.val := by omega
  by_cases hs : r.val % 2304 < 256
  · have e : (⟨min (r.val % 2304 / 256) 1, by omega⟩ : Fin 2) = 0 := Fin.ext (by show min (r.val % 2304 / 256) 1 = 0; omega)
    rw [e]
    pointwise [added]
    rw [dif_pos hs]
  · have e : (⟨min (r.val % 2304 / 256) 1, by omega⟩ : Fin 2) = 1 := Fin.ext (by show min (r.val % 2304 / 256) 1 = 1; omega)
    rw [e]
    pointwise [added]
    rw [dif_neg hs]
    have e' : (⟨r.val / 2304 * 2304 + (256 + (r.val % 2304 - 256)), by omega⟩ : Fin 73728) = r :=
      Fin.ext (by show r.val / 2304 * 2304 + (256 + (r.val % 2304 - 256)) = r.val; omega)
    rw [e']

/-- The reference's result over its arguments. -/
def whole (h : FVec Ideal S73728x1024 .f32) (y : FVec Ideal S32x2304x2048 .bf16) (x : FVec Ideal S32x2304x3072 .bf16) (p : FVec Ideal S73728x10240 .bf16) (mods : FVec Ideal S32x2x6x1024 .f32) (dsk : FVec Ideal S32 .f32) (gain : FVec Ideal S2048 .f32) (wssd : FVec Ideal S2048x1024 .bf16) (scw : FVec Ideal S3x1024 .f32) (wsc wo : FVec Ideal S1024x1024 .bf16) : FVec Ideal S73728x1024 .f32 :=
  result h (shapeCast _ y shapeCasts_S32x2304x2048_S73728x2048) (shapeCast _ x shapeCasts_S32x2304x3072_S73728x3072) p mods dsk gain wssd scw wsc wo

/-- The run's term. -/
theorem res (m : (ℓ : Loc nD τ sig) → Buf (Elt Ideal) ℓ) (c : Dev nD) : Value.res_main_v120 (F := Ideal) m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

/-- The run: the result's array, and the arguments left as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v120) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (res m c), (h c).2⟩) (Value.run m ρ)

end Cert.MixOutRefIdeal.Reading

end
-- ==== Proof.MixOutBlock.lean ====
/-
  The mixer's output kernel: a block's contents at an index.
-/
module

public import proofs.«01_k».proof.Proof.Gen.MixOutIdeal.Skeleton
public import proofs.«01_k».proof.Proof.MixOutRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixOutIdeal.Reading

open Cert.MixOutIdeal Cert.MixOutIdeal.Gen
open Cert.MixOutRefIdeal.Reading (gatedAt normAt tap first last)

/-- The normalised scan's projection. -/
theorem pay2_at (y x : FVec Ideal S256x2048 .bf16) (dsk : FVec Ideal S1x2048 .f32) (z : FVec Ideal S256x2048 .bf16)
    (gain : FVec Ideal S1x2048 .f32) (w : FVec Ideal S2048x1024 .bf16) (i : Fin 256) (d : Fin 1024) :
    k0_pay2 (F := Ideal) y x dsk z gain w (ix2 i d) = ∑ k : Fin 2048,
      normAt (fun j => gatedAt (y (ix2 i j)) (x (ix2 i j)) (dsk (ix2 0 j)) (z (ix2 i j))) (fun j => gain (ix2 0 j)) k * w (ix2 k d) := by
  pointwise [k0_pay2, normAt, gatedAt]

theorem pay3_at (a b : FVec Ideal S256x1024 .bf16) (i : Fin 256) (d : Fin 1024) :
    k0_pay3 (F := Ideal) a b (ix2 i d) = a (ix2 i d) * b (ix2 i d) := by
  pointwise [k0_pay3]

theorem pay1_at (v : FVec Ideal S256x1024 .bf16) (w : FVec Ideal S1024x1024 .bf16) (h : FVec Ideal S256x1024 .f32) (g : FVec Ideal S1x1x1x1024 .f32)
    (i : Fin 256) (d : Fin 1024) : k0_pay1 (F := Ideal) v w h g (ix2 i d) = h (ix2 i d) + g (ix4 0 0 0 d) * ∑ k : Fin 1024, v (ix2 i k) * w (ix2 k d) := by
  pointwise [k0_pay1]

/-- The tile's first position in its sample. -/
def start (a : BitVec 32) : BitVec 32 :=
  let v40 : BitVec 32 := Scalar.select (Scalar.cmpi .eq 9#32 0#32) 1#32 9#32
  let v41 : BitVec 32 := Scalar.remsi a v40
  Scalar.muli (Scalar.select (Scalar.andi (Scalar.xori (Scalar.cmpi .slt v41 0#32) (Scalar.cmpi .slt v40 0#32)) (Scalar.cmpi .ne v41 0#32)) (Scalar.addi v41 v40) v41) 256#32

theorem start_eq : ∀ t : Fin 288, start (BitVec.ofNat 32 t.val) = BitVec.ofNat 32 (t.val % 9 * 256) := by decide +kernel

theorem pos_at (a : BitVec 32) (i : Fin 256) : k0_pay4 a (ix2 i 0) = start a + BitVec.ofNat 32 i.val := by
  pointwise [k0_pay4, start]
  rfl

/-- A latent position's place in its chunk of 64. -/
def col (x : BitVec 32) : BitVec 32 :=
  Scalar.select
    (IntOp.andi
      (IntOp.xori
        (IntOp.cmpi CmpIPredicate.slt
          (IntOp.remsi ArithUnit.vector (IntOp.subi x 256#32) (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne
        (IntOp.remsi ArithUnit.vector (IntOp.subi x 256#32) (Scalar.select (Scalar.cmpi CmpIPredicate.eq 64#32 0#32) 1#32 64#32)) 0#32))
    (IntOp.addi
      (IntOp.remsi ArithUnit.vector (IntOp.subi x 256#32) (Scalar.select (Scalar.cmpi CmpIPredicate.eq 64#32 0#32) 1#32 64#32))
      (Scalar.select (Scalar.cmpi CmpIPredicate.eq 64#32 0#32) 1#32 64#32))
    (IntOp.remsi ArithUnit.vector (IntOp.subi x 256#32) (Scalar.select (Scalar.cmpi CmpIPredicate.eq 64#32 0#32) 1#32 64#32))

/-- Whether the row before counts, from the position. -/
def leftBit (x : BitVec 32) : BitVec 1 :=
  IntOp.cmpi CmpIPredicate.ne (Scalar.select (IntOp.cmpi CmpIPredicate.slt x 256#32) x (col x)) 0#32

/-- How many rows follow in the run, from the position. -/
def rest (x : BitVec 32) : BitVec 32 :=
  Scalar.select (IntOp.cmpi CmpIPredicate.slt x 256#32) (IntOp.subi 255#32 x) (IntOp.subi 63#32 (col x))

theorem leftBit_eq : ∀ s : Fin 2304, leftBit (BitVec.ofNat 32 s.val) = if first s.val then 0#1 else 1#1 := by decide +kernel

theorem rest_eq : ∀ s : Fin 2304, IntOp.cmpi CmpIPredicate.ne (rest (BitVec.ofNat 32 s.val)) 0#32 = if last s.val then 0#1 else 1#1 := by decide +kernel

theorem pay8_at (a : BitVec 32) (i : Fin 256) : k0_pay8 a (ix2 i 0) = leftBit (k0_pay4 a (ix2 i 0)) := by
  pointwise [k0_pay8, k0_pay5, k0_pay6, leftBit, col]

theorem pay7_at (a : BitVec 32) (i : Fin 256) : k0_pay7 a (ix2 i 0) = rest (k0_pay4 a (ix2 i 0)) := by
  pointwise [k0_pay7, k0_pay5, k0_pay6, rest, col]

/-- The position of a tile's row in its sample, as a word. -/
theorem pos_eq (t : Fin 288) (i : Fin 256) : k0_pay4 (BitVec.ofNat 32 t.val) (ix2 i 0) = BitVec.ofNat 32 (t.val % 9 * 256 + i.val) := by
  rw [pos_at, start_eq, BitVec.ofNat_add]

theorem left_at (t : Fin 288) (i : Fin 256) : k0_pay8 (BitVec.ofNat 32 t.val) (ix2 i 0) = if first (t.val % 9 * 256 + i.val) then 0#1 else 1#1 := by
  rw [pay8_at, pos_eq]
  exact leftBit_eq ⟨t.val % 9 * 256 + i.val, by omega⟩

theorem right_at (t : Fin 288) (i : Fin 256) : IntOp.cmpi CmpIPredicate.ne (k0_pay7 (BitVec.ofNat 32 t.val) (ix2 i 0)) 0#32
    = if last (t.val % 9 * 256 + i.val) then 0#1 else 1#1 := by
  rw [pay7_at, pos_eq]
  exact rest_eq ⟨t.val % 9 * 256 + i.val, by omega⟩

/-- A product chosen by a bit against zero is the weight times the chosen factor. -/
theorem choose {p : Prop} [Decidable p] (b : BitVec 1) (x w : EReal) (h : b = if p then 0#1 else 1#1) :
    Scalar.select b (x * w) 0 = w * (if p then 0 else x) := by
  subst h
  by_cases hp : p
  · rw [if_pos hp, if_pos hp, mul_zero]
    rfl
  · rw [if_neg hp, if_neg hp, mul_comm w x]
    rfl

/-- The two branches gated and added, at a tile's row. -/
theorem pay9_at (S V : FVec Ideal S256x1024 .f32) (w0 w1 w2 : FVec Ideal S1x1024 .f32)
    (sb : FVec Ideal S256x1024 .bf16) (w : FVec Ideal S1024x1024 .bf16) (ga gb : FVec Ideal S256x1024 .bf16)
    (t : Fin 288) (i : Fin 256) (d : Fin 1024) :
    k0_pay9 (F := Ideal) S V (k0_pay7 (BitVec.ofNat 32 t.val)) (k0_pay8 (BitVec.ofNat 32 t.val)) w0 w1 w2 sb w ga gb (ix2 i d)
      = Ideal.logistic (ga (ix2 i d)) * S (ix2 i d) + Ideal.logistic (gb (ix2 i d)) * ∑ k : Fin 1024,
          (sb (ix2 i k) * tap (w0 (ix2 0 k)) (w1 (ix2 0 k)) (w2 (ix2 0 k))
            (if first (t.val % 9 * 256 + i.val) then 0 else V (ix2 (⟨(i.val + 256 - 1) % 256, by omega⟩ : Fin 256) k)) (V (ix2 i k))
            (if last (t.val % 9 * 256 + i.val) then 0 else V (ix2 (⟨(i.val + 256 - 255) % 256, by omega⟩ : Fin 256) k))) * w (ix2 k d) := by
  pointwise [k0_pay9]
  refine congrArg _ (congrArg _ (Finset.sum_congr rfl fun k _ => ?_))
  refine Ideal.mul_congr (Ideal.mul_congr rfl ?_) rfl
  exact Ideal.add_congr (Ideal.add_congr (choose _ _ _ (left_at t i)) (mul_comm _ _)) (choose _ _ _ (right_at t i))

end Cert.MixOutIdeal.Reading

end
-- ==== Proof.MixOutValue.lean ====
/-
  The mixer's output read back: the kernel's result array is the reference's.
-/
module

public import proofs.«01_k».proof.Proof.Gen.MixOutIdeal.Frame
public import proofs.«01_k».proof.Proof.MixOutBlock
public import Idealize.ShloMosaic.Lib.StableHlo.ReadAt

@[expose] public section

set_option maxRecDepth 16384

noncomputable section

open Idealize.ShloMosaic Idealize.ShloMosaic.TcCoe Idealize.SL.Sem Idealize.ShloMosaic.StableHlo
open Idealize.ShloMosaic.Pipeline (Dat)

namespace Cert.MixOutIdeal.Reading

open Cert.MixOutIdeal Cert.MixOutIdeal.Gen

/-- The windows' block indices at a grid point. -/
theorem idx : ∀ t : Fin cfg0.N, (win0_0.index t = ![t.val, 0] ∧ win0_1.index t = ![t.val, 0]
    ∧ win0_2.index t = ![t.val, 0] ∧ win0_3.index t = ![t.val, 0] ∧ win0_4.index t = ![t.val, 5] ∧ win0_5.index t = ![t.val, 6]
    ∧ win0_6.index t = ![t.val, 7] ∧ win0_7.index t = ![t.val, 8] ∧ win0_8.index t = ![t.val, 9])
    ∧ (win0_9.index t = ![t.val / 9, min (t.val % 9) 1, 0, 0]
    ∧ win0_10.index t = ![0, 0] ∧ win0_11.index t = ![0, 0] ∧ win0_12.index t = ![0, 0] ∧ win0_13.index t = ![0, 0] ∧ win0_14.index t = ![0, 0]
    ∧ win0_15.index t = ![0, 0] ∧ win0_16.index t = ![t.val, 0]) ∧ t.val < 288 :=
  (by decide +kernel : ∀ t : Fin grid0.N, _)

variable (m : (ℓ : Loc nD τ sig) → Buf (Elt Ideal) ℓ)

/-- The scan, flattened. -/
def scan (c : Dev nD) : FVec Ideal S73728x2048 .bf16 :=
  shapeCast _ (m ((c.tc : Thread nD τ).loc main_arg1) : FVec Ideal S32x2304x2048 .bf16) shapeCasts_S32x2304x2048_S73728x2048

/-- The scan's inputs, flattened. -/
def inputs (c : Dev nD) : FVec Ideal S73728x3072 .bf16 :=
  shapeCast _ (m ((c.tc : Thread nD τ).loc main_arg2) : FVec Ideal S32x2304x3072 .bf16) shapeCasts_S32x2304x3072_S73728x3072

theorem y_at (c : Dev nD) (r : Fin 73728) (k : Fin 2048) : (V m c main_v0 : FVec Ideal S73728x2048 .bf16) (ix2 r k) = scan m c (ix2 r k) := by
  unfold V
  after_reads_simp
  rfl

theorem x_at (c : Dev nD) (r : Fin 73728) (k : Fin 3072) : (V m c main_v1 : FVec Ideal S73728x3072 .bf16) (ix2 r k) = inputs m c (ix2 r k) := by
  unfold V
  after_reads_simp
  rfl

theorem d_at (c : Dev nD) (k : Fin 2048) : (V m c main_v4 : FVec Ideal S1x2048 .f32) (ix2 0 k)
    = (m ((c : Thread nD τ).loc main_arg5) : FVec Ideal S32 .f32) (ix1 ⟨k.val / 64, by omega⟩) := by
  unfold V
  after_reads_at

theorem gain_at (c : Dev nD) (k : Fin 2048) : (V m c main_v5 : FVec Ideal S1x2048 .f32) (ix2 0 k)
    = (m ((c : Thread nD τ).loc main_arg6) : FVec Ideal S2048 .f32) (ix1 k) := by
  unfold V
  after_reads_at

theorem wssd_at (c : Dev nD) (k : Fin 2048) (d : Fin 1024) : (V m c main_v6 : FVec Ideal S2048x1024 .bf16) (ix2 k d)
    = (m ((c : Thread nD τ).loc main_arg7) : FVec Ideal S2048x1024 .bf16) (ix2 k d) := by
  unfold V
  after_reads_at

theorem wsc_at (c : Dev nD) (k : Fin 1024) (d : Fin 1024) : (V m c main_v7 : FVec Ideal S1024x1024 .bf16) (ix2 k d)
    = (m ((c : Thread nD τ).loc main_arg9) : FVec Ideal S1024x1024 .bf16) (ix2 k d) := by
  unfold V
  after_reads_at

theorem wo_at (c : Dev nD) (k : Fin 1024) (d : Fin 1024) : (V m c main_v8 : FVec Ideal S1024x1024 .bf16) (ix2 k d)
    = (m ((c : Thread nD τ).loc main_arg10) : FVec Ideal S1024x1024 .bf16) (ix2 k d) := by
  unfold V
  after_reads_at

section blocks

variable (c : Dev nD) (t : Fin cfg0.N) (i : Fin 256) (r : Fin 73728) (hr : r.val = t.val * 256 + i.val)

include hr

theorem h_block (d : Fin 1024) : iblk m c 0 t (ix2 i d) = (m ((c.tc : Thread nD τ).loc main_arg0) : FVec Ideal S73728x1024 .f32) (ix2 r d) := by
  obtain ⟨r, hb⟩ := r
  obtain rfl : r = t.val * 256 + i.val := hr
  blk_point [iblk, V, idx t]

theorem y_block (d : Fin 2048) : iblk m c 1 t (ix2 i d) = scan m c (ix2 r d) := by
  refine Eq.trans ?_ (y_at m c r d)
  obtain ⟨r, hb⟩ := r
  obtain rfl : r = t.val * 256 + i.val := hr
  blk_point [iblk, idx t]

theorem x_block (d : Fin 2048) : X0_2 m c t (ix2 i d) = inputs m c (ix2 r (⟨d.val, by omega⟩ : Fin 3072)) := by
  refine Eq.trans ?_ (x_at m c r _)
  obtain ⟨r, hb⟩ := r
  obtain rfl : r = t.val * 256 + i.val := hr
  unfold X0_2 Pipeline.Window.fill
  rw [dif_pos (moved0_2 t _)]
  refine congrArg (V m c main_v1 : FVec Ideal S73728x3072 .bf16) (?_ : (win0_2.blk t).view.emb _ = _)
  blk_ext [idx t]

theorem z_block (d : Fin 2048) : iblk m c 3 t (ix2 i d) = (m ((c.tc : Thread nD τ).loc main_arg3) : FVec Ideal S73728x10240 .bf16) (ix2 r (⟨d.val, by omega⟩ : Fin 10240)) := by
  obtain ⟨r, hb⟩ := r
  obtain rfl : r = t.val * 256 + i.val := hr
  blk_point [iblk, V, idx t]

theorem p4_block (d : Fin 1024) : iblk m c 4 t (ix2 i d) = (m ((c.tc : Thread nD τ).loc main_arg3) : FVec Ideal S73728x10240 .bf16) (ix2 r (⟨5120 + d.val, by omega⟩ : Fin 10240)) := by
  obtain ⟨r, hb⟩ := r
  obtain rfl : r = t.val * 256 + i.val := hr
  blk_point [iblk, V, idx t]

theorem p5_block (d : Fin 1024) : iblk m c 5 t (ix2 i d) = (m ((c.tc : Thread nD τ).loc main_arg3) : FVec Ideal S73728x10240 .bf16) (ix2 r (⟨6144 + d.val, by omega⟩ : Fin 10240)) := by
  obtain ⟨r, hb⟩ := r
  obtain rfl : r = t.val * 256 + i.val := hr
  blk_point [iblk, V, idx t]

theorem p6_block (d : Fin 1024) : iblk m c 6 t (ix2 i d) = (m ((c.tc : Thread nD τ).loc main_arg3) : FVec Ideal S73728x10240 .bf16) (ix2 r (⟨7168 + d.val, by omega⟩ : Fin 10240)) := by
  obtain ⟨r, hb⟩ := r
  obtain rfl : r = t.val * 256 + i.val := hr
  blk_point [iblk, V, idx t]

theorem p7_block (d : Fin 1024) : iblk m c 7 t (ix2 i d) = (m ((c.tc : Thread nD τ).loc main_arg3) : FVec Ideal S73728x10240 .bf16) (ix2 r (⟨8192 + d.val, by omega⟩ : Fin 10240)) := by
  obtain ⟨r, hb⟩ := r
  obtain rfl : r = t.val * 256 + i.val := hr
  blk_point [iblk, V, idx t]

theorem p8_block (d : Fin 1024) : iblk m c 8 t (ix2 i d) = (m ((c.tc : Thread nD τ).loc main_arg3) : FVec Ideal S73728x10240 .bf16) (ix2 r (⟨9216 + d.val, by omega⟩ : Fin 10240)) := by
  obtain ⟨r, hb⟩ := r
  obtain rfl : r = t.val * 256 + i.val := hr
  blk_point [iblk, V, idx t]

theorem mods_block (d : Fin 1024) : View.ld (iblk m c 9 t) (Rect.unit ![0, 0, 2, 0] ![1, 1, 1, 1024] inb_S1x1x6x1024_S1x1x1x1024_0_0_2_0) (ix4 0 0 0 d)
    = (m ((c.tc : Thread nD τ).loc main_arg4) : FVec Ideal S32x2x6x1024 .f32) (ix4 (⟨r.val / 2304, by omega⟩ : Fin 32) (⟨min (r.val % 2304 / 256) 1, by omega⟩ : Fin 2) 2 d) := by
  have hN := (idx t).2.2
  obtain ⟨r, hb⟩ := r
  obtain rfl : r = t.val * 256 + i.val := hr
  blk_point [iblk, V, idx t]

end blocks

section weights

variable (c : Dev nD) (t : Fin cfg0.N)

theorem d_block (d : Fin 2048) : iblk m c 10 t (ix2 0 d) = (m ((c.tc : Thread nD τ).loc main_arg5) : FVec Ideal S32 .f32) (ix1 ⟨d.val / 64, by omega⟩) := by
  refine Eq.trans ?_ (d_at m c d)
  blk_point [iblk, idx t]

theorem gain_block (d : Fin 2048) : iblk m c 11 t (ix2 0 d) = (m ((c.tc : Thread nD τ).loc main_arg6) : FVec Ideal S2048 .f32) (ix1 d) := by
  refine Eq.trans ?_ (gain_at m c d)
  blk_point [iblk, idx t]

theorem wssd_block (k : Fin 2048) (d : Fin 1024) : iblk m c 12 t (ix2 k d) = (m ((c.tc : Thread nD τ).loc main_arg7) : FVec Ideal S2048x1024 .bf16) (ix2 k d) := by
  refine Eq.trans ?_ (wssd_at m c k d)
  blk_point [iblk, idx t]

theorem wsc_block (k : Fin 1024) (d : Fin 1024) : iblk m c 14 t (ix2 k d) = (m ((c.tc : Thread nD τ).loc main_arg9) : FVec Ideal S1024x1024 .bf16) (ix2 k d) := by
  refine Eq.trans ?_ (wsc_at m c k d)
  blk_point [iblk, idx t]

theorem wo_block (k : Fin 1024) (d : Fin 1024) : iblk m c 15 t (ix2 k d) = (m ((c.tc : Thread nD τ).loc main_arg10) : FVec Ideal S1024x1024 .bf16) (ix2 k d) := by
  refine Eq.trans ?_ (wo_at m c k d)
  blk_point [iblk, idx t]

theorem tap0_block (d : Fin 1024) : View.ld (iblk m c 13 t) (Rect.unit ![0, 0] ![1, 1024] inb_S3x1024_S1x1024_0_0) (ix2 0 d)
    = (m ((c.tc : Thread nD τ).loc main_arg8) : FVec Ideal S3x1024 .f32) (ix2 0 d) := by
  blk_point [iblk, V, idx t]

theorem tap1_block (d : Fin 1024) : View.ld (iblk m c 13 t) (Rect.unit ![1, 0] ![1, 1024] inb_S3x1024_S1x1024_1_0) (ix2 0 d)
    = (m ((c.tc : Thread nD τ).loc main_arg8) : FVec Ideal S3x1024 .f32) (ix2 1 d) := by
  blk_point [iblk, V, idx t]

theorem tap2_block (d : Fin 1024) : View.ld (iblk m c 13 t) (Rect.unit ![2, 0] ![1, 1024] inb_S3x1024_S1x1024_2_0) (ix2 0 d)
    = (m ((c.tc : Thread nD τ).loc main_arg8) : FVec Ideal S3x1024 .f32) (ix2 2 d) := by
  blk_point [iblk, V, idx t]

end weights

open Cert.MixOutRefIdeal.Reading in
/-- The normalised scan's projection, read off the blocks. -/
theorem ssd_block (c : Dev nD) (t : Fin cfg0.N) (i : Fin 256) (r : Fin 73728) (hr : r.val = t.val * 256 + i.val) (d : Fin 1024) :
    k0_pay2 (F := Ideal) (iblk m c 1 t) (X0_2 m c t) (iblk m c 10 t) (iblk m c 3 t) (iblk m c 11 t) (iblk m c 12 t) (ix2 i d)
      = ssd (normed (m ((c.tc : Thread nD τ).loc main_arg6)) (gated (m ((c.tc : Thread nD τ).loc main_arg5)) (scan m c) (inputs m c) (wide (m ((c.tc : Thread nD τ).loc main_arg3))))) (m ((c.tc : Thread nD τ).loc main_arg7)) (ix2 r d) := by
  refine (pay2_at _ _ _ _ _ _ i d).trans ((ssd_at _ _ r d).trans ?_).symm
  refine Finset.sum_congr rfl fun k _ => Ideal.mul_congr ?_ (wssd_block m c t k d).symm
  refine (normed_at _ _ r k).trans (congrFun (congr (congrArg normAt (funext fun j => ?_)) (funext fun j => (gain_block m c t j).symm)) k)
  refine (gated_at _ _ _ _ r j).trans ?_
  exact congr (congr (congr (congrArg gatedAt (y_block m c t i r hr j).symm) (x_block m c t i r hr j).symm) (d_block m c t j).symm)
    (z_block m c t i r hr j).symm

open Cert.MixOutRefIdeal.Reading in
/-- The short convolution's input, read off the blocks. -/
theorem inner_block (c : Dev nD) (t : Fin cfg0.N) (i : Fin 256) (r : Fin 73728) (hr : r.val = t.val * 256 + i.val) (d : Fin 1024) :
    k0_pay3 (F := Ideal) (iblk m c 5 t) (iblk m c 6 t) (ix2 i d) = inner (wide (m ((c.tc : Thread nD τ).loc main_arg3))) (ix2 r d) := by
  refine (pay3_at _ _ i d).trans ((inner_at _ r d).trans ?_).symm
  exact Ideal.mul_congr (p5_block m c t i r hr d).symm (p6_block m c t i r hr d).symm

open Cert.MixOutRefIdeal.Reading in
/-- The convolution's entry, read off the blocks: the rows a tile's rotation wraps around are at a run's edges. -/
theorem conv_block (c : Dev nD) (t : Fin cfg0.N) (i : Fin 256) (r : Fin 73728) (hr : r.val = t.val * 256 + i.val) (k : Fin 1024) :
    tap ((m ((c.tc : Thread nD τ).loc main_arg8) : FVec Ideal S3x1024 .f32) (ix2 0 k)) ((m ((c.tc : Thread nD τ).loc main_arg8) : FVec Ideal S3x1024 .f32) (ix2 1 k))
        ((m ((c.tc : Thread nD τ).loc main_arg8) : FVec Ideal S3x1024 .f32) (ix2 2 k))
      (if first (t.val % 9 * 256 + i.val) then 0 else k0_pay3 (F := Ideal) (iblk m c 5 t) (iblk m c 6 t) (ix2 (⟨(i.val + 256 - 1) % 256, by omega⟩ : Fin 256) k))
      (k0_pay3 (F := Ideal) (iblk m c 5 t) (iblk m c 6 t) (ix2 i k))
      (if last (t.val % 9 * 256 + i.val) then 0 else k0_pay3 (F := Ideal) (iblk m c 5 t) (iblk m c 6 t) (ix2 (⟨(i.val + 256 - 255) % 256, by omega⟩ : Fin 256) k))
      = conv (convC (m ((c.tc : Thread nD τ).loc main_arg8)) (rows (inner (wide (m ((c.tc : Thread nD τ).loc main_arg3)))))) (convL (m ((c.tc : Thread nD τ).loc main_arg8)) (rows (inner (wide (m ((c.tc : Thread nD τ).loc main_arg3)))))) (ix2 r k) := by
  have hs : r.val % 2304 = t.val % 9 * 256 + i.val := by omega
  refine ((conv_at _ _ r k).trans ?_).symm
  rw [hs]
  refine tap_congr ?_ (inner_block m c t i r hr k).symm ?_
  · by_cases h : first (t.val % 9 * 256 + i.val)
    · rw [if_pos h, if_pos h]
    · rw [if_neg h, if_neg h]
      refine (inner_block m c t _ _ ?_ k).symm
      show r.val - 1 = t.val * 256 + (i.val + 256 - 1) % 256
      unfold first at h
      omega
  · by_cases h : last (t.val % 9 * 256 + i.val)
    · rw [if_pos h, if_pos h]
    · rw [if_neg h, if_neg h]
      refine (inner_block m c t _ _ ?_ k).symm
      show (r.val + 1) % 73728 = t.val * 256 + (i.val + 256 - 255) % 256
      have hN := (idx t).2.2
      unfold last at h
      omega

theorem coord : ∀ t : Fin cfg0.N, (grid0.coords t 0).val = t.val := (by decide +kernel : ∀ t : Fin grid0.N, _)

open Cert.MixOutRefIdeal.Reading in
/-- The result array after the run is the reference's term over the arguments. -/
theorem final (c : Dev nD) : (dats m 0 c).arrAt 16 (cfgs 0).N
    = Cert.MixOutRefIdeal.Reading.result (m ((c.tc : Thread nD τ).loc main_arg0)) (scan m c) (inputs m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 16 _ (by decide +kernel) fun t hf y => ?_
  blk_simp
  rw [after0_16]
  unfold outsAt0
  frame_out
  obtain ⟨i, d, rfl⟩ : ∃ (i : Fin 256) (d : Fin 1024), y = ix2 i d := ⟨y 0, y 1, eq_ix2 y⟩
  have hN := (idx t).2.2
  have hr : (win0_16.blk t).view.emb (ix2 i d) = ix2 (⟨t.val * 256 + i.val, by omega⟩ : Fin 73728) d := by
    blk_ext [idx t]
  rw [hr, coord t]
  obtain ⟨r, hv⟩ : ∃ r : Fin 73728, r = ⟨t.val * 256 + i.val, by omega⟩ := ⟨_, rfl⟩
  have hrv : r.val = t.val * 256 + i.val := by rw [hv]
  rw [← hv]
  refine (pay1_at _ _ _ _ i d).trans ((added_at _ _ _ r d).trans ?_).symm
  refine Ideal.add_congr (h_block m c t i r hrv d).symm (Ideal.mul_congr (mods_block m c t i r hrv d).symm ?_)
  refine (merged_at _ _ _ _ r d).trans (Finset.sum_congr rfl fun k _ => Ideal.mul_congr ?_ (wo_block m c t k d).symm)
  refine ((pay9_at _ _ _ _ _ _ _ _ _ ⟨t.val, hN⟩ i k).trans ?_).symm
  refine Ideal.add_congr (Ideal.mul_congr (congrArg Ideal.logistic (p7_block m c t i r hrv k)) (ssd_block m c t i r hrv k))
    (Ideal.mul_congr (congrArg Ideal.logistic (p8_block m c t i r hrv k)) ?_)
  refine ((short_at _ _ _ r k).trans (Finset.sum_congr rfl fun j _ => Ideal.mul_congr (Ideal.mul_congr (p4_block m c t i r hrv j).symm ?_) (wsc_block m c t j k).symm)).symm
  refine Eq.trans (conv_block m c t i r hrv j).symm ?_
  rw [tap0_block m c t j, tap1_block m c t j, tap2_block m c t j]

/-- The program's result. -/
theorem result (ρ : Dev nD → PrngReg) : θ_run (defs (F := Ideal)) (onTc (τ := τ) (main (F := Ideal))) ⟨m, fun _ => 0, ρ⟩ (fun r => ∀ c : Dev nD,
      r.2.mem ((c.tc : Thread nD τ).loc main_v9) = Cert.MixOutRefIdeal.Reading.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  refine (θ_run defs _ _).mono (fun r h c => ?_) (run_main m ρ)
  exact ((h c).1 16).trans (final m c)

/-- The program runs to its end with the reference's result of its arguments, which it leaves as they were. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v9) = Cert.MixOutRefIdeal.Reading.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h.1 c, h.2 c⟩) (θ_run_and (result m ρ) (unchanged m ρ))

end Cert.MixOutIdeal.Reading

end
-- ==== Proof.lean ====
/- The twenty-five claims, each from the value theorem of its call. -/
module

public import proofs.«01_k».proof.Defs
public import proofs.«01_k».proof.Proof.Gen.Scan
public import proofs.«01_k».proof.Proof.Gen.Scan.Skeleton
public import proofs.«01_k».proof.Proof.Gen.Scan.Loops
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanRefIdeal
public import proofs.«01_k».proof.Proof.Gen.ScanRefIdeal.Run
public import proofs.«01_k».proof.Proof.ScanFrame
public import proofs.«01_k».proof.Proof.ScanRefRun
public import proofs.«01_k».proof.Proof.ScanFinal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.NormValue
public import proofs.«01_k».proof.Proof.ExpertsValue
public import proofs.«01_k».proof.Proof.InProjValue
public import proofs.«01_k».proof.Proof.MixOutValue
public import proofs.«01_k».proof.Proof.Gen.NormRefIdeal.Run
public import proofs.«01_k».proof.Proof.Gen.ExpertsRefIdeal.Run
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- The idealized scan call computes its reference. -/
theorem algebraic_scan : Cert.algebraic_ScanIdeal_ScanRefIdeal := by
  pair_intro
  · run_from Cert.ScanIdeal.Chunks.run m g
  · refine Cert.ScanRefIdeal.Trips.run_iter m' g' (fun c => Cert.ScanIdeal.Chunks.it m c) (fun c => ?_) (fun _ _ => rfl)
    obtain ⟨h0, h1, h2, h3, h4, h5⟩ := hagree c
    unfold Cert.ScanRefIdeal.Trips.initState
    rw [h0, h1, h2, h3, h4, h5]
    rfl

/-- The idealized experts call computes its reference. -/
theorem algebraic_experts : Cert.algebraic_ExpertsIdeal_ExpertsRefIdeal := by
  pair_intro
  · run_from Cert.ExpertsIdeal.Gen.run_main m g
  · run_from Cert.ExpertsRefIdeal.Reading.run m' g'
    exact (Cert.ExpertsIdeal.Reading.final m c).symm

/-- The idealized input projection computes its reference. -/
theorem algebraic_in_proj : Cert.algebraic_InProjIdeal_InProjRefIdeal := by
  pair_intro
  · run_from Cert.InProjIdeal.Reading.run m g
  · refine (θ_run _ _ _).mono (fun r h c => ?_) (Cert.InProjRefIdeal.Reading.run m' g')
    obtain ⟨h0, h1, h2, h3, h4⟩ := hagree c
    obtain ⟨e0, e1, e⟩ := h c
    rw [h0, h1, h2, h3] at e0
    rw [h0, h1, h2, h3, h4] at e1
    exact ⟨e0, e1, e⟩

/-- The idealized mixer's output computes its reference. -/
theorem algebraic_mix_out : Cert.algebraic_MixOutIdeal_MixOutRefIdeal := by
  pair_intro
  · run_from Cert.MixOutIdeal.Reading.run m g
  · refine (θ_run _ _ _).mono (fun r h c => ?_) (Cert.MixOutRefIdeal.Reading.run m' g')
    obtain ⟨h0, h1, h2, h3, h4, h5, h6, h7, h8, h9, h10⟩ := hagree c
    obtain ⟨e0, e⟩ := h c
    rw [h0, h1, h2, h3, h4, h5, h6, h7, h8, h9, h10] at e0
    exact ⟨e0, e⟩

/-- The idealized final normalisation computes its reference. -/
theorem algebraic_norm : Cert.algebraic_NormIdeal_NormRefIdeal := by
  pair_intro
  · run_from Cert.NormIdeal.Gen.run_main m g
  · run_from Cert.NormRefIdeal.Value.run m' g'
    exact (Cert.NormIdeal.Reading.final m c).symm

/-- The experts reference runs, leaves its arguments and ends with every counter at zero. -/
theorem frame_experts_ref : Cert.quiescent_ExpertsRefIdeal := fun m ρ _ =>
  (θ_run _ _ _).mono (fun r h => ⟨fun c => (h c).2, sem_eq_zero_of_no_sems rfl r.2⟩) (Cert.ExpertsRefIdeal.Value.run m ρ)

/-- The input projection's reference runs, leaves its arguments and ends with every counter at zero. -/
theorem frame_in_proj_ref : Cert.quiescent_InProjRefIdeal := fun m ρ _ =>
  (θ_run _ _ _).mono (fun r h => ⟨fun c => (h c).2.2, sem_eq_zero_of_no_sems rfl r.2⟩) (Cert.InProjRefIdeal.Value.run m ρ)

/-- The mixer's output's reference runs, leaves its arguments and ends with every counter at zero. -/
theorem frame_mix_out_ref : Cert.quiescent_MixOutRefIdeal := fun m ρ _ =>
  (θ_run _ _ _).mono (fun r h => ⟨fun c => (h c).2, sem_eq_zero_of_no_sems rfl r.2⟩) (Cert.MixOutRefIdeal.Value.run m ρ)

/-- The normalisation reference runs, leaves its arguments and ends with every counter at zero. -/
theorem frame_norm_ref : Cert.quiescent_NormRefIdeal := fun m ρ _ =>
  (θ_run _ _ _).mono (fun r h => ⟨fun c => (h c).2, sem_eq_zero_of_no_sems rfl r.2⟩) (Cert.NormRefIdeal.Value.run m ρ)

/-- The scan's reference runs, leaves its arguments and ends with every counter at zero. -/
theorem frame_scan_ref : Cert.quiescent_ScanRefIdeal := fun m ρ _ =>
  (θ_run _ _ _).mono (fun r h => ⟨fun c => (h c).2, sem_eq_zero_of_no_sems rfl r.2⟩) (Cert.ScanRefIdeal.Value.run m ρ)

/-- Every claim of the certificate. -/
theorem claim : Cert.Claim := ⟨Cert.Scan.Gen.facts, Cert.ScanIdeal.Gen.facts, Cert.ScanRefIdeal.Gen.facts,
  Cert.Experts.Gen.facts, Cert.ExpertsIdeal.Gen.facts, Cert.ExpertsRefIdeal.Gen.facts,
  Cert.InProj.Gen.facts, Cert.InProjIdeal.Gen.facts, Cert.InProjRefIdeal.Gen.facts,
  Cert.MixOut.Gen.facts, Cert.MixOutIdeal.Gen.facts, Cert.MixOutRefIdeal.Gen.facts,
  Cert.Norm.Gen.facts, Cert.NormIdeal.Gen.facts, Cert.NormRefIdeal.Gen.facts,
  fun m ρ _ => Cert.Scan.Chunks.frame m ρ, fun m ρ _ => Cert.ScanIdeal.Chunks.frame m ρ, frame_scan_ref,
  fun m ρ _ => Cert.Experts.Gen.frame m ρ, fun m ρ _ => Cert.ExpertsIdeal.Gen.frame m ρ, frame_experts_ref,
  fun m ρ _ => Cert.InProj.Gen.frame m ρ, fun m ρ _ => Cert.InProjIdeal.Gen.frame m ρ, frame_in_proj_ref,
  fun m ρ _ => Cert.MixOut.Gen.frame m ρ, fun m ρ _ => Cert.MixOutIdeal.Gen.frame m ρ, frame_mix_out_ref,
  fun m ρ _ => Cert.Norm.Gen.frame m ρ, fun m ρ _ => Cert.NormIdeal.Gen.frame m ρ, frame_norm_ref,
  trivial, algebraic_scan, trivial, algebraic_experts, trivial, algebraic_in_proj,
  trivial, algebraic_mix_out, trivial, algebraic_norm⟩

end Cert.Proof

end
